-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_scores [hPre_finite_scores : Cert.Pre_finite_scores.Facts] (m : (ℓ : Loc Cert.MlaIdeal.nD Cert.MlaIdeal.τ Cert.MlaIdeal.sig) → Buf (Elt Ideal) ℓ) : Prop :=
  ∀ c : Dev Cert.MlaIdeal.nD,
    (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_scores [hPre_finite_scores : Cert.Pre_finite_scores.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Ab (m : (ℓ : Loc Cert.Ab.nD Cert.Ab.τ Cert.Ab.sig) → Buf (Elt Bits) ℓ) : Prop :=
  True

def Pre_AbIdeal (m : (ℓ : Loc Cert.AbIdeal.nD Cert.AbIdeal.τ Cert.AbIdeal.sig) → Buf (Elt Ideal) ℓ) : Prop :=
  True

def Pre_AbRefIdeal (m : (ℓ : Loc Cert.AbRefIdeal.nD Cert.AbRefIdeal.τ Cert.AbRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ r.2.sem = fun _ => 0)

def quiescent_MlaIdeal_pre_finite_scores [hMlaIdeal : Cert.MlaIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_scores m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6))
      ∧ r.2.sem = fun _ => 0)

def quiescent_MlaRefIdeal_pre_finite_scores [hMlaRefIdeal : Cert.MlaRefIdeal.Facts] [hPre_finite_scores : Cert.Pre_finite_scores.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_scores m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Ab [hAb : Cert.Ab.Facts] : Prop :=
  ∀ (m : (ℓ : Loc Cert.Ab.nD Cert.Ab.τ Cert.Ab.sig) → Buf (Elt Bits) ℓ) (g : Dev Cert.Ab.nD → PrngReg), Pre_Ab m →
    θ_run (Cert.Ab.defs (F := Bits)) (onTc (τ := Cert.Ab.τ) (Cert.Ab.main (F := Bits))) ⟨m, fun _ => 0, g⟩ (fun r => (∀ c : Dev Cert.Ab.nD,
      r.2.mem ((c.tc : Thread Cert.Ab.nD Cert.Ab.τ).loc Cert.Ab.main_arg0) = m ((c.tc : Thread Cert.Ab.nD Cert.Ab.τ).loc Cert.Ab.main_arg0)
      ∧ r.2.mem ((c.tc : Thread Cert.Ab.nD Cert.Ab.τ).loc Cert.Ab.main_arg1) = m ((c.tc : Thread Cert.Ab.nD Cert.Ab.τ).loc Cert.Ab.main_arg1)
      ∧ r.2.mem ((c.tc : Thread Cert.Ab.nD Cert.Ab.τ).loc Cert.Ab.main_arg2) = m ((c.tc : Thread Cert.Ab.nD Cert.Ab.τ).loc Cert.Ab.main_arg2)
      ∧ r.2.mem ((c.tc : Thread Cert.Ab.nD Cert.Ab.τ).loc Cert.Ab.main_arg3) = m ((c.tc : Thread Cert.Ab.nD Cert.Ab.τ).loc Cert.Ab.main_arg3)
      ∧ r.2.mem ((c.tc : Thread Cert.Ab.nD Cert.Ab.τ).loc Cert.Ab.main_arg4) = m ((c.tc : Thread Cert.Ab.nD Cert.Ab.τ).loc Cert.Ab.main_arg4)
      ∧ r.2.mem ((c.tc : Thread Cert.Ab.nD Cert.Ab.τ).loc Cert.Ab.main_arg5) = m ((c.tc : Thread Cert.Ab.nD Cert.Ab.τ).loc Cert.Ab.main_arg5))
      ∧ r.2.sem = fun _ => 0)

def quiescent_AbIdeal [hAbIdeal : Cert.AbIdeal.Facts] : Prop :=
  ∀ (m : (ℓ : Loc Cert.AbIdeal.nD Cert.AbIdeal.τ Cert.AbIdeal.sig) → Buf (Elt Ideal) ℓ) (g : Dev Cert.AbIdeal.nD → PrngReg), Pre_AbIdeal m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
      ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
      ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
      ∧ r.2.mem ((c.tc : Thread Cert.AbIdeal.nD Cert.AbIdeal.τ).loc Cert.AbIdeal.main_arg4) = m ((c.tc : Thread Cert.AbIdeal.nD Cert.AbIdeal.τ).loc Cert.AbIdeal.main_arg4)
      ∧ r.2.mem ((c.tc : Thread Cert.AbIdeal.nD Cert.AbIdeal.τ).loc Cert.AbIdeal.main_arg5) = m ((c.tc : Thread Cert.AbIdeal.nD Cert.AbIdeal.τ).loc Cert.AbIdeal.main_arg5))
      ∧ r.2.sem = fun _ => 0)

def quiescent_AbRefIdeal [hAbRefIdeal : Cert.AbRefIdeal.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1)
      ∧ r.2.mem ((c.tc : Thread Cert.AbRefIdeal.nD Cert.AbRefIdeal.τ).loc Cert.AbRefIdeal.main_arg2) = m ((c.tc : Thread Cert.AbRefIdeal.nD Cert.AbRefIdeal.τ).loc Cert.AbRefIdeal.main_arg2)
      ∧ r.2.mem ((c.tc : Thread Cert.AbRefIdeal.nD Cert.AbRefIdeal.τ).loc Cert.AbRefIdeal.main_arg3) = m ((c.tc : Thread Cert.AbRefIdeal.nD Cert.AbRefIdeal.τ).loc Cert.AbRefIdeal.main_arg3)
      ∧ r.2.mem ((c.tc : Thread Cert.AbRefIdeal.nD Cert.AbRefIdeal.τ).loc Cert.AbRefIdeal.main_arg4) = m ((c.tc : Thread Cert.AbRefIdeal.nD Cert.AbRefIdeal.τ).loc Cert.AbRefIdeal.main_arg4)
      ∧ r.2.mem ((c.tc : Thread Cert.AbRefIdeal.nD Cert.AbRefIdeal.τ).loc Cert.AbRefIdeal.main_arg5) = m ((c.tc : Thread Cert.AbRefIdeal.nD Cert.AbRefIdeal.τ).loc Cert.AbRefIdeal.main_arg5))
      ∧ r.2.sem = fun _ => 0)

def preserves_Mla_MlaIdeal : Prop :=
  True

def algebraic_MlaIdeal_MlaRefIdeal_pre_finite_scores [hMlaIdeal : Cert.MlaIdeal.Facts] [hMlaRefIdeal : Cert.MlaRefIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_scores m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)) →
    ∃ (v0 : (c : Dev Cert.MlaIdeal.nD) → Buf (Elt Ideal) ((c.tc : Thread Cert.MlaIdeal.nD Cert.MlaIdeal.τ).loc Cert.MlaIdeal.main_v95)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v95) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v162) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v25) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Ab_AbIdeal : Prop :=
  True

def algebraic_AbIdeal_AbRefIdeal [hAbIdeal : Cert.AbIdeal.Facts] [hAbRefIdeal : Cert.AbRefIdeal.Facts] : Prop :=
  ∀ (m : (ℓ : Loc Cert.AbIdeal.nD Cert.AbIdeal.τ Cert.AbIdeal.sig) → Buf (Elt Ideal) ℓ) (g : Dev Cert.AbIdeal.nD → PrngReg)
    (m' : (ℓ : Loc Cert.AbRefIdeal.nD Cert.AbRefIdeal.τ Cert.AbRefIdeal.sig) → Buf (Elt Ideal) ℓ) (g' : Dev Cert.AbRefIdeal.nD → PrngReg), Pre_AbIdeal m →
    (∀ c : Dev Cert.AbIdeal.nD,
      m' ((c.tc : Thread Cert.AbRefIdeal.nD Cert.AbRefIdeal.τ).loc Cert.AbRefIdeal.main_arg0) = m ((c.tc : Thread Cert.AbIdeal.nD Cert.AbIdeal.τ).loc Cert.AbIdeal.main_arg0)
      ∧ m' ((c.tc : Thread Cert.AbRefIdeal.nD Cert.AbRefIdeal.τ).loc Cert.AbRefIdeal.main_arg1) = m ((c.tc : Thread Cert.AbIdeal.nD Cert.AbIdeal.τ).loc Cert.AbIdeal.main_arg1)
      ∧ m' ((c.tc : Thread Cert.AbRefIdeal.nD Cert.AbRefIdeal.τ).loc Cert.AbRefIdeal.main_arg2) = m ((c.tc : Thread Cert.AbIdeal.nD Cert.AbIdeal.τ).loc Cert.AbIdeal.main_arg2)
      ∧ m' ((c.tc : Thread Cert.AbRefIdeal.nD Cert.AbRefIdeal.τ).loc Cert.AbRefIdeal.main_arg3) = m ((c.tc : Thread Cert.AbIdeal.nD Cert.AbIdeal.τ).loc Cert.AbIdeal.main_arg3)
      ∧ m' ((c.tc : Thread Cert.AbRefIdeal.nD Cert.AbRefIdeal.τ).loc Cert.AbRefIdeal.main_arg4) = m ((c.tc : Thread Cert.AbIdeal.nD Cert.AbIdeal.τ).loc Cert.AbIdeal.main_arg4)
      ∧ m' ((c.tc : Thread Cert.AbRefIdeal.nD Cert.AbRefIdeal.τ).loc Cert.AbRefIdeal.main_arg5) = m ((c.tc : Thread Cert.AbIdeal.nD Cert.AbIdeal.τ).loc Cert.AbIdeal.main_arg5)) →
    ∃ (v0 : (c : Dev Cert.AbIdeal.nD) → Buf (Elt Ideal) ((c.tc : Thread Cert.AbIdeal.nD Cert.AbIdeal.τ).loc Cert.AbIdeal.main_v61_0)) (v1 : (c : Dev Cert.AbIdeal.nD) → Buf (Elt Ideal) ((c.tc : Thread Cert.AbIdeal.nD Cert.AbIdeal.τ).loc Cert.AbIdeal.main_v61_1)) (v2 : (c : Dev Cert.AbIdeal.nD) → Buf (Elt Ideal) ((c.tc : Thread Cert.AbIdeal.nD Cert.AbIdeal.τ).loc Cert.AbIdeal.main_v61_2)) (v3 : (c : Dev Cert.AbIdeal.nD) → Buf (Elt Ideal) ((c.tc : Thread Cert.AbIdeal.nD Cert.AbIdeal.τ).loc Cert.AbIdeal.main_v61_3)) (v4 : (c : Dev Cert.AbIdeal.nD) → Buf (Elt Ideal) ((c.tc : Thread Cert.AbIdeal.nD Cert.AbIdeal.τ).loc Cert.AbIdeal.main_v61_4)) (v5 : (c : Dev Cert.AbIdeal.nD) → Buf (Elt Ideal) ((c.tc : Thread Cert.AbIdeal.nD Cert.AbIdeal.τ).loc Cert.AbIdeal.main_v61_5)) (v6 : (c : Dev Cert.AbIdeal.nD) → Buf (Elt Ideal) ((c.tc : Thread Cert.AbIdeal.nD Cert.AbIdeal.τ).loc Cert.AbIdeal.main_v61_6)) (v7 : (c : Dev Cert.AbIdeal.nD) → Buf (Elt Ideal) ((c.tc : Thread Cert.AbIdeal.nD Cert.AbIdeal.τ).loc Cert.AbIdeal.main_v61_7)) (v8 : (c : Dev Cert.AbIdeal.nD) → Buf (Elt Ideal) ((c.tc : Thread Cert.AbIdeal.nD Cert.AbIdeal.τ).loc Cert.AbIdeal.main_v61_8)) (v9 : (c : Dev Cert.AbIdeal.nD) → Buf (Elt Ideal) ((c.tc : Thread Cert.AbIdeal.nD Cert.AbIdeal.τ).loc Cert.AbIdeal.main_v61_9)) (v10 : (c : Dev Cert.AbIdeal.nD) → Buf (Elt Ideal) ((c.tc : Thread Cert.AbIdeal.nD Cert.AbIdeal.τ).loc Cert.AbIdeal.main_v61_10)) (v11 : (c : Dev Cert.AbIdeal.nD) → Buf (Elt Ideal) ((c.tc : Thread Cert.AbIdeal.nD Cert.AbIdeal.τ).loc Cert.AbIdeal.main_v61_11)) (v12 : (c : Dev Cert.AbIdeal.nD) → Buf (Elt Ideal) ((c.tc : Thread Cert.AbIdeal.nD Cert.AbIdeal.τ).loc Cert.AbIdeal.main_v61_12)) (v13 : (c : Dev Cert.AbIdeal.nD) → Buf (Elt Ideal) ((c.tc : Thread Cert.AbIdeal.nD Cert.AbIdeal.τ).loc Cert.AbIdeal.main_v61_13)),
      θ_run (Cert.AbIdeal.defs (F := Ideal)) (onTc (τ := Cert.AbIdeal.τ) (Cert.AbIdeal.main (F := Ideal))) ⟨m, fun _ => 0, g⟩ (fun r => ∀ c : Dev Cert.AbIdeal.nD,
          r.2.mem ((c.tc : Thread Cert.AbIdeal.nD Cert.AbIdeal.τ).loc Cert.AbIdeal.main_v61_0) = v0 c
          ∧ r.2.mem ((c.tc : Thread Cert.AbIdeal.nD Cert.AbIdeal.τ).loc Cert.AbIdeal.main_v61_1) = v1 c
          ∧ r.2.mem ((c.tc : Thread Cert.AbIdeal.nD Cert.AbIdeal.τ).loc Cert.AbIdeal.main_v61_2) = v2 c
          ∧ r.2.mem ((c.tc : Thread Cert.AbIdeal.nD Cert.AbIdeal.τ).loc Cert.AbIdeal.main_v61_3) = v3 c
          ∧ r.2.mem ((c.tc : Thread Cert.AbIdeal.nD Cert.AbIdeal.τ).loc Cert.AbIdeal.main_v61_4) = v4 c
          ∧ r.2.mem ((c.tc : Thread Cert.AbIdeal.nD Cert.AbIdeal.τ).loc Cert.AbIdeal.main_v61_5) = v5 c
          ∧ r.2.mem ((c.tc : Thread Cert.AbIdeal.nD Cert.AbIdeal.τ).loc Cert.AbIdeal.main_v61_6) = v6 c
          ∧ r.2.mem ((c.tc : Thread Cert.AbIdeal.nD Cert.AbIdeal.τ).loc Cert.AbIdeal.main_v61_7) = v7 c
          ∧ r.2.mem ((c.tc : Thread Cert.AbIdeal.nD Cert.AbIdeal.τ).loc Cert.AbIdeal.main_v61_8) = v8 c
          ∧ r.2.mem ((c.tc : Thread Cert.AbIdeal.nD Cert.AbIdeal.τ).loc Cert.AbIdeal.main_v61_9) = v9 c
          ∧ r.2.mem ((c.tc : Thread Cert.AbIdeal.nD Cert.AbIdeal.τ).loc Cert.AbIdeal.main_v61_10) = v10 c
          ∧ r.2.mem ((c.tc : Thread Cert.AbIdeal.nD Cert.AbIdeal.τ).loc Cert.AbIdeal.main_v61_11) = v11 c
          ∧ r.2.mem ((c.tc : Thread Cert.AbIdeal.nD Cert.AbIdeal.τ).loc Cert.AbIdeal.main_v61_12) = v12 c
          ∧ r.2.mem ((c.tc : Thread Cert.AbIdeal.nD Cert.AbIdeal.τ).loc Cert.AbIdeal.main_v61_13) = v13 c
          ∧ r.2.mem ((c.tc : Thread Cert.AbIdeal.nD Cert.AbIdeal.τ).loc Cert.AbIdeal.main_arg0) = m ((c.tc : Thread Cert.AbIdeal.nD Cert.AbIdeal.τ).loc Cert.AbIdeal.main_arg0)
          ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
          ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
          ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
          ∧ r.2.mem ((c.tc : Thread Cert.AbIdeal.nD Cert.AbIdeal.τ).loc Cert.AbIdeal.main_arg4) = m ((c.tc : Thread Cert.AbIdeal.nD Cert.AbIdeal.τ).loc Cert.AbIdeal.main_arg4)
          ∧ r.2.mem ((c.tc : Thread Cert.AbIdeal.nD Cert.AbIdeal.τ).loc Cert.AbIdeal.main_arg5) = m ((c.tc : Thread Cert.AbIdeal.nD Cert.AbIdeal.τ).loc Cert.AbIdeal.main_arg5))
      ∧ θ_run (Cert.AbRefIdeal.defs (F := Ideal)) (onTc (τ := Cert.AbRefIdeal.τ) (Cert.AbRefIdeal.main (F := Ideal))) ⟨m', fun _ => 0, g'⟩ (fun r => ∀ c : Dev Cert.AbRefIdeal.nD,
          r.2.mem ((c.tc : Thread Cert.AbRefIdeal.nD Cert.AbRefIdeal.τ).loc Cert.AbRefIdeal.main_v25) = v0 c
          ∧ r.2.mem ((c.tc : Thread Cert.AbRefIdeal.nD Cert.AbRefIdeal.τ).loc Cert.AbRefIdeal.main_v26) = v1 c
          ∧ r.2.mem ((c.tc : Thread Cert.AbRefIdeal.nD Cert.AbRefIdeal.τ).loc Cert.AbRefIdeal.main_v27) = v2 c
          ∧ r.2.mem ((c.tc : Thread Cert.AbRefIdeal.nD Cert.AbRefIdeal.τ).loc Cert.AbRefIdeal.main_v47) = v3 c
          ∧ r.2.mem ((c.tc : Thread Cert.AbRefIdeal.nD Cert.AbRefIdeal.τ).loc Cert.AbRefIdeal.main_v50) = v4 c
          ∧ r.2.mem ((c.tc : Thread Cert.AbRefIdeal.nD Cert.AbRefIdeal.τ).loc Cert.AbRefIdeal.main_v53) = v5 c
          ∧ r.2.mem ((c.tc : Thread Cert.AbRefIdeal.nD Cert.AbRefIdeal.τ).loc Cert.AbRefIdeal.main_v31) = v6 c
          ∧ r.2.mem ((c.tc : Thread Cert.AbRefIdeal.nD Cert.AbRefIdeal.τ).loc Cert.AbRefIdeal.main_v42) = v7 c
          ∧ r.2.mem ((c.tc : Thread Cert.AbRefIdeal.nD Cert.AbRefIdeal.τ).loc Cert.AbRefIdeal.main_v34) = v8 c
          ∧ r.2.mem ((c.tc : Thread Cert.AbRefIdeal.nD Cert.AbRefIdeal.τ).loc Cert.AbRefIdeal.main_v35) = v9 c
          ∧ r.2.mem ((c.tc : Thread Cert.AbRefIdeal.nD Cert.AbRefIdeal.τ).loc Cert.AbRefIdeal.main_v36) = v10 c
          ∧ r.2.mem ((c.tc : Thread Cert.AbRefIdeal.nD Cert.AbRefIdeal.τ).loc Cert.AbRefIdeal.main_v43) = v11 c
          ∧ r.2.mem ((c.tc : Thread Cert.AbRefIdeal.nD Cert.AbRefIdeal.τ).loc Cert.AbRefIdeal.main_v38) = v12 c
          ∧ r.2.mem ((c.tc : Thread Cert.AbRefIdeal.nD Cert.AbRefIdeal.τ).loc Cert.AbRefIdeal.main_v44) = v13 c
          ∧ r.2.mem ((c.tc : Thread Cert.AbRefIdeal.nD Cert.AbRefIdeal.τ).loc Cert.AbRefIdeal.main_arg0) = m' ((c.tc : Thread Cert.AbRefIdeal.nD Cert.AbRefIdeal.τ).loc Cert.AbRefIdeal.main_arg0)
          ∧ r.2.mem ((c.tc : Thread Cert.AbRefIdeal.nD Cert.AbRefIdeal.τ).loc Cert.AbRefIdeal.main_arg1) = m' ((c.tc : Thread Cert.AbRefIdeal.nD Cert.AbRefIdeal.τ).loc Cert.AbRefIdeal.main_arg1)
          ∧ r.2.mem ((c.tc : Thread Cert.AbRefIdeal.nD Cert.AbRefIdeal.τ).loc Cert.AbRefIdeal.main_arg2) = m' ((c.tc : Thread Cert.AbRefIdeal.nD Cert.AbRefIdeal.τ).loc Cert.AbRefIdeal.main_arg2)
          ∧ r.2.mem ((c.tc : Thread Cert.AbRefIdeal.nD Cert.AbRefIdeal.τ).loc Cert.AbRefIdeal.main_arg3) = m' ((c.tc : Thread Cert.AbRefIdeal.nD Cert.AbRefIdeal.τ).loc Cert.AbRefIdeal.main_arg3)
          ∧ r.2.mem ((c.tc : Thread Cert.AbRefIdeal.nD Cert.AbRefIdeal.τ).loc Cert.AbRefIdeal.main_arg4) = m' ((c.tc : Thread Cert.AbRefIdeal.nD Cert.AbRefIdeal.τ).loc Cert.AbRefIdeal.main_arg4)
          ∧ r.2.mem ((c.tc : Thread Cert.AbRefIdeal.nD Cert.AbRefIdeal.τ).loc Cert.AbRefIdeal.main_arg5) = m' ((c.tc : Thread Cert.AbRefIdeal.nD Cert.AbRefIdeal.τ).loc Cert.AbRefIdeal.main_arg5))

def Claim : Prop :=
  ∃ (hMla : Cert.Mla.Facts) (hMlaIdeal : Cert.MlaIdeal.Facts) (hMlaRefIdeal : Cert.MlaRefIdeal.Facts) (hGate : Cert.Gate.Facts) (hGateIdeal : Cert.GateIdeal.Facts) (hGateRefIdeal : Cert.GateRefIdeal.Facts) (hAb : Cert.Ab.Facts) (hAbIdeal : Cert.AbIdeal.Facts) (hAbRefIdeal : Cert.AbRefIdeal.Facts) (hPre_finite_scores : Cert.Pre_finite_scores.Facts),
    quiescent_Mla (hMla := hMla)
    ∧ quiescent_MlaIdeal (hMlaIdeal := hMlaIdeal)
    ∧ quiescent_MlaIdeal_pre_finite_scores (hMlaIdeal := hMlaIdeal) (hPre_finite_scores := hPre_finite_scores)
    ∧ quiescent_MlaRefIdeal (hMlaRefIdeal := hMlaRefIdeal)
    ∧ quiescent_MlaRefIdeal_pre_finite_scores (hMlaRefIdeal := hMlaRefIdeal) (hPre_finite_scores := hPre_finite_scores)
    ∧ quiescent_Gate (hGate := hGate)
    ∧ quiescent_GateIdeal (hGateIdeal := hGateIdeal)
    ∧ quiescent_GateRefIdeal (hGateRefIdeal := hGateRefIdeal)
    ∧ quiescent_Ab (hAb := hAb)
    ∧ quiescent_AbIdeal (hAbIdeal := hAbIdeal)
    ∧ quiescent_AbRefIdeal (hAbRefIdeal := hAbRefIdeal)
    ∧ preserves_Mla_MlaIdeal
    ∧ algebraic_MlaIdeal_MlaRefIdeal_pre_finite_scores (hMlaIdeal := hMlaIdeal) (hMlaRefIdeal := hMlaRefIdeal) (hPre_finite_scores := hPre_finite_scores)
    ∧ preserves_Gate_GateIdeal
    ∧ algebraic_GateIdeal_GateRefIdeal (hGateIdeal := hGateIdeal) (hGateRefIdeal := hGateRefIdeal)
    ∧ preserves_Ab_AbIdeal
    ∧ algebraic_AbIdeal_AbRefIdeal (hAbIdeal := hAbIdeal) (hAbRefIdeal := hAbRefIdeal)
-- ==== Pre_finite_scores.lean ====
abbrev S8x4096x4x96 : Shape := ⟨4, ![8, 4096, 4, 96]⟩
abbrev S8x4096x4x64 : Shape := ⟨4, ![8, 4096, 4, 64]⟩
abbrev S8x4096x32 : Shape := ⟨3, ![8, 4096, 32]⟩
abbrev S8x512x4x64 : Shape := ⟨4, ![8, 512, 4, 64]⟩
abbrev S8x512x32 : Shape := ⟨3, ![8, 512, 32]⟩
abbrev S_ : Shape := ⟨0, ![]⟩

class Facts : Prop where
  bcast_S_S8x4096x4x96 : S_.BroadcastsInDim S8x4096x4x96 (![] : Fin 0 → Fin S8x4096x4x96.rank)
  reducesTo_S8x4096x4x96_S_d0_1_2_3 : S8x4096x4x96.ReducesTo [0, 1, 2, 3] S_
  h_S_ : 0 < S_.numel
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  bcast_S_S8x4096x32 : S_.BroadcastsInDim S8x4096x32 (![] : Fin 0 → Fin S8x4096x32.rank)
  reducesTo_S8x4096x32_S_d0_1_2 : S8x4096x32.ReducesTo [0, 1, 2] S_
  bcast_S_S8x512x4x64 : S_.BroadcastsInDim S8x512x4x64 (![] : Fin 0 → Fin S8x512x4x64.rank)
  reducesTo_S8x512x4x64_S_d0_1_2_3 : S8x512x4x64.ReducesTo [0, 1, 2, 3] S_
  bcast_S_S8x512x32 : S_.BroadcastsInDim S8x512x32 (![] : Fin 0 → Fin S8x512x32.rank)
  reducesTo_S8x512x32_S_d0_1_2 : S8x512x32.ReducesTo [0, 1, 2] S_

variable [Facts]

def fn_part1 {F : FTy → Type} [FloatOps F] (main_arg5 : FVec F S8x512x32 .f32) (main_v14 : IVec S_ 1) (main_v15 : FVec F S8x512x4x64 .f32) (main_cst_5 : FVec F S_ .f32) : IVec S_ 1 :=
  let main_v16 : FVec F S8x512x4x64 .f32 := broadcastInDim S8x512x4x64 ![] bcast_S_S8x512x4x64 main_cst_5
  let main_v17 : IVec S8x512x4x64 1 := cmpf .olt main_v15 main_v16
  let main_c_6 : IVec S_ 1 := constantI S_ 1 1#1
  let main_v18 : IVec S_ 1 := (fun x v => Host.reduce IntOp.andi x v reducesTo_S8x512x4x64_S_d0_1_2_3 h_S_) main_v17 main_c_6
  let main_v19 : IVec S_ 1 := andi main_v14 main_v18
  let main_v20 : FVec F S8x512x32 .f32 := Host.absf main_arg5
  let main_cst_7 : FVec F S_ .f32 := constant S_ .f32 0x7F800000#32
  let main_v21 : FVec F S8x512x32 .f32 := broadcastInDim S8x512x32 ![] bcast_S_S8x512x32 main_cst_7
  let main_v22 : IVec S8x512x32 1 := cmpf .olt main_v20 main_v21
  let main_c_8 : IVec S_ 1 := constantI S_ 1 1#1
  let main_v23 : IVec S_ 1 := (fun x v => Host.reduce IntOp.andi x v reducesTo_S8x512x32_S_d0_1_2 h_S_) main_v22 main_c_8
  let main_v24 : IVec S_ 1 := andi main_v19 main_v23
  main_v24

def fn {F : FTy → Type} [FloatOps F] (main_arg0 : FVec F S8x4096x4x96 .f32) (main_arg1 : FVec F S8x4096x4x64 .f32) (main_arg2 : FVec F S8x4096x32 .f32) (main_arg3 : FVec F S8x4096x4x64 .f32) (main_arg4 : FVec F S8x512x4x64 .f32) (main_arg5 : FVec F S8x512x32 .f32) (main_arg6 : FVec F S8x512x4x64 .f32) : IVec S_ 1 :=
  let main_v0 : FVec F S8x4096x4x96 .f32 := Host.absf main_arg0
  let main_cst : FVec F S_ .f32 := constant S_ .f32 0x7F800000#32
  let main_v1 : FVec F S8x4096x4x96 .f32 := broadcastInDim S8x4096x4x96 ![] bcast_S_S8x4096x4x96 main_cst
  let main_v2 : IVec S8x4096x4x96 1 := cmpf .olt main_v0 main_v1
  let main_c : IVec S_ 1 := constantI S_ 1 1#1
  let main_v3 : IVec S_ 1 := (fun x v => Host.reduce IntOp.andi x v reducesTo_S8x4096x4x96_S_d0_1_2_3 h_S_) main_v2 main_c
  let main_c_0 : IVec S_ 1 := constantI S_ 1 1#1
  let main_v4 : IVec S_ 1 := andi main_c_0 main_v3
  let main_v5 : FVec F S8x4096x4x64 .f32 := Host.absf main_arg1
  let main_cst_1 : FVec F S_ .f32 := constant S_ .f32 0x7F800000#32
  let main_v6 : FVec F S8x4096x4x64 .f32 := broadcastInDim S8x4096x4x64 ![] bcast_S_S8x4096x4x64 main_cst_1
  let main_v7 : IVec S8x4096x4x64 1 := cmpf .olt main_v5 main_v6
  let main_c_2 : IVec S_ 1 := constantI S_ 1 1#1
  let main_v8 : IVec S_ 1 := (fun x v => Host.reduce IntOp.andi x v reducesTo_S8x4096x4x64_S_d0_1_2_3 h_S_) main_v7 main_c_2
  let main_v9 : IVec S_ 1 := andi main_v4 main_v8
  let main_v10 : FVec F S8x4096x32 .f32 := Host.absf main_arg2
  let main_cst_3 : FVec F S_ .f32 := constant S_ .f32 0x7F800000#32
  let main_v11 : FVec F S8x4096x32 .f32 := broadcastInDim S8x4096x32 ![] bcast_S_S8x4096x32 main_cst_3
  let main_v12 : IVec S8x4096x32 1 := cmpf .olt main_v10 main_v11
  let main_c_4 : IVec S_ 1 := constantI S_ 1 1#1
  let main_v13 : IVec S_ 1 := (fun x v => Host.reduce IntOp.andi x v reducesTo_S8x4096x32_S_d0_1_2 h_S_) main_v12 main_c_4
  let main_v14 : IVec S_ 1 := andi main_v9 main_v13
  let main_v15 : FVec F S8x512x4x64 .f32 := Host.absf main_arg4
  let main_cst_5 : FVec F S_ .f32 := constant S_ .f32 0x7F800000#32
  fn_part1 (F := F) main_arg5 main_v14 main_v15 main_cst_5
-- ==== Mla.lean ====
abbrev S8x4096x4x96 : Shape := ⟨4, ![8, 4096, 4, 96]⟩
abbrev S8x4096x4x64 : Shape := ⟨4, ![8, 4096, 4, 64]⟩
abbrev S8x4096x32 : Shape := ⟨3, ![8, 4096, 32]⟩
abbrev S8x512x4x64 : Shape := ⟨4, ![8, 512, 4, 64]⟩
abbrev S8x512x32 : Shape := ⟨3, ![8, 512, 32]⟩
abbrev S32 : Shape := ⟨1, ![32]⟩
abbrev S_ : Shape := ⟨0, ![]⟩
abbrev S8x4096x4x128 : Shape := ⟨4, ![8, 4096, 4, 128]⟩
abbrev S32768x512 : Shape := ⟨2, ![32768, 512]⟩
abbrev S8x4096x128 : Shape := ⟨3, ![8, 4096, 128]⟩
abbrev S32768x128 : Shape := ⟨2, ![32768, 128]⟩
abbrev S32768x256 : Shape := ⟨2, ![32768, 256]⟩
abbrev S256x32768 : Shape := ⟨2, ![256, 32768]⟩
abbrev S8x512x4x128 : Shape := ⟨4, ![8, 512, 4, 128]⟩
abbrev S4096x512 : Shape := ⟨2, ![4096, 512]⟩
abbrev S8x512x128 : Shape := ⟨3, ![8, 512, 128]⟩
abbrev S4096x256 : Shape := ⟨2, ![4096, 256]⟩
abbrev S256x4096 : Shape := ⟨2, ![256, 4096]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x32 : Shape := ⟨2, ![4096, 32]⟩
abbrev S1x32 : Shape := ⟨2, ![1, 32]⟩
abbrev S4096x128 : Shape := ⟨2, ![4096, 128]⟩
abbrev S1x4096x1x128 : Shape := ⟨4, ![1, 4096, 1, 128]⟩
abbrev S1x4096x4x128 : Shape := ⟨4, ![1, 4096, 4, 128]⟩
abbrev S512x512 : Shape := ⟨2, ![512, 512]⟩
abbrev S512x128 : Shape := ⟨2, ![512, 128]⟩
abbrev S256x512 : Shape := ⟨2, ![256, 512]⟩
abbrev S1x512x128 : Shape := ⟨3, ![1, 512, 128]⟩
abbrev S512x256 : Shape := ⟨2, ![512, 256]⟩
abbrev S4x1x512 : Shape := ⟨3, ![4, 1, 512]⟩
abbrev S128x512 : Shape := ⟨2, ![128, 512]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩

abbrev nBuf : Space → Nat
  | .hbm => 223
  | .vmem => 32
  | .smem => 0
  | _ => 0

abbrev hbmTy0_0 (i : Nat) : BufTy := match i % 128 with
  | 0 => ⟨S8x4096x4x96, .f32⟩
  | 1 => ⟨S8x4096x4x64, .f32⟩
  | 2 => ⟨S8x4096x32, .f32⟩
  | 3 => ⟨S8x4096x4x64, .f32⟩
  | 4 => ⟨S8x512x4x64, .f32⟩
  | 5 => ⟨S8x512x32, .f32⟩
  | 6 => ⟨S8x512x4x64, .f32⟩
  | 7 => ⟨S32, .i1⟩
  | 8 => ⟨S32, .i1⟩
  | 9 => ⟨S_, .i32⟩
  | 10 => ⟨S_, .f32⟩
  | 11 => ⟨S8x4096x4x128, .f32⟩
  | 12 => ⟨S32768x512, .f32⟩
  | 13 => ⟨S_, .i32⟩
  | 14 => ⟨S_, .f32⟩
  | 15 => ⟨S8x4096x4x128, .f32⟩
  | 16 => ⟨S32768x512, .f32⟩
  | 17 => ⟨S_, .i32⟩
  | 18 => ⟨S_, .f32⟩
  | 19 => ⟨S8x4096x128, .f32⟩
  | 20 => ⟨S32768x128, .f32⟩
  | 21 => ⟨S32768x256, .f32⟩
  | 22 => ⟨S256x32768, .f32⟩
  | 23 => ⟨S_, .i32⟩
  | 24 => ⟨S_, .f32⟩
  | 25 => ⟨S8x512x4x128, .f32⟩
  | 26 => ⟨S4096x512, .f32⟩
  | 27 => ⟨S_, .i32⟩
  | 28 => ⟨S_, .f32⟩
  | 29 => ⟨S8x512x128, .f32⟩
  | 30 => ⟨S4096x256, .f32⟩
  | 31 => ⟨S256x4096, .f32⟩
  | 32 => ⟨S4096, .i32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S_, .i32⟩
  | 42 => ⟨S_, .i32⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S4096, .i32⟩
  | 50 => ⟨S4096, .i32⟩
  | 51 => ⟨S_, .i32⟩
  | 52 => ⟨S4096, .i32⟩
  | 53 => ⟨S4096, .i1⟩
  | 54 => ⟨S4096, .i1⟩
  | 55 => ⟨S_, .i32⟩
  | 56 => ⟨S4096, .i32⟩
  | 57 => ⟨S4096, .i32⟩
  | 58 => ⟨S4096, .i32⟩
  | 59 => ⟨S4096, .f32⟩
  | 60 => ⟨S4096x1, .f32⟩
  | 61 => ⟨S1x8, .f32⟩
  | 62 => ⟨S4096x8, .f32⟩
  | 63 => ⟨S4096x8, .f32⟩
  | 64 => ⟨S4096x8, .f32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S4096, .i32⟩
  | 72 => ⟨S4096, .i32⟩
  | 73 => ⟨S_, .i32⟩
  | 74 => ⟨S4096, .i32⟩
  | 75 => ⟨S4096, .i1⟩
  | 76 => ⟨S_, .i32⟩
  | 77 => ⟨S4096, .i32⟩
  | 78 => ⟨S4096, .i1⟩
  | 79 => ⟨S_, .i32⟩
  | 80 => ⟨S_, .i1⟩
  | 81 => ⟨S4096, .i1⟩
  | 82 => ⟨S4096, .i1⟩
  | 83 => ⟨S4096, .i1⟩
  | 84 => ⟨S4096, .i32⟩
  | 85 => ⟨S4096, .i32⟩
  | 86 => ⟨S4096, .i32⟩
  | 87 => ⟨S4096, .f32⟩
  | 88 => ⟨S4096x1, .f32⟩
  | 89 => ⟨S1x8, .f32⟩
  | 90 => ⟨S4096x8, .f32⟩
  | 91 => ⟨S4096x8, .f32⟩
  | 92 => ⟨S4096x8, .f32⟩
  | 93 => ⟨S4096x32, .f32⟩
  | 94 => ⟨S4096x32, .f32⟩
  | 95 => ⟨S4096x32, .f32⟩
  | 96 => ⟨S1x32, .i1⟩
  | 97 => ⟨S4096x32, .f32⟩
  | 98 => ⟨S_, .f32⟩
  | 99 => ⟨S_, .f32⟩
  | 100 => ⟨S4096x32, .i1⟩
  | 101 => ⟨S4096x32, .f32⟩
  | 102 => ⟨S4096x32, .f32⟩
  | 103 => ⟨S1x32, .i1⟩
  | 104 => ⟨S_, .f32⟩
  | 105 => ⟨S_, .f32⟩
  | 106 => ⟨S4096x32, .i1⟩
  | 107 => ⟨S4096x32, .f32⟩
  | 108 => ⟨S4096x32, .f32⟩
  | 109 => ⟨S_, .f32⟩
  | 110 => ⟨S_, .f32⟩
  | 111 => ⟨S4096x128, .f32⟩
  | 112 => ⟨S1x4096x1x128, .f32⟩
  | 113 => ⟨S1x4096x4x128, .f32⟩
  | 114 => ⟨S4096x512, .f32⟩
  | 115 => ⟨S_, .f32⟩
  | 116 => ⟨S_, .f32⟩
  | 117 => ⟨S4096x128, .f32⟩
  | 118 => ⟨S1x4096x1x128, .f32⟩
  | 119 => ⟨S1x4096x4x128, .f32⟩
  | 120 => ⟨S4096x512, .f32⟩
  | 121 => ⟨S_, .f32⟩
  | 122 => ⟨S_, .f32⟩
  | 123 => ⟨S4096x128, .f32⟩
  | 124 => ⟨S1x4096x1x128, .f32⟩
  | 125 => ⟨S1x4096x4x128, .f32⟩
  | 126 => ⟨S4096x512, .f32⟩
  | 127 => ⟨S4096, .i32⟩
  | _ => ⟨S8x4096x4x96, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S4096, .f32⟩
  | 27 => ⟨S4096x1, .f32⟩
  | 28 => ⟨S1x8, .f32⟩
  | 29 => ⟨S4096x8, .f32⟩
  | 30 => ⟨S4096x8, .f32⟩
  | 31 => ⟨S4096x8, .f32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i1⟩
  | 43 => ⟨S_, .i32⟩
  | 44 => ⟨S4096, .i32⟩
  | 45 => ⟨S4096, .i1⟩
  | 46 => ⟨S_, .i32⟩
  | 47 => ⟨S_, .i1⟩
  | 48 => ⟨S4096, .i1⟩
  | 49 => ⟨S4096, .i1⟩
  | 50 => ⟨S4096, .i1⟩
  | 51 => ⟨S4096, .i32⟩
  | 52 => ⟨S4096, .i32⟩
  | 53 => ⟨S4096, .i32⟩
  | 54 => ⟨S4096, .f32⟩
  | 55 => ⟨S4096x1, .f32⟩
  | 56 => ⟨S1x8, .f32⟩
  | 57 => ⟨S4096x8, .f32⟩
  | 58 => ⟨S4096x8, .f32⟩
  | 59 => ⟨S4096x8, .f32⟩
  | 60 => ⟨S4096x32, .f32⟩
  | 61 => ⟨S4096x32, .f32⟩
  | 62 => ⟨S4096x32, .f32⟩
  | 63 => ⟨S1x32, .i1⟩
  | 64 => ⟨S4096x32, .f32⟩
  | 65 => ⟨S_, .f32⟩
  | 66 => ⟨S_, .f32⟩
  | 67 => ⟨S4096x32, .i1⟩
  | 68 => ⟨S4096x32, .f32⟩
  | 69 => ⟨S4096x32, .f32⟩
  | 70 => ⟨S1x32, .i1⟩
  | 71 => ⟨S_, .f32⟩
  | 72 => ⟨S_, .f32⟩
  | 73 => ⟨S4096x32, .i1⟩
  | 74 => ⟨S4096x32, .f32⟩
  | 75 => ⟨S4096x32, .f32⟩
  | 76 => ⟨S_, .f32⟩
  | 77 => ⟨S_, .f32⟩
  | 78 => ⟨S4096x128, .f32⟩
  | 79 => ⟨S1x4096x1x128, .f32⟩
  | 80 => ⟨S1x4096x1x128, .f32⟩
  | 81 => ⟨S4096x128, .f32⟩
  | 82 => ⟨S_, .f32⟩
  | 83 => ⟨S_, .f32⟩
  | 84 => ⟨S4096x128, .f32⟩
  | 85 => ⟨S1x4096x1x128, .f32⟩
  | 86 => ⟨S1x4096x1x128, .f32⟩
  | 87 => ⟨S4096x128, .f32⟩
  | 88 => ⟨S_, .f32⟩
  | 89 => ⟨S_, .f32⟩
  | 90 => ⟨S4096x128, .f32⟩
  | 91 => ⟨S1x4096x1x128, .f32⟩
  | 92 => ⟨S1x4096x1x128, .f32⟩
  | 93 => ⟨S4096x128, .f32⟩
  | 94 => ⟨S32768x256, .f32⟩
  | _ => ⟨S8x4096x4x96, .f32⟩

abbrev hbmTy (i : Nat) : BufTy := match i / 128 with
  | 0 => hbmTy0_0 i
  | 1 => hbmTy0_1 i
  | _ => ⟨S8x4096x4x96, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S256x512, .f32⟩
  | .local _ .vmem, ⟨7, _⟩ => ⟨S256x512, .f32⟩
  | .local _ .vmem, ⟨8, _⟩ => ⟨S512x512, .f32⟩
  | .local _ .vmem, ⟨9, _⟩ => ⟨S512x512, .f32⟩
  | .local _ .vmem, ⟨10, _⟩ => ⟨S1x512x128, .f32⟩
  | .local _ .vmem, ⟨11, _⟩ => ⟨S1x512x128, .f32⟩
  | .local _ .vmem, ⟨12, _⟩ => ⟨S256x512, .f32⟩
  | .local _ .vmem, ⟨13, _⟩ => ⟨S256x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x256, .f32⟩
  | .local _ .vmem, ⟨27, _⟩ => ⟨S512x256, .f32⟩
  | .local _ .vmem, ⟨28, _⟩ => ⟨S512x512, .bf16⟩
  | .local _ .vmem, ⟨29, _⟩ => ⟨S4x1x512, .f32⟩
  | .local _ .vmem, ⟨30, _⟩ => ⟨S4x1x512, .f32⟩
  | .local _ .vmem, ⟨31, _⟩ => ⟨S256x512, .f32⟩
  | _, _ => ⟨S8x4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_2 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_c_3 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_4 : Ref sig .tc := ⟨.hbm, 23, rfl⟩
abbrev main_call3_v0 : Ref sig .tc := ⟨.hbm, 24, rfl⟩
abbrev main_v8 : Ref sig .tc := ⟨.hbm, 25, rfl⟩
abbrev main_v9 : Ref sig .tc := ⟨.hbm, 26, rfl⟩
abbrev main_c_5 : Ref sig .tc := ⟨.hbm, 27, rfl⟩
abbrev main_call4_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_call5_v3 : Ref sig .tc := ⟨.hbm, 45, rfl⟩
abbrev main_call5_v4 : Ref sig .tc := ⟨.hbm, 46, rfl⟩
abbrev main_call5_v5 : Ref sig .tc := ⟨.hbm, 47, rfl⟩
abbrev main_call5_v6 : Ref sig .tc := ⟨.hbm, 48, rfl⟩
abbrev main_call5_v7 : Ref sig .tc := ⟨.hbm, 49, rfl⟩
abbrev main_call5_v8 : Ref sig .tc := ⟨.hbm, 50, rfl⟩
abbrev main_call5_c : Ref sig .tc := ⟨.hbm, 51, rfl⟩
abbrev main_call5_v9 : Ref sig .tc := ⟨.hbm, 52, rfl⟩
abbrev main_call5_v10 : Ref sig .tc := ⟨.hbm, 53, rfl⟩
abbrev main_call5_v11 : Ref sig .tc := ⟨.hbm, 54, rfl⟩
abbrev main_call5_c_0 : Ref sig .tc := ⟨.hbm, 55, rfl⟩
abbrev main_call5_v12 : Ref sig .tc := ⟨.hbm, 56, rfl⟩
abbrev main_call5_v13 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c_8 : Ref sig .tc := ⟨.hbm, 65, rfl⟩
abbrev main_call6_v0 : Ref sig .tc := ⟨.hbm, 66, rfl⟩
abbrev main_call6_c : Ref sig .tc := ⟨.hbm, 67, rfl⟩
abbrev main_call6_v1 : Ref sig .tc := ⟨.hbm, 68, rfl⟩
abbrev main_call6_c_0 : Ref sig .tc := ⟨.hbm, 69, rfl⟩
abbrev main_call6_v2 : Ref sig .tc := ⟨.hbm, 70, rfl⟩
abbrev main_call6_v3 : Ref sig .tc := ⟨.hbm, 71, rfl⟩
abbrev main_call6_v4 : Ref sig .tc := ⟨.hbm, 72, rfl⟩
abbrev main_call6_c_1 : Ref sig .tc := ⟨.hbm, 73, rfl⟩
abbrev main_call6_v5 : Ref sig .tc := ⟨.hbm, 74, rfl⟩
abbrev main_call6_v6 : Ref sig .tc := ⟨.hbm, 75, rfl⟩
abbrev main_call6_c_2 : Ref sig .tc := ⟨.hbm, 76, rfl⟩
abbrev main_call6_v7 : Ref sig .tc := ⟨.hbm, 77, rfl⟩
abbrev main_call6_v8 : Ref sig .tc := ⟨.hbm, 78, rfl⟩
abbrev main_call6_c_3 : Ref sig .tc := ⟨.hbm, 79, rfl⟩
abbrev main_call6_v9 : Ref sig .tc := ⟨.hbm, 80, rfl⟩
abbrev main_call6_v10 : Ref sig .tc := ⟨.hbm, 81, rfl⟩
abbrev main_call6_v11 : Ref sig .tc := ⟨.hbm, 82, rfl⟩
abbrev main_call6_v12 : Ref sig .tc := ⟨.hbm, 83, rfl⟩
abbrev main_call6_v13 : Ref sig .tc := ⟨.hbm, 84, rfl⟩
abbrev main_call6_v14 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_9 : Ref sig .tc := ⟨.hbm, 98, rfl⟩
abbrev main_call7_v0 : Ref sig .tc := ⟨.hbm, 99, rfl⟩
abbrev main_call7_v1 : Ref sig .tc := ⟨.hbm, 100, rfl⟩
abbrev main_call7_v2 : Ref sig .tc := ⟨.hbm, 101, rfl⟩
abbrev main_v39 : Ref sig .tc := ⟨.hbm, 102, rfl⟩
abbrev main_v40 : Ref sig .tc := ⟨.hbm, 103, rfl⟩
abbrev main_cst_10 : Ref sig .tc := ⟨.hbm, 104, rfl⟩
abbrev main_call8_v0 : Ref sig .tc := ⟨.hbm, 105, rfl⟩
abbrev main_call8_v1 : Ref sig .tc := ⟨.hbm, 106, rfl⟩
abbrev main_call8_v2 : Ref sig .tc := ⟨.hbm, 107, rfl⟩
abbrev main_v41 : Ref sig .tc := ⟨.hbm, 108, rfl⟩
abbrev main_cst_11 : Ref sig .tc := ⟨.hbm, 109, rfl⟩
abbrev main_call9_v0 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_12 : Ref sig .tc := ⟨.hbm, 115, rfl⟩
abbrev main_call10_v0 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_cst_13 : Ref sig .tc := ⟨.hbm, 121, rfl⟩
abbrev main_call11_v0 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_cst_14 : Ref sig .tc := ⟨.hbm, 130, rfl⟩
abbrev main_v57 : Ref sig .tc := ⟨.hbm, 131, rfl⟩
abbrev main_v58 : Ref sig .tc := ⟨.hbm, 132, rfl⟩
abbrev main_cst_15 : Ref sig .tc := ⟨.hbm, 133, rfl⟩
abbrev main_v59 : Ref sig .tc := ⟨.hbm, 134, rfl⟩
abbrev main_v60 : Ref sig .tc := ⟨.hbm, 135, rfl⟩
abbrev main_c_16 : Ref sig .tc := ⟨.hbm, 136, rfl⟩
abbrev main_call12_v0 : Ref sig .tc := ⟨.hbm, 137, rfl⟩
abbrev main_call12_v1 : Ref sig .tc := ⟨.hbm, 138, rfl⟩
abbrev main_call12_v2 : Ref sig .tc := ⟨.hbm, 139, rfl⟩
abbrev main_call12_v3 : Ref sig .tc := ⟨.hbm, 140, rfl⟩
abbrev main_call12_v4 : Ref sig .tc := ⟨.hbm, 141, rfl⟩
abbrev main_call12_v5 : Ref sig .tc := ⟨.hbm, 142, rfl⟩
abbrev main_call12_v6 : Ref sig .tc := ⟨.hbm, 143, rfl⟩
abbrev main_call12_v7 : Ref sig .tc := ⟨.hbm, 144, rfl⟩
abbrev main_call12_v8 : Ref sig .tc := ⟨.hbm, 145, rfl⟩
abbrev main_call12_c : Ref sig .tc := ⟨.hbm, 146, rfl⟩
abbrev main_call12_v9 : Ref sig .tc := ⟨.hbm, 147, rfl⟩
abbrev main_call12_v10 : Ref sig .tc := ⟨.hbm, 148, rfl⟩
abbrev main_call12_v11 : Ref sig .tc := ⟨.hbm, 149, rfl⟩
abbrev main_call12_c_0 : Ref sig .tc := ⟨.hbm, 150, rfl⟩
abbrev main_call12_v12 : Ref sig .tc := ⟨.hbm, 151, rfl⟩
abbrev main_call12_v13 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_c_17 : Ref sig .tc := ⟨.hbm, 160, rfl⟩
abbrev main_call13_v0 : Ref sig .tc := ⟨.hbm, 161, rfl⟩
abbrev main_call13_c : Ref sig .tc := ⟨.hbm, 162, rfl⟩
abbrev main_call13_v1 : Ref sig .tc := ⟨.hbm, 163, rfl⟩
abbrev main_call13_c_0 : Ref sig .tc := ⟨.hbm, 164, rfl⟩
abbrev main_call13_v2 : Ref sig .tc := ⟨.hbm, 165, rfl⟩
abbrev main_call13_v3 : Ref sig .tc := ⟨.hbm, 166, rfl⟩
abbrev main_call13_v4 : Ref sig .tc := ⟨.hbm, 167, rfl⟩
abbrev main_call13_c_1 : Ref sig .tc := ⟨.hbm, 168, rfl⟩
abbrev main_call13_v5 : Ref sig .tc := ⟨.hbm, 169, rfl⟩
abbrev main_call13_v6 : Ref sig .tc := ⟨.hbm, 170, rfl⟩
abbrev main_call13_c_2 : Ref sig .tc := ⟨.hbm, 171, rfl⟩
abbrev main_call13_v7 : Ref sig .tc := ⟨.hbm, 172, rfl⟩
abbrev main_call13_v8 : Ref sig .tc := ⟨.hbm, 173, rfl⟩
abbrev main_call13_c_3 : Ref sig .tc := ⟨.hbm, 174, rfl⟩
abbrev main_call13_v9 : Ref sig .tc := ⟨.hbm, 175, rfl⟩
abbrev main_call13_v10 : Ref sig .tc := ⟨.hbm, 176, rfl⟩
abbrev main_call13_v11 : Ref sig .tc := ⟨.hbm, 177, rfl⟩
abbrev main_call13_v12 : Ref sig .tc := ⟨.hbm, 178, rfl⟩
abbrev main_call13_v13 : Ref sig .tc := ⟨.hbm, 179, rfl⟩
abbrev main_call13_v14 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_cst_18 : Ref sig .tc := ⟨.hbm, 193, rfl⟩
abbrev main_call14_v0 : Ref sig .tc := ⟨.hbm, 194, rfl⟩
abbrev main_call14_v1 : Ref sig .tc := ⟨.hbm, 195, rfl⟩
abbrev main_call14_v2 : Ref sig .tc := ⟨.hbm, 196, rfl⟩
abbrev main_v80 : Ref sig .tc := ⟨.hbm, 197, rfl⟩
abbrev main_v81 : Ref sig .tc := ⟨.hbm, 198, rfl⟩
abbrev main_cst_19 : Ref sig .tc := ⟨.hbm, 199, rfl⟩
abbrev main_call15_v0 : Ref sig .tc := ⟨.hbm, 200, rfl⟩
abbrev main_call15_v1 : Ref sig .tc := ⟨.hbm, 201, rfl⟩
abbrev main_call15_v2 : Ref sig .tc := ⟨.hbm, 202, rfl⟩
abbrev main_v82 : Ref sig .tc := ⟨.hbm, 203, rfl⟩
abbrev main_cst_20 : Ref sig .tc := ⟨.hbm, 204, rfl⟩
abbrev main_call16_v0 : Ref sig .tc := ⟨.hbm, 205, rfl⟩
abbrev main_v83 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_cst_21 : Ref sig .tc := ⟨.hbm, 210, rfl⟩
abbrev main_call17_v0 : Ref sig .tc := ⟨.hbm, 211, rfl⟩
abbrev main_v87 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_cst_22 : Ref sig .tc := ⟨.hbm, 216, rfl⟩
abbrev main_call18_v0 : Ref sig .tc := ⟨.hbm, 217, rfl⟩
abbrev main_v91 : Ref sig .tc := ⟨.hbm, 218, rfl⟩
abbrev main_v92 : Ref sig .tc := ⟨.hbm, 219, rfl⟩
abbrev main_v93 : Ref sig .tc := ⟨.hbm, 220, rfl⟩
abbrev main_v94 : Ref sig .tc := ⟨.hbm, 221, rfl⟩
abbrev main_v95 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![8, 8, 9], ![false, false, false]⟩

def k0_cond3 (i : grid0.Coords) : BitVec 1 :=
  let arg2 : BitVec 32 := BitVec.ofNat 32 (i 2).val
  let c8_i32_2 : BitVec 32 := 8#32
  let v6 : BitVec 1 := Scalar.cmpi .eq arg2 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== MlaRefIdeal.lean ====
abbrev S8x4096x4x96 : Shape := ⟨4, ![8, 4096, 4, 96]⟩
abbrev S8x4096x4x64 : Shape := ⟨4, ![8, 4096, 4, 64]⟩
abbrev S8x4096x32 : Shape := ⟨3, ![8, 4096, 32]⟩
abbrev S8x512x4x64 : Shape := ⟨4, ![8, 512, 4, 64]⟩
abbrev S8x512x32 : Shape := ⟨3, ![8, 512, 32]⟩
abbrev S4096 : Shape := ⟨1, ![4096]⟩
abbrev S_ : Shape := ⟨0, ![]⟩
abbrev S8x4096x4x32 : Shape := ⟨4, ![8, 4096, 4, 32]⟩
abbrev S8x4096x4x16 : Shape := ⟨4, ![8, 4096, 4, 16]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S8x4096x4x8 : Shape := ⟨4, ![8, 4096, 4, 8]⟩
abbrev S1x4096x1x8 : Shape := ⟨4, ![1, 4096, 1, 8]⟩
abbrev S8x4096x16 : Shape := ⟨3, ![8, 4096, 16]⟩
abbrev S8x4096x8 : Shape := ⟨3, ![8, 4096, 8]⟩
abbrev S1x4096x8 : Shape := ⟨3, ![1, 4096, 8]⟩
abbrev S8x4096x1x32 : Shape := ⟨4, ![8, 4096, 1, 32]⟩
abbrev S8x512x1x32 : Shape := ⟨4, ![8, 512, 1, 32]⟩
abbrev S8x512x4x32 : Shape := ⟨4, ![8, 512, 4, 32]⟩
abbrev S8x512x4x96 : Shape := ⟨4, ![8, 512, 4, 96]⟩
abbrev S8x4608x4x96 : Shape := ⟨4, ![8, 4608, 4, 96]⟩
abbrev S8x4608x4x64 : Shape := ⟨4, ![8, 4608, 4, 64]⟩
abbrev S8x4x4096x4608 : Shape := ⟨4, ![8, 4, 4096, 4608]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768x256 : Shape := ⟨2, ![32768, 256]⟩

abbrev nBuf : Space → Nat
  | .hbm => 220
  | .vmem => 0
  | .smem => 0
  | _ => 0

abbrev hbmTy0_0 (i : Nat) : BufTy := match i % 128 with
  | 0 => ⟨S8x4096x4x96, .f32⟩
  | 1 => ⟨S8x4096x4x64, .f32⟩
  | 2 => ⟨S8x4096x32, .f32⟩
  | 3 => ⟨S8x4096x4x64, .f32⟩
  | 4 => ⟨S8x512x4x64, .f32⟩
  | 5 => ⟨S8x512x32, .f32⟩
  | 6 => ⟨S8x512x4x64, .f32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i1⟩
  | 40 => ⟨S_, .i32⟩
  | 41 => ⟨S_, .i1⟩
  | 42 => ⟨S4096, .i1⟩
  | 43 => ⟨S4096, .i1⟩
  | 44 => ⟨S4096, .i1⟩
  | 45 => ⟨S4096, .i32⟩
  | 46 => ⟨S4096, .i32⟩
  | 47 => ⟨S4096, .i32⟩
  | 48 => ⟨S8x4096x4x64, .f32⟩
  | 49 => ⟨S8x4096x4x32, .f32⟩
  | 50 => ⟨S8x4096x4x16, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4096, .f32⟩
  | 60 => ⟨S4096x1, .f32⟩
  | 61 => ⟨S1x8, .f32⟩
  | 62 => ⟨S4096x8, .f32⟩
  | 63 => ⟨S4096x8, .f32⟩
  | 64 => ⟨S4096x8, .f32⟩
  | 65 => ⟨S4096x1x8, .f32⟩
  | 66 => ⟨S4096x1x8, .f32⟩
  | 67 => ⟨S4096x1x8, .f32⟩
  | 68 => ⟨S8x4096x4x8, .f32⟩
  | 69 => ⟨S8x4096x4x8, .f32⟩
  | 70 => ⟨S1x4096x1x8, .f32⟩
  | 71 => ⟨S8x4096x4x8, .f32⟩
  | 72 => ⟨S8x4096x4x8, .f32⟩
  | 73 => ⟨S1x4096x1x8, .f32⟩
  | 74 => ⟨S8x4096x4x8, .f32⟩
  | 75 => ⟨S8x4096x4x8, .f32⟩
  | 76 => ⟨S8x4096x4x8, .f32⟩
  | 77 => ⟨S1x4096x1x8, .f32⟩
  | 78 => ⟨S8x4096x4x8, .f32⟩
  | 79 => ⟨S8x4096x4x8, .f32⟩
  | 80 => ⟨S1x4096x1x8, .f32⟩
  | 81 => ⟨S8x4096x4x8, .f32⟩
  | 82 => ⟨S8x4096x4x8, .f32⟩
  | 83 => ⟨S8x4096x4x8, .f32⟩
  | 84 => ⟨S8x4096x4x16, .f32⟩
  | 85 => ⟨S8x4096x4x16, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S4096, .f32⟩
  | 95 => ⟨S4096x1, .f32⟩
  | 96 => ⟨S1x8, .f32⟩
  | 97 => ⟨S4096x8, .f32⟩
  | 98 => ⟨S4096x8, .f32⟩
  | 99 => ⟨S4096x8, .f32⟩
  | 100 => ⟨S4096x1x8, .f32⟩
  | 101 => ⟨S4096x1x8, .f32⟩
  | 102 => ⟨S4096x1x8, .f32⟩
  | 103 => ⟨S8x4096x4x8, .f32⟩
  | 104 => ⟨S8x4096x4x8, .f32⟩
  | 105 => ⟨S1x4096x1x8, .f32⟩
  | 106 => ⟨S8x4096x4x8, .f32⟩
  | 107 => ⟨S8x4096x4x8, .f32⟩
  | 108 => ⟨S1x4096x1x8, .f32⟩
  | 109 => ⟨S8x4096x4x8, .f32⟩
  | 110 => ⟨S8x4096x4x8, .f32⟩
  | 111 => ⟨S8x4096x4x8, .f32⟩
  | 112 => ⟨S1x4096x1x8, .f32⟩
  | 113 => ⟨S8x4096x4x8, .f32⟩
  | 114 => ⟨S8x4096x4x8, .f32⟩
  | 115 => ⟨S1x4096x1x8, .f32⟩
  | 116 => ⟨S8x4096x4x8, .f32⟩
  | 117 => ⟨S8x4096x4x8, .f32⟩
  | 118 => ⟨S8x4096x4x8, .f32⟩
  | 119 => ⟨S8x4096x4x16, .f32⟩
  | 120 => ⟨S8x4096x4x32, .f32⟩
  | 121 => ⟨S8x4096x4x96, .f32⟩
  | 122 => ⟨S8x4096x16, .f32⟩
  | 123 => ⟨S8, .f32⟩
  | 124 => ⟨S8, .f32⟩
  | 125 => ⟨S_, .f32⟩
  | 126 => ⟨S8, .f32⟩
  | 127 => ⟨S8, .f32⟩
  | _ => ⟨S8x4096x4x96, .f32⟩

abbrev hbmTy0_1 (i : Nat) : BufTy := match i % 128 with
  | 0 => ⟨S_, .f32⟩
  | 1 => ⟨S8, .f32⟩
  | 2 => ⟨S8, .f32⟩
  | 3 => ⟨S4096, .f32⟩
  | 4 => ⟨S4096x1, .f32⟩
  | 5 => ⟨S1x8, .f32⟩
  | 6 => ⟨S4096x8, .f32⟩
  | 7 => ⟨S4096x8, .f32⟩
  | 8 => ⟨S4096x8, .f32⟩
  | 9 => ⟨S4096x8, .f32⟩
  | 10 => ⟨S4096x8, .f32⟩
  | 11 => ⟨S8x4096x8, .f32⟩
  | 12 => ⟨S8x4096x8, .f32⟩
  | 13 => ⟨S1x4096x8, .f32⟩
  | 14 => ⟨S8x4096x8, .f32⟩
  | 15 => ⟨S8x4096x8, .f32⟩
  | 16 => ⟨S1x4096x8, .f32⟩
  | 17 => ⟨S8x4096x8, .f32⟩
  | 18 => ⟨S8x4096x8, .f32⟩
  | 19 => ⟨S8x4096x8, .f32⟩
  | 20 => ⟨S1x4096x8, .f32⟩
  | 21 => ⟨S8x4096x8, .f32⟩
  | 22 => ⟨S8x4096x8, .f32⟩
  | 23 => ⟨S1x4096x8, .f32⟩
  | 24 => ⟨S8x4096x8, .f32⟩
  | 25 => ⟨S8x4096x8, .f32⟩
  | 26 => ⟨S8x4096x8, .f32⟩
  | 27 => ⟨S8x4096x16, .f32⟩
  | 28 => ⟨S8x4096x16, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S4096, .f32⟩
  | 38 => ⟨S4096x1, .f32⟩
  | 39 => ⟨S1x8, .f32⟩
  | 40 => ⟨S4096x8, .f32⟩
  | 41 => ⟨S4096x8, .f32⟩
  | 42 => ⟨S4096x8, .f32⟩
  | 43 => ⟨S4096x8, .f32⟩
  | 44 => ⟨S4096x8, .f32⟩
  | 45 => ⟨S8x4096x8, .f32⟩
  | 46 => ⟨S8x4096x8, .f32⟩
  | 47 => ⟨S1x4096x8, .f32⟩
  | 48 => ⟨S8x4096x8, .f32⟩
  | 49 => ⟨S8x4096x8, .f32⟩
  | 50 => ⟨S1x4096x8, .f32⟩
  | 51 => ⟨S8x4096x8, .f32⟩
  | 52 => ⟨S8x4096x8, .f32⟩
  | 53 => ⟨S8x4096x8, .f32⟩
  | 54 => ⟨S1x4096x8, .f32⟩
  | 55 => ⟨S8x4096x8, .f32⟩
  | 56 => ⟨S8x4096x8, .f32⟩
  | 57 => ⟨S1x4096x8, .f32⟩
  | 58 => ⟨S8x4096x8, .f32⟩
  | 59 => ⟨S8x4096x8, .f32⟩
  | 60 => ⟨S8x4096x8, .f32⟩
  | 61 => ⟨S8x4096x16, .f32⟩
  | 62 => ⟨S8x4096x32, .f32⟩
  | 63 => ⟨S8x4096x1x32, .f32⟩
  | 64 => ⟨S8x4096x4x32, .f32⟩
  | 65 => ⟨S8x4096x4x96, .f32⟩
  | 66 => ⟨S8x512x1x32, .f32⟩
  | 67 => ⟨S8x512x4x32, .f32⟩
  | 68 => ⟨S8x512x4x96, .f32⟩
  | 69 => ⟨S8x4608x4x96, .f32⟩
  | 70 => ⟨S8x4608x4x64, .f32⟩
  | 71 => ⟨S8x4x4096x4608, .f32⟩
  | 72 => ⟨S_, .f32⟩
  | 73 => ⟨S8x4x4096x4608, .f32⟩
  | 74 => ⟨S8x4x4096x4608, .f32⟩
  | 75 => ⟨S_, .f32⟩
  | 76 => ⟨S8x4x4096, .f32⟩
  | 77 => ⟨S_, .f32⟩
  | 78 => ⟨S8x4x4096, .f32⟩
  | 79 => ⟨S8x4x4096, .f32⟩
  | 80 => ⟨S8x4x4096x1, .f32⟩
  | 81 => ⟨S8x4x4096x4608, .f32⟩
  | 82 => ⟨S8x4x4096x4608, .f32⟩
  | 83 => ⟨S8x4x4096x4608, .f32⟩
  | 84 => ⟨S_, .f32⟩
  | 85 => ⟨S8x4x4096, .f32⟩
  | 86 => ⟨S8x4x4096x1, .f32⟩
  | 87 => ⟨S8x4x4096x4608, .f32⟩
  | 88 => ⟨S8x4x4096x4608, .f32⟩
  | 89 => ⟨S8x4x64x4096, .f32⟩
  | 90 => ⟨S8x4096x4x64, .f32⟩
  | 91 => ⟨S32768x256, .f32⟩
  | _ => ⟨S8x4096x4x96, .f32⟩

abbrev hbmTy (i : Nat) : BufTy := match i / 128 with
  | 0 => hbmTy0_0 i
  | 1 => hbmTy0_1 i
  | _ => ⟨S8x4096x4x96, .f32⟩

abbrev bufTy : (tb : Table) → Fin (tcTables nBuf tb) → BufTy
  | .hbm, ⟨i, _⟩ => hbmTy i
  | _, _ => ⟨S8x4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_cst : Ref sig .tc := ⟨.hbm, 53, rfl⟩
abbrev main_v8 : Ref sig .tc := ⟨.hbm, 54, rfl⟩
abbrev main_v9 : Ref sig .tc := ⟨.hbm, 55, rfl⟩
abbrev main_cst_1 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_2 : Ref sig .tc := ⟨.hbm, 88, rfl⟩
abbrev main_v41 : Ref sig .tc := ⟨.hbm, 89, rfl⟩
abbrev main_v42 : Ref sig .tc := ⟨.hbm, 90, rfl⟩
abbrev main_cst_3 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_4 : Ref sig .tc := ⟨.hbm, 125, rfl⟩
abbrev main_v76 : Ref sig .tc := ⟨.hbm, 126, rfl⟩
abbrev main_v77 : Ref sig .tc := ⟨.hbm, 127, rfl⟩
abbrev main_cst_5 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_6 : Ref sig .tc := ⟨.hbm, 159, rfl⟩
abbrev main_v108 : Ref sig .tc := ⟨.hbm, 160, rfl⟩
abbrev main_v109 : Ref sig .tc := ⟨.hbm, 161, rfl⟩
abbrev main_cst_7 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_8 : Ref sig .tc := ⟨.hbm, 200, rfl⟩
abbrev main_v147 : Ref sig .tc := ⟨.hbm, 201, rfl⟩
abbrev main_v148 : Ref sig .tc := ⟨.hbm, 202, rfl⟩
abbrev main_cst_9 : Ref sig .tc := ⟨.hbm, 203, rfl⟩
abbrev main_v149 : Ref sig .tc := ⟨.hbm, 204, rfl⟩
abbrev main_cst_10 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_11 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩

abbrev nD : Nat := 1
abbrev τ : Topo := Topo.v7x

variable {F : FTy → Type} [FloatOps F]
-- ==== Gate.lean ====
abbrev S32768x1024 : Shape := ⟨2, ![32768, 1024]⟩
abbrev S1024 : Shape := ⟨1, ![1024]⟩
abbrev S8x1x1024 : Shape := ⟨3, ![8, 1, 1024]⟩
abbrev S1024x6768 : Shape := ⟨2, ![1024, 6768]⟩
abbrev S6768 : Shape := ⟨1, ![6768]⟩
abbrev S1024x4096 : Shape := ⟨2, ![1024, 4096]⟩
abbrev S4096 : Shape := ⟨1, ![4096]⟩
abbrev S1x1024 : Shape := ⟨2, ![1, 1024]⟩
abbrev S1x4096 : Shape := ⟨2, ![1, 4096]⟩
abbrev S32768x4096 : Shape := ⟨2, ![32768, 4096]⟩
abbrev S512x1024 : Shape := ⟨2, ![512, 1024]⟩
abbrev S1x1x1024 : Shape := ⟨3, ![1, 1, 1024]⟩
abbrev S512x4096 : Shape := ⟨2, ![512, 4096]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6768, .f32⟩
  | .hbm, ⟨5, _⟩ => ⟨S6768, .f32⟩
  | .hbm, ⟨6, _⟩ => ⟨S1024x4096, .f32⟩
  | .hbm, ⟨7, _⟩ => ⟨S1024x4096, .bf16⟩
  | .hbm, ⟨8, _⟩ => ⟨S4096, .f32⟩
  | .hbm, ⟨9, _⟩ => ⟨S1x1024, .f32⟩
  | .hbm, ⟨10, _⟩ => ⟨S1x4096, .f32⟩
  | .hbm, ⟨11, _⟩ => ⟨S32768x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4096, .bf16⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S32768x1024 : Shape := ⟨2, ![32768, 1024]⟩
abbrev S1024 : Shape := ⟨1, ![1024]⟩
abbrev S8x1x1024 : Shape := ⟨3, ![8, 1, 1024]⟩
abbrev S1024x6768 : Shape := ⟨2, ![1024, 6768]⟩
abbrev S6768 : Shape := ⟨1, ![6768]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6768 : Shape := ⟨3, ![8, 4096, 6768]⟩
abbrev S1x1x6768 : Shape := ⟨3, ![1, 1, 6768]⟩
abbrev S8x4096x4096 : Shape := ⟨3, ![8, 4096, 4096]⟩
abbrev S32768x4096 : Shape := ⟨2, ![32768, 4096]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6768, .f32⟩
  | .hbm, ⟨5, _⟩ => ⟨S6768, .f32⟩
  | .hbm, ⟨6, _⟩ => ⟨S8x4096x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x6768, .f32⟩
  | .hbm, ⟨31, _⟩ => ⟨S1x1x6768, .f32⟩
  | .hbm, ⟨32, _⟩ => ⟨S8x4096x6768, .f32⟩
  | .hbm, ⟨33, _⟩ => ⟨S8x4096x6768, .f32⟩
  | .hbm, ⟨34, _⟩ => ⟨S8x4096x4096, .f32⟩
  | .hbm, ⟨35, _⟩ => ⟨S32768x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Ab.lean ====
abbrev S32768x1024 : Shape := ⟨2, ![32768, 1024]⟩
abbrev S1024 : Shape := ⟨1, ![1024]⟩
abbrev S8x1x1024 : Shape := ⟨3, ![8, 1, 1024]⟩
abbrev S1024x6768 : Shape := ⟨2, ![1024, 6768]⟩
abbrev S6768 : Shape := ⟨1, ![6768]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S1024x4x64 : Shape := ⟨3, ![1024, 4, 64]⟩
abbrev S1024x4x128 : Shape := ⟨3, ![1024, 4, 128]⟩
abbrev S1024x512 : Shape := ⟨2, ![1024, 512]⟩
abbrev S1024x192 : Shape := ⟨2, ![1024, 192]⟩
abbrev S1024x32 : Shape := ⟨2, ![1024, 32]⟩
abbrev S1024x3712 : Shape := ⟨2, ![1024, 3712]⟩
abbrev S8 : Shape := ⟨1, ![8]⟩
abbrev S16 : Shape := ⟨1, ![16]⟩
abbrev S128 : Shape := ⟨1, ![128]⟩
abbrev S256 : Shape := ⟨1, ![256]⟩
abbrev S4x64 : Shape := ⟨2, ![4, 64]⟩
abbrev S4x128 : Shape := ⟨2, ![4, 128]⟩
abbrev S512 : Shape := ⟨1, ![512]⟩
abbrev S192 : Shape := ⟨1, ![192]⟩
abbrev S32 : Shape := ⟨1, ![32]⟩
abbrev S3712 : Shape := ⟨1, ![3712]⟩
abbrev S1x1024 : Shape := ⟨2, ![1, 1024]⟩
abbrev S1x3712 : Shape := ⟨2, ![1, 3712]⟩
abbrev S32768x256 : Shape := ⟨2, ![32768, 256]⟩
abbrev S32768x512 : Shape := ⟨2, ![32768, 512]⟩
abbrev S32768x128 : Shape := ⟨2, ![32768, 128]⟩
abbrev S512x1024 : Shape := ⟨2, ![512, 1024]⟩
abbrev S1x1x1024 : Shape := ⟨3, ![1, 1, 1024]⟩
abbrev S512x256 : Shape := ⟨2, ![512, 256]⟩
abbrev S512x512 : Shape := ⟨2, ![512, 512]⟩
abbrev S512x128 : Shape := ⟨2, ![512, 128]⟩
abbrev S512x1 : Shape := ⟨2, ![512, 1]⟩
abbrev S1x256 : Shape := ⟨2, ![1, 256]⟩
abbrev S1x512 : Shape := ⟨2, ![1, 512]⟩
abbrev S1x128 : Shape := ⟨2, ![1, 128]⟩

abbrev nBuf : Space → Nat
  | .hbm => 105
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6768, .f32⟩
  | .hbm, ⟨5, _⟩ => ⟨S6768, .f32⟩
  | .hbm, ⟨6, _⟩ => ⟨S1024x8, .f32⟩
  | .hbm, ⟨7, _⟩ => ⟨S1024x8, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x256, .f32⟩
  | .hbm, ⟨13, _⟩ => ⟨S1024x4x64, .f32⟩
  | .hbm, ⟨14, _⟩ => ⟨S_, .f32⟩
  | .hbm, ⟨15, _⟩ => ⟨S_, .f32⟩
  | .hbm, ⟨16, _⟩ => ⟨S1024x4x128, .f32⟩
  | .hbm, ⟨17, _⟩ => ⟨S1024x512, .f32⟩
  | .hbm, ⟨18, _⟩ => ⟨S1024x256, .f32⟩
  | .hbm, ⟨19, _⟩ => ⟨S1024x4x64, .f32⟩
  | .hbm, ⟨20, _⟩ => ⟨S_, .f32⟩
  | .hbm, ⟨21, _⟩ => ⟨S_, .f32⟩
  | .hbm, ⟨22, _⟩ => ⟨S1024x4x128, .f32⟩
  | .hbm, ⟨23, _⟩ => ⟨S1024x512, .f32⟩
  | .hbm, ⟨24, _⟩ => ⟨S1024x256, .f32⟩
  | .hbm, ⟨25, _⟩ => ⟨S1024x4x64, .f32⟩
  | .hbm, ⟨26, _⟩ => ⟨S_, .f32⟩
  | .hbm, ⟨27, _⟩ => ⟨S_, .f32⟩
  | .hbm, ⟨28, _⟩ => ⟨S1024x4x128, .f32⟩
  | .hbm, ⟨29, _⟩ => ⟨S1024x512, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S1024x128, .f32⟩
  | .hbm, ⟨36, _⟩ => ⟨S1024x128, .f32⟩
  | .hbm, ⟨37, _⟩ => ⟨S1024x192, .f32⟩
  | .hbm, ⟨38, _⟩ => ⟨S_, .i32⟩
  | .hbm, ⟨39, _⟩ => ⟨S_, .f32⟩
  | .hbm, ⟨40, _⟩ => ⟨S1024x256, .f32⟩
  | .hbm, ⟨41, _⟩ => ⟨S1024x128, .f32⟩
  | .hbm, ⟨42, _⟩ => ⟨S1024x32, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x3712, .f32⟩
  | .hbm, ⟨47, _⟩ => ⟨S1024x3712, .bf16⟩
  | .hbm, ⟨48, _⟩ => ⟨S8, .f32⟩
  | .hbm, ⟨49, _⟩ => ⟨S8, .f32⟩
  | .hbm, ⟨50, _⟩ => ⟨S16, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S256, .f32⟩
  | .hbm, ⟨55, _⟩ => ⟨S4x64, .f32⟩
  | .hbm, ⟨56, _⟩ => ⟨S_, .f32⟩
  | .hbm, ⟨57, _⟩ => ⟨S_, .f32⟩
  | .hbm, ⟨58, _⟩ => ⟨S4x128, .f32⟩
  | .hbm, ⟨59, _⟩ => ⟨S512, .f32⟩
  | .hbm, ⟨60, _⟩ => ⟨S256, .f32⟩
  | .hbm, ⟨61, _⟩ => ⟨S4x64, .f32⟩
  | .hbm, ⟨62, _⟩ => ⟨S_, .f32⟩
  | .hbm, ⟨63, _⟩ => ⟨S_, .f32⟩
  | .hbm, ⟨64, _⟩ => ⟨S4x128, .f32⟩
  | .hbm, ⟨65, _⟩ => ⟨S512, .f32⟩
  | .hbm, ⟨66, _⟩ => ⟨S256, .f32⟩
  | .hbm, ⟨67, _⟩ => ⟨S4x64, .f32⟩
  | .hbm, ⟨68, _⟩ => ⟨S_, .f32⟩
  | .hbm, ⟨69, _⟩ => ⟨S_, .f32⟩
  | .hbm, ⟨70, _⟩ => ⟨S4x128, .f32⟩
  | .hbm, ⟨71, _⟩ => ⟨S512, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S128, .f32⟩
  | .hbm, ⟨78, _⟩ => ⟨S128, .f32⟩
  | .hbm, ⟨79, _⟩ => ⟨S192, .f32⟩
  | .hbm, ⟨80, _⟩ => ⟨S_, .i32⟩
  | .hbm, ⟨81, _⟩ => ⟨S_, .f32⟩
  | .hbm, ⟨82, _⟩ => ⟨S256, .f32⟩
  | .hbm, ⟨83, _⟩ => ⟨S128, .f32⟩
  | .hbm, ⟨84, _⟩ => ⟨S32, .f32⟩
  | .hbm, ⟨85, _⟩ => ⟨S_, .i32⟩
  | .hbm, ⟨86, _⟩ => ⟨S_, .f32⟩
  | .hbm, ⟨87, _⟩ => ⟨S128, .f32⟩
  | .hbm, ⟨88, _⟩ => ⟨S3712, .f32⟩
  | .hbm, ⟨89, _⟩ => ⟨S1x1024, .f32⟩
  | .hbm, ⟨90, _⟩ => ⟨S1x3712, .f32⟩
  | .hbm, ⟨91, _⟩ => ⟨S32768x256, .f32⟩
  | .hbm, ⟨92, _⟩ => ⟨S32768x256, .f32⟩
  | .hbm, ⟨93, _⟩ => ⟨S32768x256, .f32⟩
  | .hbm, ⟨94, _⟩ => ⟨S32768x512, .f32⟩
  | .hbm, ⟨95, _⟩ => ⟨S32768x512, .f32⟩
  | .hbm, ⟨96, _⟩ => ⟨S32768x512, .f32⟩
  | .hbm, ⟨97, _⟩ => ⟨S32768x256, .f32⟩
  | .hbm, ⟨98, _⟩ => ⟨S32768x128, .f32⟩
  | .hbm, ⟨99, _⟩ => ⟨S32768x256, .f32⟩
  | .hbm, ⟨100, _⟩ => ⟨S32768x128, .f32⟩
  | .hbm, ⟨101, _⟩ => ⟨S32768x128, .f32⟩
  | .hbm, ⟨102, _⟩ => ⟨S32768x256, .f32⟩
  | .hbm, ⟨103, _⟩ => ⟨S32768x128, .f32⟩
  | .hbm, ⟨104, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3712, .bf16⟩
  | .local _ .vmem, ⟨8, _⟩ => ⟨S1x3712, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x256, .f32⟩
  | .local _ .vmem, ⟨22, _⟩ => ⟨S512x256, .f32⟩
  | .local _ .vmem, ⟨23, _⟩ => ⟨S512x128, .f32⟩
  | .local _ .vmem, ⟨24, _⟩ => ⟨S512x128, .f32⟩
  | .local _ .vmem, ⟨25, _⟩ => ⟨S512x256, .f32⟩
  | .local _ .vmem, ⟨26, _⟩ => ⟨S512x256, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x256, .f32⟩
  | .local _ .vmem, ⟨32, _⟩ => ⟨S512x256, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_call3_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_call4_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_call5_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_call6_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_call7_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_call8_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_call9_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_call10_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_9 : Ref sig .tc := ⟨.hbm, 85, rfl⟩
abbrev main_call11_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61_0 : Ref sig .tc := ⟨.hbm, 91, rfl⟩
abbrev main_v61_1 : Ref sig .tc := ⟨.hbm, 92, rfl⟩
abbrev main_v61_2 : Ref sig .tc := ⟨.hbm, 93, rfl⟩
abbrev main_v61_3 : Ref sig .tc := ⟨.hbm, 94, rfl⟩
abbrev main_v61_4 : Ref sig .tc := ⟨.hbm, 95, rfl⟩
abbrev main_v61_5 : Ref sig .tc := ⟨.hbm, 96, rfl⟩
abbrev main_v61_6 : Ref sig .tc := ⟨.hbm, 97, rfl⟩
abbrev main_v61_7 : Ref sig .tc := ⟨.hbm, 98, rfl⟩
abbrev main_v61_8 : Ref sig .tc := ⟨.hbm, 99, rfl⟩
abbrev main_v61_9 : Ref sig .tc := ⟨.hbm, 100, rfl⟩
abbrev main_v61_10 : Ref sig .tc := ⟨.hbm, 101, rfl⟩
abbrev main_v61_11 : Ref sig .tc := ⟨.hbm, 102, rfl⟩
abbrev main_v61_12 : Ref sig .tc := ⟨.hbm, 103, rfl⟩
abbrev main_v61_13 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3712 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== AbRefIdeal.lean ====
abbrev S32768x1024 : Shape := ⟨2, ![32768, 1024]⟩
abbrev S1024 : Shape := ⟨1, ![1024]⟩
abbrev S8x1x1024 : Shape := ⟨3, ![8, 1, 1024]⟩
abbrev S1024x6768 : Shape := ⟨2, ![1024, 6768]⟩
abbrev S6768 : Shape := ⟨1, ![6768]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6768 : Shape := ⟨3, ![8, 4096, 6768]⟩
abbrev S1x1x6768 : Shape := ⟨3, ![1, 1, 6768]⟩
abbrev S32768x6768 : Shape := ⟨2, ![32768, 6768]⟩
abbrev S32768x256 : Shape := ⟨2, ![32768, 256]⟩
abbrev S32768x8 : Shape := ⟨2, ![32768, 8]⟩
abbrev S32768x128 : Shape := ⟨2, ![32768, 128]⟩
abbrev S32768x192 : Shape := ⟨2, ![32768, 192]⟩
abbrev S32768x32 : Shape := ⟨2, ![32768, 32]⟩
abbrev S32768x4096 : Shape := ⟨2, ![32768, 4096]⟩
abbrev S32768x16 : Shape := ⟨2, ![32768, 16]⟩
abbrev S32768x4x64 : Shape := ⟨3, ![32768, 4, 64]⟩
abbrev S32768x4x128 : Shape := ⟨3, ![32768, 4, 128]⟩
abbrev S32768x512 : Shape := ⟨2, ![32768, 512]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6768, .f32⟩
  | .hbm, ⟨5, _⟩ => ⟨S6768, .f32⟩
  | .hbm, ⟨6, _⟩ => ⟨S8x4096x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x6768, .f32⟩
  | .hbm, ⟨31, _⟩ => ⟨S1x1x6768, .f32⟩
  | .hbm, ⟨32, _⟩ => ⟨S8x4096x6768, .f32⟩
  | .hbm, ⟨33, _⟩ => ⟨S8x4096x6768, .f32⟩
  | .hbm, ⟨34, _⟩ => ⟨S32768x6768, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S32768x8, .f32⟩
  | .hbm, ⟨43, _⟩ => ⟨S32768x8, .f32⟩
  | .hbm, ⟨44, _⟩ => ⟨S32768x256, .f32⟩
  | .hbm, ⟨45, _⟩ => ⟨S32768x128, .f32⟩
  | .hbm, ⟨46, _⟩ => ⟨S32768x128, .f32⟩
  | .hbm, ⟨47, _⟩ => ⟨S32768x192, .f32⟩
  | .hbm, ⟨48, _⟩ => ⟨S32768x128, .f32⟩
  | .hbm, ⟨49, _⟩ => ⟨S32768x32, .f32⟩
  | .hbm, ⟨50, _⟩ => ⟨S32768x4096, .f32⟩
  | .hbm, ⟨51, _⟩ => ⟨S32768x16, .f32⟩
  | .hbm, ⟨52, _⟩ => ⟨S_, .i32⟩
  | .hbm, ⟨53, _⟩ => ⟨S_, .f32⟩
  | .hbm, ⟨54, _⟩ => ⟨S32768x128, .f32⟩
  | .hbm, ⟨55, _⟩ => ⟨S_, .i32⟩
  | .hbm, ⟨56, _⟩ => ⟨S_, .f32⟩
  | .hbm, ⟨57, _⟩ => ⟨S32768x256, .f32⟩
  | .hbm, ⟨58, _⟩ => ⟨S_, .i32⟩
  | .hbm, ⟨59, _⟩ => ⟨S_, .f32⟩
  | .hbm, ⟨60, _⟩ => ⟨S32768x128, .f32⟩
  | .hbm, ⟨61, _⟩ => ⟨S32768x4x64, .f32⟩
  | .hbm, ⟨62, _⟩ => ⟨S_, .f32⟩
  | .hbm, ⟨63, _⟩ => ⟨S_, .f32⟩
  | .hbm, ⟨64, _⟩ => ⟨S32768x4x128, .f32⟩
  | .hbm, ⟨65, _⟩ => ⟨S32768x512, .f32⟩
  | .hbm, ⟨66, _⟩ => ⟨S32768x4x64, .f32⟩
  | .hbm, ⟨67, _⟩ => ⟨S_, .f32⟩
  | .hbm, ⟨68, _⟩ => ⟨S_, .f32⟩
  | .hbm, ⟨69, _⟩ => ⟨S32768x4x128, .f32⟩
  | .hbm, ⟨70, _⟩ => ⟨S32768x512, .f32⟩
  | .hbm, ⟨71, _⟩ => ⟨S32768x4x64, .f32⟩
  | .hbm, ⟨72, _⟩ => ⟨S_, .f32⟩
  | .hbm, ⟨73, _⟩ => ⟨S_, .f32⟩
  | .hbm, ⟨74, _⟩ => ⟨S32768x4x128, .f32⟩
  | .hbm, ⟨75, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c : Ref sig .tc := ⟨.hbm, 52, rfl⟩
abbrev main_call0_v0 : Ref sig .tc := ⟨.hbm, 53, rfl⟩
abbrev main_v42 : Ref sig .tc := ⟨.hbm, 54, rfl⟩
abbrev main_c_3 : Ref sig .tc := ⟨.hbm, 55, rfl⟩
abbrev main_call1_v0 : Ref sig .tc := ⟨.hbm, 56, rfl⟩
abbrev main_v43 : Ref sig .tc := ⟨.hbm, 57, rfl⟩
abbrev main_c_4 : Ref sig .tc := ⟨.hbm, 58, rfl⟩
abbrev main_call2_v0 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_call3_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_call4_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_call5_v0 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.Flash.lean ====
/- Softmax over blocks of keys: the running maximum, the running sum and the running weighted sum, taken block by block, give
   the softmax-weighted sum over all the keys. -/
module

public import Idealize.ShloMosaic.PureOps.Ideal

@[expose] public section

noncomputable section

namespace Cert.Flash

open Idealize.ShloMosaic

variable {K : ℕ}

/-- The running maximum after a block of scores `s`. -/
def stepM (m : EReal) (s : Fin K → EReal) : EReal := max m (Finset.univ.fold max ⊥ s)

/-- The running sum of exponentials after a block, rescaled to the new maximum. -/
def stepL (m l : EReal) (s : Fin K → EReal) : EReal :=
  Ideal.exp (m - stepM m s) * l + ∑ k, Ideal.exp (s k - stepM m s)

/-- The running weighted sum of the values after a block, rescaled to the new maximum. -/
def stepA (m a : EReal) (s v : Fin K → EReal) : EReal :=
  Ideal.exp (m - stepM m s) * a + ∑ k, v k * Ideal.exp (s k - stepM m s)

/-- The running maximum over the first `n` blocks, started at `c`. -/
def runM (c : EReal) (s : ℕ → Fin K → EReal) : ℕ → EReal
  | 0 => c
  | n + 1 => stepM (runM c s n) (s n)

/-- The running sum over the first `n` blocks, started at zero. -/
def runL (c : EReal) (s : ℕ → Fin K → EReal) : ℕ → EReal
  | 0 => 0
  | n + 1 => stepL (runM c s n) (runL c s n) (s n)

/-- The running weighted sum over the first `n` blocks, started at zero. -/
def runA (c : EReal) (s v : ℕ → Fin K → EReal) : ℕ → EReal
  | 0 => 0
  | n + 1 => stepA (runM c s n) (runA c s v n) (s n) (v n)

/-- A maximum of finitely many reals, started at minus infinity, is minus infinity or a real. -/
theorem fold_max_real {ι : Type} (t : Finset ι) (f : ι → EReal) (hf : ∀ i, ∃ r : ℝ, f i = r) :
    t.fold max ⊥ f = ⊥ ∨ ∃ r : ℝ, t.fold max ⊥ f = r := by
  classical
  induction t using Finset.induction_on with
  | empty => left; rfl
  | insert a t ha ih =>
    rw [Finset.fold_insert ha]
    right
    obtain ⟨r, hr⟩ := hf a
    rcases ih with h | ⟨r', h⟩
    · exact ⟨r, by rw [h, hr]; exact max_eq_left bot_le⟩
    · exact ⟨max r r', by rw [h, hr]; exact (EReal.coe_strictMono.monotone.map_max (a := r) (b := r')).symm⟩

/-- … and a real when there is at least one. -/
theorem fold_max_real' {ι : Type} (t : Finset ι) (f : ι → EReal) (hf : ∀ i, ∃ r : ℝ, f i = r) {i : ι} (hi : i ∈ t) :
    ∃ r : ℝ, t.fold max ⊥ f = r := by
  classical
  rcases fold_max_real t f hf with h | h
  · exfalso
    obtain ⟨r, hr⟩ := hf i
    have hle : f i ≤ t.fold max ⊥ f := (Finset.le_fold_max (f i)).mpr (Or.inr ⟨i, hi, le_rfl⟩)
    rw [h, hr] at hle
    exact (EReal.coe_ne_bot r) (le_bot_iff.mp hle)
  · exact h

/-- The running maximum of real scores from a real start is real. -/
theorem runM_real (c : EReal) (hc : ∃ r : ℝ, c = r) (s : ℕ → Fin K → EReal) (hs : ∀ b k, ∃ r : ℝ, s b k = r) (n : ℕ) :
    ∃ r : ℝ, runM c s n = r := by
  induction n with
  | zero => exact hc
  | succ n ih =>
    obtain ⟨r, hr⟩ := ih
    rcases fold_max_real Finset.univ (s n) (hs n) with h | ⟨r', h⟩
    · exact ⟨r, by rw [runM, stepM, h, hr]; exact max_eq_left bot_le⟩
    · exact ⟨max r r', by rw [runM, stepM, h, hr]; exact (EReal.coe_strictMono.monotone.map_max (a := r) (b := r')).symm⟩

/-- A non-negative real factor goes over a finite sum of extended reals. -/
theorem mul_sum {ι : Type} (e : ℝ) (he : 0 ≤ e) (t : Finset ι) (f : ι → EReal) :
    (e : EReal) * ∑ i ∈ t, f i = ∑ i ∈ t, (e : EReal) * f i := by
  classical
  induction t using Finset.induction_on with
  | empty => simp
  | insert a t ha ih =>
    rw [Finset.sum_insert ha, Finset.sum_insert ha,
      EReal.left_distrib_of_nonneg_of_ne_top (EReal.coe_nonneg.mpr he) (EReal.coe_ne_top e), ih]

/-- A finite sum of reals, read as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Rescaling an exponential from one real maximum to another. -/
theorem exp_rescale (x : EReal) (hx : ∃ r : ℝ, x = r) (a b : ℝ) :
    (Real.exp (a - b) : EReal) * Ideal.exp (x - a) = Ideal.exp (x - b) := by
  obtain ⟨r, rfl⟩ := hx
  rw [← EReal.coe_sub, ← EReal.coe_sub, Ideal.exp_coe, Ideal.exp_coe, ← EReal.coe_mul, ← Real.exp_add]
  congr 2; ring

variable (c : EReal) (hc : ∃ r : ℝ, c = r) (s v : ℕ → Fin K → EReal) (hs : ∀ b k, ∃ r : ℝ, s b k = r)
include hc hs

/-- The running sum is the sum of the exponentials of all the scores seen, at the running maximum. -/
theorem runL_eq (n : ℕ) :
    runL c s n = ∑ b ∈ Finset.range n, ∑ k, Ideal.exp (s b k - runM c s n) := by
  induction n with
  | zero => simp [runL]
  | succ n ih =>
    obtain ⟨a, ha⟩ := runM_real c hc s hs n
    obtain ⟨b, hb⟩ := runM_real c hc s hs (n + 1)
    rw [runL, stepL, show stepM (runM c s n) (s n) = runM c s (n + 1) from rfl, ih, Finset.sum_range_succ, ha, hb,
      ← EReal.coe_sub, Ideal.exp_coe, mul_sum _ (Real.exp_pos _).le]
    refine congrArg (· + _) (Finset.sum_congr rfl fun i _ => ?_)
    rw [mul_sum _ (Real.exp_pos _).le]
    exact Finset.sum_congr rfl fun k _ => exp_rescale _ (hs i k) a b

/-- The running weighted sum is the sum of all the values seen, weighted by the exponentials at the running maximum. -/
theorem runA_eq (n : ℕ) :
    runA c s v n = ∑ b ∈ Finset.range n, ∑ k, v b k * Ideal.exp (s b k - runM c s n) := by
  induction n with
  | zero => simp [runA]
  | succ n ih =>
    obtain ⟨a, ha⟩ := runM_real c hc s hs n
    obtain ⟨b, hb⟩ := runM_real c hc s hs (n + 1)
    rw [runA, stepA, show stepM (runM c s n) (s n) = runM c s (n + 1) from rfl, ih, Finset.sum_range_succ, ha, hb,
      ← EReal.coe_sub, Ideal.exp_coe, mul_sum _ (Real.exp_pos _).le]
    refine congrArg (· + _) (Finset.sum_congr rfl fun i _ => ?_)
    rw [mul_sum _ (Real.exp_pos _).le]
    exact Finset.sum_congr rfl fun k _ => by rw [mul_left_comm, exp_rescale _ (hs i k) a b]

/-- The quotient the blocks end with is the softmax-weighted sum over all the keys, at any real shift `M`. -/
theorem quotient_eq (n : ℕ) (M : EReal) (hM : ∃ r : ℝ, M = r) (b₀ : ℕ) (hb₀ : b₀ < n) (k₀ : Fin K) :
    Ideal.div (runA c s v n) (runL c s n)
      = ∑ b ∈ Finset.range n, ∑ k, v b k *
          Ideal.div (Ideal.exp (s b k - M)) (∑ b' ∈ Finset.range n, ∑ k', Ideal.exp (s b' k' - M)) := by
  obtain ⟨a, rfl⟩ := hM
  obtain ⟨m, hm⟩ := runM_real c hc s hs n
  choose r hr using hs
  have hs' : ∀ b k, ∃ r : ℝ, s b k = r := fun b k => ⟨_, hr b k⟩
  have hL : ∀ x : ℝ, ∑ b' ∈ Finset.range n, ∑ k', Ideal.exp (s b' k' - x)
      = ((∑ b' ∈ Finset.range n, ∑ k', Real.exp (r b' k' - x) : ℝ) : EReal) := by
    intro x
    rw [coe_sum]
    refine Finset.sum_congr rfl fun i _ => ?_
    rw [coe_sum]
    refine Finset.sum_congr rfl fun k _ => ?_
    rw [hr, ← EReal.coe_sub, Ideal.exp_coe]
  have hpos : ∀ x : ℝ, 0 < ∑ b' ∈ Finset.range n, ∑ k', Real.exp (r b' k' - x) := fun x =>
    Finset.sum_pos' (fun i _ => Finset.sum_nonneg fun k _ => (Real.exp_pos _).le)
      ⟨b₀, Finset.mem_range.mpr hb₀, Finset.sum_pos (fun k _ => Real.exp_pos _) ⟨k₀, Finset.mem_univ _⟩⟩
  have hscale : ∑ b' ∈ Finset.range n, ∑ k', Real.exp (r b' k' - m)
      = Real.exp (a - m) * ∑ b' ∈ Finset.range n, ∑ k', Real.exp (r b' k' - a) := by
    rw [Finset.mul_sum]
    refine Finset.sum_congr rfl fun i _ => ?_
    rw [Finset.mul_sum]
    refine Finset.sum_congr rfl fun k _ => ?_
    rw [← Real.exp_add]; congr 1; ring
  rw [runL_eq c hc s hs' n, runA_eq c hc s v hs' n, hm, hL m, hL a]
  set L : ℝ := ∑ b' ∈ Finset.range n, ∑ k', Real.exp (r b' k' - a) with hLdef
  have hL0 : 0 < L := hpos a
  have he : 0 < Real.exp (a - m) := Real.exp_pos _
  rw [hscale, Ideal.div_coe (mul_pos he hL0).ne', mul_comm, mul_sum _ (by positivity)]
  refine Finset.sum_congr rfl fun i _ => ?_
  rw [mul_sum _ (by positivity)]
  refine Finset.sum_congr rfl fun k _ => ?_
  rw [Ideal.div_coe hL0.ne', hr, ← EReal.coe_sub, ← EReal.coe_sub, Ideal.exp_coe, Ideal.exp_coe, mul_left_comm,
    ← EReal.coe_mul, ← EReal.coe_mul]
  refine congrArg (fun z : ℝ => v i k * (z : EReal)) ?_
  have e1 : Real.exp (r i k - m) = Real.exp (a - m) * Real.exp (r i k - a) := by
    rw [← Real.exp_add]; congr 1; ring
  rw [e1]
  field_simp

end Cert.Flash

end
-- ==== Proof.Rope.lean ====
module

public import proofs.«01_k».proof.Proof.Flash
public import Idealize.ShloMosaic.Lib.Pointwise

@[expose] public section

noncomputable section

namespace Cert.Rope

open Idealize.ShloMosaic

/-- A row of `n` numbers, continued by zeros. -/
def ext {n : ℕ} (f : Fin n → EReal) (x : ℕ) : EReal := if h : x < n then f ⟨x, h⟩ else 0

theorem ext_lt {n : ℕ} (f : Fin n → EReal) (x : ℕ) (h : x < n) : ext f x = f ⟨x, h⟩ := dif_pos h
theorem ext_ge {n : ℕ} (f : Fin n → EReal) (x : ℕ) (h : ¬ x < n) : ext f x = 0 := dif_neg h

/-- The row of token `t` on the grid of 64 columns: the quotient by 64, rounded down, as the host computes it. -/
def rowW (t : ℕ) : BitVec 32 :=
  Scalar.select
    (IntOp.andi
      (IntOp.cmpi (w := 32) CmpIPredicate.ne (if BitVec.ofNat 32 t = 0 then 0 else if (BitVec.ofNat 32 t).msb = true then -1 else 1)
        (if (64#32) = 0 then 0 else if BitVec.msb (64#32) = true then -1 else 1))
      (IntOp.cmpi CmpIPredicate.ne (IntOp.remsi ArithUnit.host (BitVec.ofNat 32 t) 64#32) 0#32))
    (IntOp.subi (IntOp.divsi ArithUnit.host (BitVec.ofNat 32 t) 64#32) 1#32)
    (IntOp.divsi ArithUnit.host (BitVec.ofNat 32 t) 64#32)

/-- The column of token `t` on the grid of 64 columns: the remainder by 64, as the host computes it (`d` is the divisor, 64). -/
def colW (t : ℕ) : BitVec 32 :=
  let d : BitVec 32 := Scalar.select (IntOp.cmpi CmpIPredicate.eq (64#32) 0#32) (1#32) 64#32
  let r : BitVec 32 := IntOp.remsi ArithUnit.host (BitVec.ofNat 32 t) d
  Scalar.select
    (IntOp.andi
      (IntOp.cmpi CmpIPredicate.ne (IntOp.cmpi CmpIPredicate.slt r 0#32) (IntOp.cmpi CmpIPredicate.slt d 0#32))
      (IntOp.cmpi CmpIPredicate.ne r 0#32))
    (IntOp.addi r d) r

/-- The frequency of rotation plane `i`: ten thousand to the power `-i / 8`. -/
def freq (i : ℕ) : EReal :=
  Ideal.pow (Ideal.ofBits FTy.f32 1176256512#32)
    (Ideal.div (-(FloatOps.sitofp (F := Ideal) FTy.f32 (BitVec.ofNat 32 i) : EReal)) (Ideal.ofBits FTy.f32 1090519040#32))

/-- The angle of token `t` at rotated lane `j`: by its row in the first sixteen lanes, by its column in the others. -/
def ang (t j : ℕ) : EReal :=
  (FloatOps.sitofp (F := Ideal) FTy.f32 (if j < 16 then rowW t else colW t) : EReal) * freq (j % 8)

/-- The rotation of the 32 lanes `f` of token `t`: lanes eight apart turn together. -/
def rope (f : ℕ → EReal) (t j : ℕ) : EReal :=
  if j % 16 < 8 then f j * Ideal.cos (ang t j) - f (j + 8) * Ideal.sin (ang t j)
  else f (j - 8) * Ideal.sin (ang t j) + f j * Ideal.cos (ang t j)

/-- The rotation written over 128 lanes with a cosine table and two sine tables, the tables being 1 and 0 outside lanes 64 to 95:
    it turns those lanes and leaves the others. `u` and `d` are the lanes eight above and eight below. -/
theorem rope_lanes (f : ℕ → EReal) (t x : ℕ) (u d c sa sb : EReal)
    (hu : 64 ≤ x → x < 96 → u = f (x + 8)) (hd : 72 ≤ x → x < 96 → d = f (x - 8))
    (hc : c = if 64 ≤ x ∧ x - 64 < 32 then Ideal.cos (ang t (x - 64)) else 1)
    (ha : sa = if 64 ≤ x ∧ x - 64 < 32 then (if (x - 64) % 16 < 8 then -Ideal.sin (ang t (x - 64)) else 0) else 0)
    (hb : sb = if 64 ≤ x ∧ x - 64 < 32 then (if (x - 64) % 16 < 8 then 0 else Ideal.sin (ang t (x - 64))) else 0) :
    f x * c + u * sa + d * sb = if 64 ≤ x ∧ x - 64 < 32 then rope (fun j => f (64 + j)) t (x - 64) else f x := by
  subst hc ha hb
  by_cases h : 64 ≤ x ∧ x - 64 < 32
  · rw [if_pos h, if_pos h, if_pos h, if_pos h]
    unfold rope
    by_cases h2 : (x - 64) % 16 < 8
    · rw [if_pos h2, if_pos h2, if_pos h2, mul_zero, add_zero, hu h.1 (by omega), mul_neg, ← sub_eq_add_neg]
      beta_reduce
      rw [show 64 + (x - 64) = x by omega, show 64 + (x - 64 + 8) = x + 8 by omega]
    · rw [if_neg h2, if_neg h2, if_neg h2, mul_zero, add_zero, hd (by omega) (by omega), add_comm]
      beta_reduce
      rw [show 64 + (x - 64) = x by omega, show 64 + (x - 64 - 8) = x - 8 by omega]
  · rw [if_neg h, if_neg h, if_neg h, if_neg h, mul_zero, mul_zero, mul_one, add_zero, add_zero]

/-- One head's 96 query lanes, the last 32 turned by the token's position (and zeros beyond). -/
def qvec (Q : Fin 8 → Fin 4096 → Fin 4 → Fin 96 → EReal) (b : Fin 8) (t : Fin 4096) (h : Fin 4) (x : ℕ) : EReal :=
  if 64 ≤ x ∧ x - 64 < 32 then rope (fun j => ext (Q b t h) (64 + j)) t.val (x - 64) else ext (Q b t h) x

/-- One head's key lanes of a sample token: 64 of its own, 32 shared by the heads and turned by the token's position. -/
def kvec (Kn : Fin 8 → Fin 4096 → Fin 4 → Fin 64 → EReal) (Kr : Fin 8 → Fin 4096 → Fin 32 → EReal)
    (b : Fin 8) (t : Fin 4096) (h : Fin 4) (x : ℕ) : EReal :=
  if 64 ≤ x ∧ x - 64 < 32 then rope (ext (Kr b t)) t.val (x - 64) else ext (Kn b t h) x

/-- One head's key lanes of a prompt token: 64 of its own, 32 shared by the heads, not turned. -/
def cvec (Cn : Fin 8 → Fin 512 → Fin 4 → Fin 64 → EReal) (Cr : Fin 8 → Fin 512 → Fin 32 → EReal)
    (b : Fin 8) (t : Fin 512) (h : Fin 4) (x : ℕ) : EReal :=
  if 64 ≤ x ∧ x - 64 < 32 then ext (Cr b t) (x - 64) else ext (Cn b t h) x

/-- The literal of the cosine table's border is one. -/
theorem one_word : Ideal.ofBits FTy.f32 0x3F800000#32 = 1 := by
  simp [Ideal.ofBits, Ideal.ieee]
  rw [← EReal.coe_mul]
  norm_num

end Cert.Rope
end
-- ==== Proof.Spec.lean ====
module

public import proofs.«01_k».proof.Proof.Rope

@[expose] public section

noncomputable section

namespace Cert.Rope

open Idealize.ShloMosaic

/-- The literal scaling the scores, one over the square root of 96 as a float. -/
def scale : EReal := Ideal.ofBits FTy.f32 0x3DD105EC#32

/-- The sample token at place `k` of key block `j`. -/
def tok (j : ℕ) (k : Fin 512) : Fin 4096 := ⟨512 * min j 7 + k.val, by omega⟩

section
variable (Q : Fin 8 → Fin 4096 → Fin 4 → Fin 96 → EReal)
  (Kn : Fin 8 → Fin 4096 → Fin 4 → Fin 64 → EReal) (Kr : Fin 8 → Fin 4096 → Fin 32 → EReal) (V : Fin 8 → Fin 4096 → Fin 4 → Fin 64 → EReal)
  (Cn : Fin 8 → Fin 512 → Fin 4 → Fin 64 → EReal) (Cr : Fin 8 → Fin 512 → Fin 32 → EReal) (Vc : Fin 8 → Fin 512 → Fin 4 → Fin 64 → EReal)

/-- The score of query token `t` against key `k` of block `j` (eight blocks of sample tokens, then the block of prompt tokens). -/
def sc (b : Fin 8) (t : Fin 4096) (h : Fin 4) (j : ℕ) (k : Fin 512) : EReal :=
  if j < 8 then (∑ x : Fin 128, kvec Kn Kr b (tok j k) h x.val * qvec Q b t h x.val) * scale
  else (∑ x : Fin 128, cvec Cn Cr b k h x.val * qvec Q b t h x.val) * scale

/-- The value lane `v` of key `k` of block `j`. -/
def va (b : Fin 8) (h : Fin 4) (v : Fin 64) (j : ℕ) (k : Fin 512) : EReal :=
  if j < 8 then V b (tok j k) h v else Vc b k h v

/-- The key lanes of the key at place `k` of the 4608 (the sample tokens, then the prompt tokens). -/
def keys (b : Fin 8) (h : Fin 4) (k : Fin 4608) (x : ℕ) : EReal :=
  if hk : k.val < 4096 then kvec Kn Kr b ⟨k.val, hk⟩ h x else cvec Cn Cr b ⟨k.val - 4096, by omega⟩ h x

/-- The value lane of the key at place `k` of the 4608. -/
def vals (b : Fin 8) (h : Fin 4) (v : Fin 64) (k : Fin 4608) : EReal :=
  if hk : k.val < 4096 then V b ⟨k.val, hk⟩ h v else Vc b ⟨k.val - 4096, by omega⟩ h v

/-- The score of query token `t` against the key at place `k` of the 4608. -/
def sco (b : Fin 8) (t : Fin 4096) (h : Fin 4) (k : Fin 4608) : EReal :=
  (∑ x : Fin 96, qvec Q b t h x.val * keys Kn Kr Cn Cr b h k x.val) * scale

/-- A sum of products over 128 lanes whose second factor ends at lane 96 is the sum over the 96. -/
theorem lanes_sum (f g : ℕ → EReal) (hg : ∀ x, 96 ≤ x → g x = 0) :
    ∑ x : Fin 128, f x.val * g x.val = ∑ x : Fin 96, g x.val * f x.val := by
  rw [Fin.sum_univ_add (a := 96) (b := 32) (fun x : Fin (96 + 32) => f x.val * g x.val)]
  rw [show ∑ i : Fin 32, f (Fin.natAdd 96 i).val * g (Fin.natAdd 96 i).val = 0 from
    Finset.sum_eq_zero fun i _ => by rw [hg _ (by show 96 ≤ 96 + i.val; omega), mul_zero], add_zero]
  exact Finset.sum_congr rfl fun i _ => mul_comm _ _

/-- The query lanes end at lane 96. -/
theorem qvec_ge (b : Fin 8) (t : Fin 4096) (h : Fin 4) (x : ℕ) (hx : 96 ≤ x) : qvec Q b t h x = 0 := by
  unfold qvec
  rw [if_neg (by omega), ext_ge _ _ (by omega)]

/-- The blocked score is the score at the key's place. -/
theorem sco_block (b : Fin 8) (t : Fin 4096) (h : Fin 4) (j : Fin 9) (k : Fin 512) :
    sco Q Kn Kr Cn Cr b t h ⟨512 * j.val + k.val, by omega⟩ = sc Q Kn Kr Cn Cr b t h j.val k := by
  unfold sco sc keys
  by_cases hj : j.val < 8
  · rw [if_pos hj, lanes_sum _ _ (qvec_ge Q b t h)]
    refine congrArg (· * scale) (Finset.sum_congr rfl fun x _ => ?_)
    rw [dif_pos (show 512 * j.val + k.val < 4096 by omega)]
    have e : (⟨512 * j.val + k.val, by omega⟩ : Fin 4096) = tok j.val k := Fin.ext (by show 512 * j.val + k.val = 512 * min j.val 7 + k.val; omega)
    rw [e]
  · rw [if_neg hj, lanes_sum _ _ (qvec_ge Q b t h)]
    refine congrArg (· * scale) (Finset.sum_congr rfl fun x _ => ?_)
    rw [dif_neg (show ¬ 512 * j.val + k.val < 4096 by omega)]
    have e : (⟨512 * j.val + k.val - 4096, by omega⟩ : Fin 512) = k := Fin.ext (by show 512 * j.val + k.val - 4096 = k.val; omega)
    rw [e]

/-- The blocked value is the value at the key's place. -/
theorem vals_block (b : Fin 8) (h : Fin 4) (v : Fin 64) (j : Fin 9) (k : Fin 512) :
    vals V Vc b h v ⟨512 * j.val + k.val, by omega⟩ = va V Vc b h v j.val k := by
  unfold vals va
  by_cases hj : j.val < 8
  · rw [if_pos hj, dif_pos (show 512 * j.val + k.val < 4096 by omega)]
    have e : (⟨512 * j.val + k.val, by omega⟩ : Fin 4096) = tok j.val k := Fin.ext (by show 512 * j.val + k.val = 512 * min j.val 7 + k.val; omega)
    rw [e]
  · rw [if_neg hj, dif_neg (show ¬ 512 * j.val + k.val < 4096 by omega)]
    have e : (⟨512 * j.val + k.val - 4096, by omega⟩ : Fin 512) = k := Fin.ext (by show 512 * j.val + k.val - 4096 = k.val; omega)
    rw [e]
end

/-! ## The scores are real -/

/-- An extended real that is a real number. -/
abbrev IsR (x : EReal) : Prop := ∃ r : ℝ, x = r

theorem isR_mul {x y : EReal} : IsR x → IsR y → IsR (x * y) := by
  rintro ⟨a, rfl⟩ ⟨b, rfl⟩; exact ⟨a * b, (EReal.coe_mul a b).symm⟩
theorem isR_add {x y : EReal} : IsR x → IsR y → IsR (x + y) := by
  rintro ⟨a, rfl⟩ ⟨b, rfl⟩; exact ⟨a + b, (EReal.coe_add a b).symm⟩
theorem isR_sub {x y : EReal} : IsR x → IsR y → IsR (x - y) := by
  rintro ⟨a, rfl⟩ ⟨b, rfl⟩; exact ⟨a - b, (EReal.coe_sub a b).symm⟩
theorem isR_neg {x : EReal} : IsR x → IsR (-x) := by
  rintro ⟨a, rfl⟩; exact ⟨-a, (EReal.coe_neg a).symm⟩
theorem isR_sum {ι : Type} (t : Finset ι) (f : ι → EReal) (hf : ∀ i, IsR (f i)) : IsR (∑ i ∈ t, f i) := by
  choose r hr using hf
  exact ⟨∑ i ∈ t, r i, by rw [Cert.Flash.coe_sum]; exact Finset.sum_congr rfl fun i _ => hr i⟩
theorem isR_ext {n : ℕ} (f : Fin n → EReal) (hf : ∀ i, IsR (f i)) (x : ℕ) : IsR (ext f x) := by
  unfold ext
  split
  · exact hf _
  · exact ⟨0, rfl⟩
theorem isR_word (w : BitVec 32) : IsR (FloatOps.sitofp (F := Ideal) FTy.f32 w : EReal) := ⟨_, rfl⟩

/-- The literal of the frequencies' divisor is eight. -/
theorem eight_word : Ideal.ofBits FTy.f32 1090519040#32 = ((8 : ℝ) : EReal) := by
  simp [Ideal.ofBits, Ideal.ieee]
  rw [← EReal.coe_mul]
  norm_num
/-- The literal of the frequencies' base is a real. -/
theorem base_word : IsR (Ideal.ofBits FTy.f32 1176256512#32) := by
  simp only [Ideal.ofBits, Ideal.ieee]
  norm_num
  exact ⟨_, (EReal.coe_mul _ _).symm⟩
/-- The literal scaling the scores is a real. -/
theorem scale_real : IsR scale := by
  unfold scale
  simp only [Ideal.ofBits, Ideal.ieee]
  norm_num
  exact ⟨_, (EReal.coe_mul _ _).symm⟩

theorem isR_freq (i : ℕ) : IsR (freq i) := by
  unfold freq
  obtain ⟨a, ha⟩ := isR_neg (isR_word (BitVec.ofNat 32 i))
  obtain ⟨b, hb⟩ := base_word
  rw [ha, hb, eight_word, Ideal.div_coe (by norm_num), ← EReal.coe_mul]
  exact ⟨_, rfl⟩
theorem isR_ang (t j : ℕ) : IsR (ang t j) := isR_mul (isR_word _) (isR_freq _)
theorem isR_cos (t j : ℕ) : IsR (Ideal.cos (ang t j)) := by
  obtain ⟨a, ha⟩ := isR_ang t j
  rw [ha, Ideal.cos_coe]; exact ⟨_, rfl⟩
theorem isR_sin (t j : ℕ) : IsR (Ideal.sin (ang t j)) := by
  obtain ⟨a, ha⟩ := isR_ang t j
  rw [ha, Ideal.sin_coe]; exact ⟨_, rfl⟩
theorem isR_rope (f : ℕ → EReal) (hf : ∀ x, IsR (f x)) (t j : ℕ) : IsR (rope f t j) := by
  unfold rope
  split
  · exact isR_sub (isR_mul (hf _) (isR_cos _ _)) (isR_mul (hf _) (isR_sin _ _))
  · exact isR_add (isR_mul (hf _) (isR_sin _ _)) (isR_mul (hf _) (isR_cos _ _))

section
variable (Q : Fin 8 → Fin 4096 → Fin 4 → Fin 96 → EReal) (hQ : ∀ b t h x, IsR (Q b t h x))
  (Kn : Fin 8 → Fin 4096 → Fin 4 → Fin 64 → EReal) (hKn : ∀ b t h x, IsR (Kn b t h x))
  (Kr : Fin 8 → Fin 4096 → Fin 32 → EReal) (hKr : ∀ b t x, IsR (Kr b t x))
  (Cn : Fin 8 → Fin 512 → Fin 4 → Fin 64 → EReal) (hCn : ∀ b t h x, IsR (Cn b t h x))
  (Cr : Fin 8 → Fin 512 → Fin 32 → EReal) (hCr : ∀ b t x, IsR (Cr b t x))
include hQ hKn hKr hCn hCr

/-- With real queries and keys every score is real. -/
theorem sco_real (b : Fin 8) (t : Fin 4096) (h : Fin 4) (k : Fin 4608) : IsR (sco Q Kn Kr Cn Cr b t h k) := by
  unfold sco
  refine isR_mul (isR_sum _ _ fun x => isR_mul ?_ ?_) scale_real
  · unfold qvec
    split
    · exact isR_rope _ (fun x => isR_ext _ (hQ b t h) _) _ _
    · exact isR_ext _ (hQ b t h) _
  · unfold keys
    split
    · unfold kvec
      split
      · exact isR_rope _ (fun x => isR_ext _ (hKr b _) _) _ _
      · exact isR_ext _ (hKn b _ h) _
    · unfold cvec
      split
      · exact isR_ext _ (hCr b _) _
      · exact isR_ext _ (hCn b _ h) _
end

end Cert.Rope
end
-- ==== Proof.RAng.lean ====
module

public import proofs.«01_k».proof.Proof.Gen.MlaRefIdeal.Run
public import proofs.«01_k».proof.Proof.Spec
public import Idealize.ShloMosaic.Lib.Pointwise

@[expose] public section

set_option maxRecDepth 16384

noncomputable section

namespace Cert.MlaRefVal

open Idealize.ShloMosaic Idealize.ShloMosaic.TcCoe Idealize.SL.Sem
open Cert.MlaRefIdeal Cert.MlaRefIdeal.Gen Cert.MlaRefIdeal.Value Cert.Rope

variable (V0 : Valuation τ sig (Elt Ideal))

/-- The reference's row of a token. -/
theorem row_at (t : Fin 4096) : res_main_v1 V0 (ix1 t) = rowW t.val := by
  pointwise [res_main_v1, res_main_v0, res_main_call0_v0, res_main_call0_v2]
  rfl
/-- The reference's column of a token. -/
theorem col_at (t : Fin 4096) : res_main_v2 V0 (ix1 t) = colW t.val := by
  pointwise [res_main_v2, res_main_v0, res_main_call1_v0, res_main_call1_v2, res_main_call1_v4]
  rfl

/-- The angles of the queries' row half. -/
theorem v18_at (t : Fin 4096) (i : Fin 8) : res_main_v18 V0 (ix3 t 0 i) = (FloatOps.sitofp (F := Ideal) FTy.f32 (rowW t.val) : EReal) * freq i.val := by
  rw [← row_at V0]
  pointwise [res_main_v18]
  rfl
/-- The angles of the queries' column half. -/
theorem v51_at (t : Fin 4096) (i : Fin 8) : res_main_v51 V0 (ix3 t 0 i) = (FloatOps.sitofp (F := Ideal) FTy.f32 (colW t.val) : EReal) * freq i.val := by
  rw [← col_at V0]
  pointwise [res_main_v51]
  rfl
/-- The angles of the keys' row half. -/
theorem v85_at (t : Fin 4096) (i : Fin 8) : res_main_v85 V0 (ix2 t i) = (FloatOps.sitofp (F := Ideal) FTy.f32 (rowW t.val) : EReal) * freq i.val := by
  rw [← row_at V0]
  pointwise [res_main_v85]
  rfl
/-- The angles of the keys' column half. -/
theorem v117_at (t : Fin 4096) (i : Fin 8) : res_main_v117 V0 (ix2 t i) = (FloatOps.sitofp (F := Ideal) FTy.f32 (colW t.val) : EReal) * freq i.val := by
  rw [← col_at V0]
  pointwise [res_main_v117]
  rfl

theorem v19_at (t : Fin 4096) (i : Fin 8) : res_main_v19 V0 (ix3 t 0 i) = Ideal.cos (res_main_v18 V0 (ix3 t 0 i)) := rfl
theorem v20_at (t : Fin 4096) (i : Fin 8) : res_main_v20 V0 (ix3 t 0 i) = Ideal.sin (res_main_v18 V0 (ix3 t 0 i)) := rfl
theorem v52_at (t : Fin 4096) (i : Fin 8) : res_main_v52 V0 (ix3 t 0 i) = Ideal.cos (res_main_v51 V0 (ix3 t 0 i)) := rfl
theorem v53_at (t : Fin 4096) (i : Fin 8) : res_main_v53 V0 (ix3 t 0 i) = Ideal.sin (res_main_v51 V0 (ix3 t 0 i)) := rfl
theorem v86_at (t : Fin 4096) (i : Fin 8) : res_main_v86 V0 (ix2 t i) = Ideal.cos (res_main_v85 V0 (ix2 t i)) := rfl
theorem v87_at (t : Fin 4096) (i : Fin 8) : res_main_v87 V0 (ix2 t i) = Ideal.sin (res_main_v85 V0 (ix2 t i)) := rfl
theorem v118_at (t : Fin 4096) (i : Fin 8) : res_main_v118 V0 (ix2 t i) = Ideal.cos (res_main_v117 V0 (ix2 t i)) := rfl
theorem v119_at (t : Fin 4096) (i : Fin 8) : res_main_v119 V0 (ix2 t i) = Ideal.sin (res_main_v117 V0 (ix2 t i)) := rfl

end Cert.MlaRefVal

end
-- ==== Proof.RScore.lean ====
module

public import proofs.«01_k».proof.Proof.RAng

@[expose] public section

set_option maxRecDepth 16384

noncomputable section

namespace Cert.Rope

open Idealize.ShloMosaic

theorem ang_row (t j : ℕ) (h : j < 16) : ang t j = (FloatOps.sitofp (F := Ideal) FTy.f32 (rowW t) : EReal) * freq (j % 8) := by
  unfold ang; rw [if_pos h]
theorem ang_col (t j : ℕ) (h : ¬ j < 16) : ang t j = (FloatOps.sitofp (F := Ideal) FTy.f32 (colW t) : EReal) * freq (j % 8) := by
  unfold ang; rw [if_neg h]

section
variable (f : ℕ → EReal) (t i : ℕ) (hi : i < 8)
include hi

/-- The first eight lanes turn by the row, with the next eight. -/
theorem rope_0 : rope f t i = f i * Ideal.cos ((FloatOps.sitofp (F := Ideal) FTy.f32 (rowW t) : EReal) * freq i)
    - f (i + 8) * Ideal.sin ((FloatOps.sitofp (F := Ideal) FTy.f32 (rowW t) : EReal) * freq i) := by
  unfold rope
  rw [if_pos (by omega), ang_row _ _ (by omega), Nat.mod_eq_of_lt hi]
theorem rope_8 : rope f t (i + 8) = f i * Ideal.sin ((FloatOps.sitofp (F := Ideal) FTy.f32 (rowW t) : EReal) * freq i)
    + f (i + 8) * Ideal.cos ((FloatOps.sitofp (F := Ideal) FTy.f32 (rowW t) : EReal) * freq i) := by
  unfold rope
  rw [if_neg (by omega), ang_row _ _ (by omega), show (i + 8) % 8 = i by omega, show i + 8 - 8 = i by omega]
/-- The last sixteen lanes turn by the column. -/
theorem rope_16 : rope f t (i + 16) = f (i + 16) * Ideal.cos ((FloatOps.sitofp (F := Ideal) FTy.f32 (colW t) : EReal) * freq i)
    - f (i + 24) * Ideal.sin ((FloatOps.sitofp (F := Ideal) FTy.f32 (colW t) : EReal) * freq i) := by
  unfold rope
  rw [if_pos (by omega), ang_col _ _ (by omega), show (i + 16) % 8 = i by omega]
theorem rope_24 : rope f t (i + 24) = f (i + 16) * Ideal.sin ((FloatOps.sitofp (F := Ideal) FTy.f32 (colW t) : EReal) * freq i)
    + f (i + 24) * Ideal.cos ((FloatOps.sitofp (F := Ideal) FTy.f32 (colW t) : EReal) * freq i) := by
  unfold rope
  rw [if_neg (by omega), ang_col _ _ (by omega), show (i + 24) % 8 = i by omega, show i + 24 - 8 = i + 16 by omega]

end

/-- The 32 turned lanes, as four pieces of eight laid end to end after 64 lanes of their own. -/
theorem turned_lanes (x : ℕ) (hx : x < 96) (z : x < 64 → EReal) (w : EReal) (hz : ∀ h, z h = w)
    (a1 a2 a3 a4 c1 s1 c2 s2 : Fin 8 → EReal) (f : ℕ → EReal) (t : ℕ)
    (h1 : ∀ i, a1 i = f i.val) (h2 : ∀ i, a2 i = f (i.val + 8)) (h3 : ∀ i, a3 i = f (i.val + 16)) (h4 : ∀ i, a4 i = f (i.val + 24))
    (hc1 : ∀ i, c1 i = Ideal.cos ((FloatOps.sitofp (F := Ideal) FTy.f32 (rowW t) : EReal) * freq i.val))
    (hs1 : ∀ i, s1 i = Ideal.sin ((FloatOps.sitofp (F := Ideal) FTy.f32 (rowW t) : EReal) * freq i.val))
    (hc2 : ∀ i, c2 i = Ideal.cos ((FloatOps.sitofp (F := Ideal) FTy.f32 (colW t) : EReal) * freq i.val))
    (hs2 : ∀ i, s2 i = Ideal.sin ((FloatOps.sitofp (F := Ideal) FTy.f32 (colW t) : EReal) * freq i.val)) :
    (if g1 : x < 64 then z g1
      else if g2 : x - 64 < 16 then
        if g3 : x - 64 < 8 then a1 ⟨x - 64, g3⟩ * c1 ⟨x - 64, g3⟩ - a2 ⟨x - 64, g3⟩ * s1 ⟨x - 64, g3⟩
        else a1 ⟨x - 64 - 8, by omega⟩ * s1 ⟨x - 64 - 8, by omega⟩ + a2 ⟨x - 64 - 8, by omega⟩ * c1 ⟨x - 64 - 8, by omega⟩
      else
        if g3 : x - 64 - 16 < 8 then a3 ⟨x - 64 - 16, g3⟩ * c2 ⟨x - 64 - 16, g3⟩ - a4 ⟨x - 64 - 16, g3⟩ * s2 ⟨x - 64 - 16, g3⟩
        else a3 ⟨x - 64 - 16 - 8, by omega⟩ * s2 ⟨x - 64 - 16 - 8, by omega⟩ + a4 ⟨x - 64 - 16 - 8, by omega⟩ * c2 ⟨x - 64 - 16 - 8, by omega⟩)
      = if 64 ≤ x ∧ x - 64 < 32 then rope f t (x - 64) else w := by
  by_cases g1 : x < 64
  · rw [dif_pos g1, if_neg (by omega), hz]
  · rw [dif_neg g1, if_pos ⟨by omega, by omega⟩]
    by_cases g2 : x - 64 < 16
    · rw [dif_pos g2]
      by_cases g3 : x - 64 < 8
      · rw [dif_pos g3, h1, h2, hc1, hs1, rope_0 _ _ _ g3]
      · rw [dif_neg g3, h1, h2, hc1, hs1]
        refine Eq.trans ?_ (congrArg (rope _ _) (show x - 64 - 8 + 8 = x - 64 by omega))
        rw [rope_8 _ _ _ (by omega)]
    · rw [dif_neg g2]
      by_cases g3 : x - 64 - 16 < 8
      · rw [dif_pos g3, h3, h4, hc2, hs2]
        refine Eq.trans ?_ (congrArg (rope _ _) (show x - 64 - 16 + 16 = x - 64 by omega))
        rw [rope_16 _ _ _ (by omega)]
      · rw [dif_neg g3, h3, h4, hc2, hs2]
        refine Eq.trans ?_ (congrArg (rope _ _) (show x - 64 - 16 - 8 + 24 = x - 64 by omega))
        rw [rope_24 _ _ _ (by omega)]

/-- The key lanes: a sample token's 64 own lanes and its 32 turned ones, or a prompt token's 64 and 32. -/
theorem key_lanes (Kn : Fin 8 → Fin 4096 → Fin 4 → Fin 64 → EReal) (Kr : Fin 8 → Fin 4096 → Fin 32 → EReal)
    (Cn : Fin 8 → Fin 512 → Fin 4 → Fin 64 → EReal) (Cr : Fin 8 → Fin 512 → Fin 32 → EReal)
    (b : Fin 8) (h : Fin 4) (k : Fin 4608) (x : Fin 96)
    (a1 a2 a3 a4 c1 s1 c2 s2 : Fin 4096 → Fin 8 → EReal)
    (h1 : ∀ t i, a1 t i = ext (Kr b t) i.val) (h2 : ∀ t i, a2 t i = ext (Kr b t) (i.val + 8))
    (h3 : ∀ t i, a3 t i = ext (Kr b t) (i.val + 16)) (h4 : ∀ t i, a4 t i = ext (Kr b t) (i.val + 24))
    (hc1 : ∀ t i, c1 t i = Ideal.cos ((FloatOps.sitofp (F := Ideal) FTy.f32 (rowW t.val) : EReal) * freq i.val))
    (hs1 : ∀ t i, s1 t i = Ideal.sin ((FloatOps.sitofp (F := Ideal) FTy.f32 (rowW t.val) : EReal) * freq i.val))
    (hc2 : ∀ t i, c2 t i = Ideal.cos ((FloatOps.sitofp (F := Ideal) FTy.f32 (colW t.val) : EReal) * freq i.val))
    (hs2 : ∀ t i, s2 t i = Ideal.sin ((FloatOps.sitofp (F := Ideal) FTy.f32 (colW t.val) : EReal) * freq i.val)) :
    (if hk : k.val < 4096 then
      if g1 : x.val < 64 then Kn b ⟨k.val, hk⟩ h ⟨x.val, g1⟩
      else if g2 : x.val - 64 < 16 then
        if g3 : x.val - 64 < 8 then a1 ⟨k.val, hk⟩ ⟨x.val - 64, g3⟩ * c1 ⟨k.val, hk⟩ ⟨x.val - 64, g3⟩ - a2 ⟨k.val, hk⟩ ⟨x.val - 64, g3⟩ * s1 ⟨k.val, hk⟩ ⟨x.val - 64, g3⟩
        else a1 ⟨k.val, hk⟩ ⟨x.val - 64 - 8, by omega⟩ * s1 ⟨k.val, hk⟩ ⟨x.val - 64 - 8, by omega⟩ + a2 ⟨k.val, hk⟩ ⟨x.val - 64 - 8, by omega⟩ * c1 ⟨k.val, hk⟩ ⟨x.val - 64 - 8, by omega⟩
      else
        if g3 : x.val - 64 - 16 < 8 then a3 ⟨k.val, hk⟩ ⟨x.val - 64 - 16, g3⟩ * c2 ⟨k.val, hk⟩ ⟨x.val - 64 - 16, g3⟩ - a4 ⟨k.val, hk⟩ ⟨x.val - 64 - 16, g3⟩ * s2 ⟨k.val, hk⟩ ⟨x.val - 64 - 16, g3⟩
        else a3 ⟨k.val, hk⟩ ⟨x.val - 64 - 16 - 8, by omega⟩ * s2 ⟨k.val, hk⟩ ⟨x.val - 64 - 16 - 8, by omega⟩ + a4 ⟨k.val, hk⟩ ⟨x.val - 64 - 16 - 8, by omega⟩ * c2 ⟨k.val, hk⟩ ⟨x.val - 64 - 16 - 8, by omega⟩
    else
      if g1 : x.val < 64 then Cn b ⟨k.val - 4096, by omega⟩ h ⟨x.val, g1⟩
      else Cr b ⟨k.val - 4096, by omega⟩ ⟨x.val - 64, by omega⟩) = keys Kn Kr Cn Cr b h k x.val := by
  unfold keys
  by_cases hk : k.val < 4096
  · refine (dif_pos hk).trans (Eq.trans ?_ (dif_pos hk).symm)
    exact turned_lanes x.val x.isLt (fun g => Kn b ⟨k.val, hk⟩ h ⟨x.val, g⟩) (ext (Kn b ⟨k.val, hk⟩ h) x.val)
      (fun g => (ext_lt (Kn b ⟨k.val, hk⟩ h) x.val g).symm) (a1 ⟨k.val, hk⟩) (a2 ⟨k.val, hk⟩) (a3 ⟨k.val, hk⟩) (a4 ⟨k.val, hk⟩)
      (c1 ⟨k.val, hk⟩) (s1 ⟨k.val, hk⟩) (c2 ⟨k.val, hk⟩) (s2 ⟨k.val, hk⟩) (ext (Kr b ⟨k.val, hk⟩)) k.val
      (h1 _) (h2 _) (h3 _) (h4 _) (hc1 _) (hs1 _) (hc2 _) (hs2 _)
  · refine (dif_neg hk).trans (Eq.trans ?_ (dif_neg hk).symm)
    unfold cvec
    by_cases g1 : x.val < 64
    · rw [dif_pos g1, if_neg (by omega), ext_lt _ _ g1]
    · rw [dif_neg g1, if_pos ⟨by omega, by omega⟩, ext_lt _ _ (by omega)]

end Cert.Rope

namespace Cert.MlaRefVal

open Idealize.ShloMosaic Idealize.ShloMosaic.TcCoe Idealize.SL.Sem
open Cert.MlaRefIdeal Cert.MlaRefIdeal.Gen Cert.MlaRefIdeal.Value Cert.Rope

variable (V0 : Valuation τ sig (Elt Ideal))

/-- The arguments, as functions of their indices. -/
def B0 (b : Fin 8) (t : Fin 4096) (h : Fin 4) (x : Fin 96) : EReal := V0 (Proc.devRef .tc main_arg0) (ix4 b t h x)
def B1 (b : Fin 8) (t : Fin 4096) (h : Fin 4) (x : Fin 64) : EReal := V0 (Proc.devRef .tc main_arg1) (ix4 b t h x)
def B2 (b : Fin 8) (t : Fin 4096) (x : Fin 32) : EReal := V0 (Proc.devRef .tc main_arg2) (ix3 b t x)
def B3 (b : Fin 8) (t : Fin 4096) (h : Fin 4) (x : Fin 64) : EReal := V0 (Proc.devRef .tc main_arg3) (ix4 b t h x)
def B4 (b : Fin 8) (t : Fin 512) (h : Fin 4) (x : Fin 64) : EReal := V0 (Proc.devRef .tc main_arg4) (ix4 b t h x)
def B5 (b : Fin 8) (t : Fin 512) (x : Fin 32) : EReal := V0 (Proc.devRef .tc main_arg5) (ix3 b t x)
def B6 (b : Fin 8) (t : Fin 512) (h : Fin 4) (x : Fin 64) : EReal := V0 (Proc.devRef .tc main_arg6) (ix4 b t h x)

theorem v21_at (b : Fin 8) (t : Fin 4096) (h : Fin 4) (i : Fin 8) : res_main_v21 V0 (ix4 b t h i) = ext (B0 V0 b t h) (64 + i.val) := by
  rw [ext_lt _ _ (by omega)]
  pointwise [res_main_v21, res_main_v5, res_main_v4, B0]
theorem v22_at (b : Fin 8) (t : Fin 4096) (h : Fin 4) (i : Fin 8) : res_main_v22 V0 (ix4 b t h i) = ext (B0 V0 b t h) (64 + (i.val + 8)) := by
  rw [ext_lt _ _ (by omega)]
  pointwise [res_main_v22, res_main_v5, res_main_v4, B0]
  exact congrArg (fun z : Fin 96 => V0 (Proc.devRef .tc main_arg0) (ix4 b t h z)) (Fin.ext (by show 64 + (8 + i.val) = 64 + (i.val + 8); omega))
theorem v54_at (b : Fin 8) (t : Fin 4096) (h : Fin 4) (i : Fin 8) : res_main_v54 V0 (ix4 b t h i) = ext (B0 V0 b t h) (64 + (i.val + 16)) := by
  rw [ext_lt _ _ (by omega)]
  pointwise [res_main_v54, res_main_v38, res_main_v4, B0]
  exact congrArg (fun z : Fin 96 => V0 (Proc.devRef .tc main_arg0) (ix4 b t h z)) (Fin.ext (by show 64 + (16 + i.val) = 64 + (i.val + 16); omega))
theorem v55_at (b : Fin 8) (t : Fin 4096) (h : Fin 4) (i : Fin 8) : res_main_v55 V0 (ix4 b t h i) = ext (B0 V0 b t h) (64 + (i.val + 24)) := by
  rw [ext_lt _ _ (by omega)]
  pointwise [res_main_v55, res_main_v38, res_main_v4, B0]
  exact congrArg (fun z : Fin 96 => V0 (Proc.devRef .tc main_arg0) (ix4 b t h z)) (Fin.ext (by show 64 + (16 + (8 + i.val)) = 64 + (i.val + 24); omega))
theorem v88_at (b : Fin 8) (t : Fin 4096) (i : Fin 8) : res_main_v88 V0 (ix3 b t i) = ext (B2 V0 b t) i.val := by
  rw [ext_lt _ _ (by omega)]
  pointwise [res_main_v88, res_main_v73, B2]
theorem v89_at (b : Fin 8) (t : Fin 4096) (i : Fin 8) : res_main_v89 V0 (ix3 b t i) = ext (B2 V0 b t) (i.val + 8) := by
  rw [ext_lt _ _ (by omega)]
  pointwise [res_main_v89, res_main_v73, B2]
  exact congrArg (fun z : Fin 32 => V0 (Proc.devRef .tc main_arg2) (ix3 b t z)) (Fin.ext (by show 8 + i.val = i.val + 8; omega))
theorem v120_at (b : Fin 8) (t : Fin 4096) (i : Fin 8) : res_main_v120 V0 (ix3 b t i) = ext (B2 V0 b t) (i.val + 16) := by
  rw [ext_lt _ _ (by omega)]
  pointwise [res_main_v120, res_main_v105, B2]
  exact congrArg (fun z : Fin 32 => V0 (Proc.devRef .tc main_arg2) (ix3 b t z)) (Fin.ext (by show 16 + i.val = i.val + 16; omega))
theorem v121_at (b : Fin 8) (t : Fin 4096) (i : Fin 8) : res_main_v121 V0 (ix3 b t i) = ext (B2 V0 b t) (i.val + 24) := by
  rw [ext_lt _ _ (by omega)]
  pointwise [res_main_v121, res_main_v105, B2]
  exact congrArg (fun z : Fin 32 => V0 (Proc.devRef .tc main_arg2) (ix3 b t z)) (Fin.ext (by show 16 + (8 + i.val) = i.val + 24; omega))

/-- The reference's unscaled scores, over the 96 lanes. -/
theorem v146_at (b : Fin 8) (q : Fin 4096) (h : Fin 4) (k : Fin 4608) (z : EReal)
    (hz : z = ∑ x : Fin 96, qvec (B0 V0) b q h x.val * keys (B1 V0) (B2 V0) (B4 V0) (B5 V0) b h k x.val) :
    res_main_v146 V0 (ix4 b h q k) = z := by
  pointwise [res_main_v146]
  rw [hz]
  refine @Finset.sum_congr _ EReal _ _ _ _ _ rfl fun x _ => congrArg₂ (fun u v : EReal => u * v) ?_ ?_
  · exact turned_lanes x.val x.isLt (fun _ => V0 (Proc.devRef .tc main_arg0) (ix4 b q h x)) (ext (B0 V0 b q h) x.val) (fun _ => (ext_lt (B0 V0 b q h) x.val x.isLt).symm)
      (fun i => res_main_v21 V0 (ix4 b q h i)) (fun i => res_main_v22 V0 (ix4 b q h i)) (fun i => res_main_v54 V0 (ix4 b q h i)) (fun i => res_main_v55 V0 (ix4 b q h i))
      (fun i => res_main_v19 V0 (ix3 q 0 i)) (fun i => res_main_v20 V0 (ix3 q 0 i)) (fun i => res_main_v52 V0 (ix3 q 0 i)) (fun i => res_main_v53 V0 (ix3 q 0 i))
      (fun j => ext (B0 V0 b q h) (64 + j)) q.val
      (v21_at V0 b q h) (v22_at V0 b q h) (v54_at V0 b q h) (v55_at V0 b q h)
      (fun i => by rw [v19_at, v18_at]) (fun i => by rw [v20_at, v18_at]) (fun i => by rw [v52_at, v51_at]) (fun i => by rw [v53_at, v51_at])
  · exact key_lanes (B1 V0) (B2 V0) (B4 V0) (B5 V0) b h k x
      (fun t i => res_main_v88 V0 (ix3 b t i)) (fun t i => res_main_v89 V0 (ix3 b t i)) (fun t i => res_main_v120 V0 (ix3 b t i)) (fun t i => res_main_v121 V0 (ix3 b t i))
      (fun t i => res_main_v86 V0 (ix2 t i)) (fun t i => res_main_v87 V0 (ix2 t i)) (fun t i => res_main_v118 V0 (ix2 t i)) (fun t i => res_main_v119 V0 (ix2 t i))
      (v88_at V0 b) (v89_at V0 b) (v120_at V0 b) (v121_at V0 b)
      (fun t i => by rw [v86_at, v85_at]) (fun t i => by rw [v87_at, v85_at]) (fun t i => by rw [v118_at, v117_at]) (fun t i => by rw [v119_at, v117_at])

/-- Scaling an array by the literal. -/
theorem scaled_at (u : FVec Ideal S8x4x4096x4608 .f32) (b : Fin 8) (q : Fin 4096) (h : Fin 4) (k : Fin 4608) (z : EReal) (hz : z = u (ix4 b h q k) * scale) :
    mulf u (broadcastInDim S8x4x4096x4608 ![] bcast_S_S8x4x4096x4608 (constant S_ .f32 0x3DD105EC#32)) (ix4 b h q k) = z := by
  pointwise []
  rw [hz]
  rfl

/-- The reference's scores. -/
theorem v148_at (b : Fin 8) (q : Fin 4096) (h : Fin 4) (k : Fin 4608) (z : EReal) (hz : z = sco (B0 V0) (B1 V0) (B2 V0) (B4 V0) (B5 V0) b q h k) :
    res_main_v148 V0 (ix4 b h q k) = z := by
  unfold res_main_v148
  refine scaled_at _ b q h k z ?_
  rw [hz, v146_at V0 b q h k _ rfl]
  rfl

end Cert.MlaRefVal

end
-- ==== Proof.RSoft.lean ====
module

public import proofs.«01_k».proof.Proof.Gen.MlaRefIdeal.Run
public import proofs.«01_k».proof.Proof.Spec
public import Idealize.ShloMosaic.Lib.Pointwise

@[expose] public section

set_option maxRecDepth 16384

noncomputable section

namespace Cert.MlaRefVal

open Idealize.ShloMosaic Idealize.ShloMosaic.TcCoe Idealize.SL.Sem
open Cert.MlaRefIdeal Cert.MlaRefIdeal.Gen Cert.MlaRefIdeal.Value Cert.Rope Cert.Flash

variable (s e : FVec Ideal S8x4x4096x4608 .f32) (w : FVec Ideal S8x4x4096 .f32)

/-- The row maxima of the scores, as the reference takes them. -/
def rowMax : FVec Ideal S8x4x4096 .f32 :=
  maximumf (broadcastInDim S8x4x4096 ![] bcast_S_S8x4x4096 (constant S_ .f32 0xFF800000#32)) (Host.reduce FloatOps.maximumf s (constant S_ .f32 0xFF800000#32) reducesTo_S8x4x4096x4608_S8x4x4096_d3 h_S_)

/-- The exponentials of the scores less a row's number. -/
def expOf : FVec Ideal S8x4x4096x4608 .f32 :=
  Host.exp (subf s (broadcastInDim S8x4x4096x4608 ![0, 1, 2, 3] bcast_S8x4x4096x1_S8x4x4096x4608_0_1_2_3 (broadcastInDim S8x4x4096x1 ![0, 1, 2] bcast_S8x4x4096_S8x4x4096x1_0_1_2 w)))

theorem expOf_at (b : Fin 8) (h : Fin 4) (q : Fin 4096) (k : Fin 4608) :
    expOf s w (ix4 b h q k) = Ideal.exp (s (ix4 b h q k) - w (ix3 b h q)) := by
  pointwise [expOf]

/-- The row sums. -/
def rowSum : FVec Ideal S8x4x4096 .f32 := Host.reduceAdd e (constant S_ .f32 0x00000000#32) reducesTo_S8x4x4096x4608_S8x4x4096_d3 h_S_

theorem rowSum_at (b : Fin 8) (h : Fin 4) (q : Fin 4096) (z : EReal) (hz : z = ∑ k : Fin 4608, e (ix4 b h q k)) : rowSum e (ix3 b h q) = z := by
  pointwise [rowSum]
  rw [hz]

/-- A left fold of maxima over real numbers, started at a real, is real. -/
theorem foldl_max_real {ι : Type} (f : ι → EReal) (hf : ∀ i, IsR (f i)) :
    ∀ (l : List ι) (z : EReal), IsR z → IsR (l.foldl (fun r n => max r (f n)) z)
  | [], z, hz => hz
  | a :: l, z, hz => by
    rw [List.foldl_cons]
    refine foldl_max_real f hf l _ ?_
    obtain ⟨x, rfl⟩ := hz
    obtain ⟨y, hy⟩ := hf a
    rw [hy]
    exact ⟨max x y, by rcases le_total x y with h | h <;> simp [h]⟩

/-- A left fold of maxima over real numbers, started at minus infinity, is real once there is a number. -/
theorem foldl_max_real' {ι : Type} (f : ι → EReal) (hf : ∀ i, IsR (f i)) (l : List ι) (i : ι) (hi : i ∈ l) :
    IsR (l.foldl (fun r n => max r (f n)) ⊥) := by
  cases l with
  | nil => exact absurd hi List.not_mem_nil
  | cons a l =>
    rw [List.foldl_cons]
    refine foldl_max_real f hf l _ ?_
    rw [max_eq_right bot_le]
    exact hf a

theorem bot_word : Ideal.ofBits FTy.f32 0xFF800000#32 = ⊥ := by simp [Ideal.ofBits, Ideal.ieee]

/-- The maximum along a row that has an index is real when all the numbers are. -/
theorem reduce_max_real {s t u : Shape} {axes : List (Fin s.rank)} (x : FVec Ideal s .f32) (init : FVec Ideal u .f32) (h : s.ReducesTo axes t)
    (hu : 0 < u.numel) (j : t.Idx) (i : s.Idx) (hi : h.drop i = j) (hx : ∀ i, IsR (x i)) (h0 : init (Shape.Idx.first hu) = (⊥ : EReal)) :
    IsR (Host.reduce (α := Ideal .f32) FloatOps.maximumf x init h hu j) := by
  rw [Host.reduce_eq_foldl, h0]
  refine foldl_max_real' (fun i => x i) hx _ i ?_
  rw [List.mem_filter]
  exact ⟨List.mem_map.2 ⟨s.rowMajor i, List.mem_finRange _, Equiv.symm_apply_apply _ _⟩, by simp [hi]⟩

theorem maxBot_at (r : FVec Ideal S8x4x4096 .f32) (j : S8x4x4096.Idx) :
    maximumf (broadcastInDim S8x4x4096 ![] bcast_S_S8x4x4096 (constant S_ .f32 0xFF800000#32)) r j = max (Ideal.ofBits FTy.f32 0xFF800000#32) (r j) := rfl

/-- A row of real scores has a real maximum. -/
theorem rowMax_real (hs : ∀ i, IsR (s i)) (b : Fin 8) (h : Fin 4) (q : Fin 4096) : IsR (rowMax s (ix3 b h q)) := by
  unfold rowMax
  rw [maxBot_at, bot_word, max_eq_right bot_le]
  refine reduce_max_real s _ _ _ _ (ix4 b h q 0) ?_ hs bot_word
  funext a
  apply Fin.ext
  match a with
  | ⟨0, _⟩ => rfl
  | ⟨1, _⟩ => rfl
  | ⟨2, _⟩ => rfl

/-- A sum over the 4608 keys is the sum over the sample tokens and the sum over the prompt tokens. -/
theorem sum_halves (f : Fin 4096 → EReal) (g : Fin 512 → EReal) (T : Fin 4608 → EReal) :
    ∑ x : Fin 4096, f x * T ⟨x.val, by omega⟩ + ∑ x : Fin 512, g x * T ⟨4096 + x.val, by omega⟩
      = ∑ k : Fin 4608, (if h : k.val < 4096 then f ⟨k.val, h⟩ else g ⟨k.val - 4096, by omega⟩) * T k := by
  rw [Fin.sum_univ_two_halves 4096 512 rfl (fun k : Fin 4608 => (if h : k.val < 4096 then f ⟨k.val, h⟩ else g ⟨k.val - 4096, by omega⟩) * T k)]
  refine congrArg₂ (fun u v : EReal => u + v) (Finset.sum_congr rfl fun x _ => ?_) (Finset.sum_congr rfl fun x _ => ?_)
  · rw [dif_pos x.isLt]
  · rw [dif_neg (show ¬ 4096 + x.val < 4096 by omega)]
    have e : (⟨4096 + x.val - 4096, by omega⟩ : Fin 512) = x := Fin.ext (by show 4096 + x.val - 4096 = x.val; omega)
    rw [e]

variable (V : FVec Ideal S8x4096x4x64 .f32) (Vc : FVec Ideal S8x512x4x64 .f32)

/-- The weighted sum of the values, laid out as the reference returns it. -/
def outOf : FVec Ideal S32768x256 .f32 :=
  shapeCast _ (transpose S8x4096x4x64 [0, 3, 1, 2] (Host.dotGeneral dot_S8x4608x4x64_S8x4x4096x4608_S8x4x64x4096_1_3_3_2_02_01 none (concatenate S8x4608x4x64 1 [⟨S8x4096x4x64, V⟩, ⟨S8x512x4x64, Vc⟩] concatenates_S8x4096x4x64_S8x512x4x64_S8x4608x4x64_d1) (Host.divf e (broadcastInDim S8x4x4096x4608 ![0, 1, 2, 3] bcast_S8x4x4096x1_S8x4x4096x4608_0_1_2_3 (broadcastInDim S8x4x4096x1 ![0, 1, 2] bcast_S8x4x4096_S8x4x4096x1_0_1_2 w)))) transposes_S8x4x64x4096_S8x4096x4x64_0_3_1_2) shapeCasts_S8x4096x4x64_S32768x256

theorem outOf_at (r : Fin 32768) (l : Fin 256) (z : EReal) (hz : z = ∑ k : Fin 4608,
    (if h : k.val < 4096 then V (ix4 ⟨r.val / 4096, by omega⟩ ⟨k.val, h⟩ ⟨l.val / 64, by omega⟩ ⟨l.val % 64, by omega⟩)
      else Vc (ix4 ⟨r.val / 4096, by omega⟩ ⟨k.val - 4096, by omega⟩ ⟨l.val / 64, by omega⟩ ⟨l.val % 64, by omega⟩)) *
    Ideal.div (e (ix4 ⟨r.val / 4096, by omega⟩ ⟨l.val / 64, by omega⟩ ⟨r.val % 4096, by omega⟩ k)) (w (ix3 ⟨r.val / 4096, by omega⟩ ⟨l.val / 64, by omega⟩ ⟨r.val % 4096, by omega⟩))) :
    outOf e w V Vc (ix2 r l) = z := by
  pointwise [outOf]
  rw [hz]
  exact sum_halves (fun x => V (ix4 ⟨r.val / 4096, by omega⟩ x ⟨l.val / 64, by omega⟩ ⟨l.val % 64, by omega⟩))
    (fun x => Vc (ix4 ⟨r.val / 4096, by omega⟩ x ⟨l.val / 64, by omega⟩ ⟨l.val % 64, by omega⟩))
    (fun k => Ideal.div (e (ix4 ⟨r.val / 4096, by omega⟩ ⟨l.val / 64, by omega⟩ ⟨r.val % 4096, by omega⟩ k)) (w (ix3 ⟨r.val / 4096, by omega⟩ ⟨l.val / 64, by omega⟩ ⟨r.val % 4096, by omega⟩)))

end Cert.MlaRefVal

end
-- ==== Proof.RVal.lean ====
module

public import proofs.«01_k».proof.Proof.RScore
public import proofs.«01_k».proof.Proof.RSoft

@[expose] public section

set_option maxRecDepth 16384

noncomputable section

namespace Cert.MlaRefVal

open Idealize.ShloMosaic Idealize.ShloMosaic.TcCoe Idealize.SL.Sem
open Idealize.ShloMosaic.StableHlo
open Cert.MlaRefIdeal Cert.MlaRefIdeal.Gen Cert.MlaRefIdeal.Value Cert.Rope Cert.Flash

variable (V0 : Valuation τ sig (Elt Ideal))

/-- The reference's exponentials, from its scores. -/
theorem v155_eq : res_main_v155 V0 = expOf (res_main_v148 V0) (rowMax (res_main_v148 V0)) := by
  unfold res_main_v155 expOf rowMax
  rfl

/-- The reference's result. -/
def refOut : FVec Ideal S32768x256 .f32 :=
  outOf (expOf (res_main_v148 V0) (rowMax (res_main_v148 V0))) (rowSum (expOf (res_main_v148 V0) (rowMax (res_main_v148 V0)))) (V0 (Proc.devRef .tc main_arg3)) (V0 (Proc.devRef .tc main_arg6))

variable (h0 : ∀ b t h x, IsR (B0 V0 b t h x)) (h1 : ∀ b t h x, IsR (B1 V0 b t h x)) (h2 : ∀ b t x, IsR (B2 V0 b t x))
  (h4 : ∀ b t h x, IsR (B4 V0 b t h x)) (h5 : ∀ b t x, IsR (B5 V0 b t x))

include h0 h1 h2 h4 h5

/-- Real queries and keys give real scores. -/
theorem v148_real (i : S8x4x4096x4608.Idx) : IsR (res_main_v148 V0 i) := by
  rw [eq_ix4 i]
  have e := v148_at V0 (i 0) (i 2) (i 1) (i 3) _ rfl
  exact (congrArg IsR e).mpr (sco_real _ h0 _ h1 _ h2 _ h4 _ h5 _ _ _ _)

/-- The reference's result at a token and a lane: the softmax-weighted sum of the values, shifted by a real number. -/
theorem refOut_at (r : Fin 32768) (l : Fin 256) (b : Fin 8) (hb : b = ⟨r.val / 4096, by omega⟩) (t : Fin 4096) (ht : t = ⟨r.val % 4096, by omega⟩)
    (h : Fin 4) (hh : h = ⟨l.val / 64, by omega⟩) (v : Fin 64) (hv : v = ⟨l.val % 64, by omega⟩) :
    ∃ M : EReal, IsR M ∧ refOut V0 (ix2 r l) = ∑ k : Fin 4608, vals (B3 V0) (B6 V0) b h v k *
      Ideal.div (Ideal.exp (sco (B0 V0) (B1 V0) (B2 V0) (B4 V0) (B5 V0) b t h k - M)) (∑ k' : Fin 4608, Ideal.exp (sco (B0 V0) (B1 V0) (B2 V0) (B4 V0) (B5 V0) b t h k' - M)) := by
  refine ⟨rowMax (res_main_v148 V0) (ix3 b h t), rowMax_real _ (v148_real V0 h0 h1 h2 h4 h5) b h t, ?_⟩
  have he : ∀ k, expOf (res_main_v148 V0) (rowMax (res_main_v148 V0)) (ix4 b h t k)
      = Ideal.exp (sco (B0 V0) (B1 V0) (B2 V0) (B4 V0) (B5 V0) b t h k - rowMax (res_main_v148 V0) (ix3 b h t)) := fun k =>
    (expOf_at _ _ b h t k).trans (congrArg (fun z : EReal => Ideal.exp (z - rowMax (res_main_v148 V0) (ix3 b h t))) (v148_at V0 b t h k _ rfl))
  have hs : rowSum (expOf (res_main_v148 V0) (rowMax (res_main_v148 V0))) (ix3 b h t)
      = ∑ k' : Fin 4608, Ideal.exp (sco (B0 V0) (B1 V0) (B2 V0) (B4 V0) (B5 V0) b t h k' - rowMax (res_main_v148 V0) (ix3 b h t)) :=
    rowSum_at _ b h t _ (@Finset.sum_congr _ EReal _ _ _ _ _ rfl fun k _ => (he k).symm)
  refine outOf_at _ _ _ _ r l _ ?_
  subst hb ht hh hv
  refine @Finset.sum_congr _ EReal _ _ _ _ _ rfl fun k _ => congrArg₂ (fun u v : EReal => u * v) ?_ ?_
  · rfl
  · exact congrArg₂ Ideal.div (he k).symm hs.symm

omit h0 h1 h2 h4 h5 in
theorem refOut_eq : outOf (res_main_v155 V0) (rowSum (res_main_v155 V0)) (V0 (Proc.devRef .tc main_arg3)) (V0 (Proc.devRef .tc main_arg6)) = refOut V0 := by
  rw [v155_eq]
  rfl

omit h0 h1 h2 h4 h5 in
/-- Every execution of the reference ends with `refOut` of the arguments, and leaves the arguments. -/
theorem runR (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v162) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (refOut_eq (launchContents m c)), (h c).2⟩) (Cert.MlaRefIdeal.Value.run (F := Ideal) m ρ)

end Cert.MlaRefVal
end
-- ==== Proof.KDefs.lean ====
module

public import proofs.«01_k».proof.Proof.Gen.MlaIdeal.Frame
public import proofs.«01_k».proof.Proof.Flash
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlaVal

open Idealize.ShloMosaic Idealize.ShloMosaic.TcCoe Idealize.SL.Sem
open Cert.MlaIdeal Cert.MlaIdeal.Gen Cert.Flash
open Idealize.ShloMosaic.Pipeline (Dat)

variable (m : (ℓ : Loc nD τ sig) → Buf (Elt Ideal) ℓ) (c : Dev nD)

/-- Lane `x` of head `h` among the 512 lanes. -/
def lane (h : Fin 4) (x : Fin 128) : Fin 512 := ⟨128 * h.val + x.val, by omega⟩
/-- Row `v` of head `h` among the 256 rows of the transposed values. -/
def vrow (h : Fin 4) (v : Fin 64) : Fin 256 := ⟨64 * h.val + v.val, by omega⟩

theorem vrow_val (h : Fin 4) (v : Fin 64) : (vrow h v).val = 64 * h.val + v.val := rfl

/-- Stores over a fill read back as the stores alone, wherever one of them holds the index. -/
theorem canon_prefix {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by obtain ⟨p, hp, _⟩ := hy; simp at hp
  | p :: L, y, hy => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      obtain ⟨q, hq, hyq⟩ := hy
      rcases List.mem_cons.mp hq with rfl | hq'
      · exact absurd hyq hm
      · exact canon_prefix L' L y ⟨q, hq', hyq⟩

theorem negInf : Ideal.ofBits FTy.f32 4286578688#32 = ⊥ := by simp [Ideal.ofBits, Ideal.ieee]

/-- The scaled score of key `k` of a block against query `q` for head `h`, from the block's keys and the transposed queries. -/
def score (K Q : Vec Ideal S512x512 .bf16) (h : Fin 4) (q k : Fin 512) : EReal :=
  (∑ x : Fin 128, K (ix2 k (lane h x)) * Q (ix2 (lane h x) q)) * Ideal.ofBits FTy.f32 0x3DD105EC#32

/-- The keys of the image block that point `t` reads: the roped shared part added to each head's own part. -/
def keyI (t : Fin cfg0.N) : Vec Ideal S512x512 .bf16 :=
  k0_pay14 (F := Ideal) (iblk m c 2 t) (iblk m c 10 t) (iblk m c 11 t) (iblk m c 12 t) (iblk m c 1 t)
/-- The keys of the cached block that point `t` reads. -/
def keyC (t : Fin cfg0.N) : Vec Ideal S512x512 .bf16 := k0_pay43 (F := Ideal) (iblk m c 4 t) (iblk m c 5 t)

/-- What the point before `t` left in the output block and the four scratch buffers. -/
def prev (t : Fin cfg0.N) := outsAt0 m c (t.val - 1) (Nat.lt_of_le_of_lt (Nat.sub_le _ _) t.isLt)

/-- The start of the running maximum. -/
theorem init_m (j : S4x1x512.Idx) : k0_pay2 (F := Ideal) j = Ideal.ofBits FTy.f32 0xF149F2CA#32 := by pointwise [k0_pay2]
/-- The start of the running weight. -/
theorem init_l (j : S4x1x512.Idx) : k0_pay3 (F := Ideal) j = 0 := by pointwise [k0_pay3]
/-- The start of the running weighted sum. -/
theorem init_a (j : S256x512.Idx) : k0_pay4 (F := Ideal) j = 0 := by pointwise [k0_pay4]

theorem score_eq (K Q : Vec Ideal S512x512 .bf16) (h : Fin 4) (q : Fin 512) : score K Q h q = fun k =>
    (∑ x : Fin 128, K (ix2 k (lane h x)) * Q (ix2 (lane h x) q)) * Ideal.ofBits FTy.f32 0x3DD105EC#32 := rfl
theorem lane_0 (x : Fin 128) : lane 0 x = ⟨x.val, by omega⟩ := Fin.ext (by show 128 * 0 + x.val = x.val; omega)
theorem vrow_0 (v : Fin 64) : vrow 0 v = ⟨v.val, by omega⟩ := Fin.ext (by show 64 * 0 + v.val = v.val; omega)
theorem lane_1 (x : Fin 128) : lane 1 x = ⟨128 + x.val, by omega⟩ := Fin.ext (by show 128 * 1 + x.val = 128 + x.val; omega)
theorem vrow_1 (v : Fin 64) : vrow 1 v = ⟨64 + v.val, by omega⟩ := Fin.ext (by show 64 * 1 + v.val = 64 + v.val; omega)
theorem lane_2 (x : Fin 128) : lane 2 x = ⟨256 + x.val, by omega⟩ := Fin.ext (by show 128 * 2 + x.val = 256 + x.val; omega)
theorem vrow_2 (v : Fin 64) : vrow 2 v = ⟨128 + v.val, by omega⟩ := Fin.ext (by show 64 * 2 + v.val = 128 + v.val; omega)
theorem lane_3 (x : Fin 128) : lane 3 x = ⟨384 + x.val, by omega⟩ := Fin.ext (by show 128 * 3 + x.val = 384 + x.val; omega)
theorem vrow_3 (v : Fin 64) : vrow 3 v = ⟨192 + v.val, by omega⟩ := Fin.ext (by show 64 * 3 + v.val = 192 + v.val; omega)

end Cert.MlaVal

end
-- ==== Proof.KCaseA.lean ====
module

public import proofs.«01_k».proof.Proof.Gen.MlaIdeal.Frame
public import proofs.«01_k».proof.Proof.KDefs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlaVal

open Idealize.ShloMosaic Idealize.ShloMosaic.TcCoe Idealize.SL.Sem
open Cert.MlaIdeal Cert.MlaIdeal.Gen Cert.Flash
open Idealize.ShloMosaic.Pipeline (Dat)

variable (m : (ℓ : Loc nD τ sig) → Buf (Elt Ideal) ℓ) (c : Dev nD)

set_option maxHeartbeats 1000000 in
/-- Case A: the running maximum after the point. -/
theorem stepA_m (t : Fin cfg0.N) (h0 : t.val % 9 = 0) (h1 : t.val % 9 ≤ 7) (h2 : ¬t.val % 9 = 8) (h : Fin 4) (q : Fin 512) :
    (outsAt0 m c t.val t.isLt).2.2.1 (ix3 h 0 q) = stepM (Ideal.ofBits FTy.f32 0xF149F2CA#32) (score (keyI m c t) (k0_pay1 (iblk m c 0 t) (iblk m c 7 t) (iblk m c 8 t) (iblk m c 9 t)) h q) := by
  rw [outsAt0_A m c t h0 h1 h2]
  dsimp only
  unfold sout0_A_1
  frame_out
  simp (disch := decide) only [↓View.readCov_skip, ↓View.readCov_fill]
  refine (canon_prefix [_] [_, _, _, _] _ (View.cover_of_tiledL _ ![1, 1, 512] (by sl_kernel_rfl) _)).trans ?_
  canon_tiles x e
  case piece0 =>
    idx_vars x
    obtain rfl : h = 3 := Fin.ext (by show h.val = 3; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_3, negInf, keyI, keyC, init_m, init_l, init_a]
  case piece1 =>
    idx_vars x
    obtain rfl : h = 2 := Fin.ext (by show h.val = 2; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_2, negInf, keyI, keyC, init_m, init_l, init_a]
  case piece2 =>
    idx_vars x
    obtain rfl : h = 1 := Fin.ext (by show h.val = 1; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_1, negInf, keyI, keyC, init_m, init_l, init_a]
  case piece3 =>
    idx_vars x
    obtain rfl : h = 0 := Fin.ext (by show h.val = 0; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_0, negInf, keyI, keyC, init_m, init_l, init_a]

set_option maxHeartbeats 1000000 in
/-- Case A: the running weight after the point. -/
theorem stepA_l (t : Fin cfg0.N) (h0 : t.val % 9 = 0) (h1 : t.val % 9 ≤ 7) (h2 : ¬t.val % 9 = 8) (h : Fin 4) (q : Fin 512) :
    (outsAt0 m c t.val t.isLt).2.2.2.1 (ix3 h 0 q) = stepL (Ideal.ofBits FTy.f32 0xF149F2CA#32) 0 (score (keyI m c t) (k0_pay1 (iblk m c 0 t) (iblk m c 7 t) (iblk m c 8 t) (iblk m c 9 t)) h q) := by
  rw [outsAt0_A m c t h0 h1 h2]
  dsimp only
  unfold sout0_A_2
  frame_out
  simp (disch := decide) only [↓View.readCov_skip, ↓View.readCov_fill]
  refine (canon_prefix [_] [_, _, _, _] _ (View.cover_of_tiledL _ ![1, 1, 512] (by sl_kernel_rfl) _)).trans ?_
  canon_tiles x e
  case piece0 =>
    idx_vars x
    obtain rfl : h = 3 := Fin.ext (by show h.val = 3; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_3, negInf, keyI, keyC, init_m, init_l, init_a]
  case piece1 =>
    idx_vars x
    obtain rfl : h = 2 := Fin.ext (by show h.val = 2; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_2, negInf, keyI, keyC, init_m, init_l, init_a]
  case piece2 =>
    idx_vars x
    obtain rfl : h = 1 := Fin.ext (by show h.val = 1; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_1, negInf, keyI, keyC, init_m, init_l, init_a]
  case piece3 =>
    idx_vars x
    obtain rfl : h = 0 := Fin.ext (by show h.val = 0; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_0, negInf, keyI, keyC, init_m, init_l, init_a]

set_option maxHeartbeats 1000000 in
/-- Case A: the running weighted sum of the values after the point. -/
theorem stepA_a (t : Fin cfg0.N) (h0 : t.val % 9 = 0) (h1 : t.val % 9 ≤ 7) (h2 : ¬t.val % 9 = 8) (h : Fin 4) (v : Fin 64) (q : Fin 512) :
    (outsAt0 m c t.val t.isLt).2.2.2.2 (ix2 (vrow h v) q) = stepA (Ideal.ofBits FTy.f32 0xF149F2CA#32) 0 (score (keyI m c t) (k0_pay1 (iblk m c 0 t) (iblk m c 7 t) (iblk m c 8 t) (iblk m c 9 t)) h q) (fun k => iblk m c 3 t (ix2 (vrow h v) k)) := by
  rw [outsAt0_A m c t h0 h1 h2]
  dsimp only
  unfold sout0_A_3
  frame_out
  simp (disch := decide) only [↓View.readCov_skip, ↓View.readCov_fill]
  refine (canon_prefix [_] [_, _, _, _] _ (View.cover_of_tiledL _ ![64, 512] (by sl_kernel_rfl) _)).trans ?_
  canon_tiles x e
  case piece0 =>
    idx_vars x
    simp only [vrow_val] at e0
    obtain rfl : h = 3 := Fin.ext (by show h.val = 3; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepA, score_eq, lane_3, vrow_3, negInf, keyI, keyC, init_m, init_l, init_a]
  case piece1 =>
    idx_vars x
    simp only [vrow_val] at e0
    obtain rfl : h = 2 := Fin.ext (by show h.val = 2; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepA, score_eq, lane_2, vrow_2, negInf, keyI, keyC, init_m, init_l, init_a]
  case piece2 =>
    idx_vars x
    simp only [vrow_val] at e0
    obtain rfl : h = 1 := Fin.ext (by show h.val = 1; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepA, score_eq, lane_1, vrow_1, negInf, keyI, keyC, init_m, init_l, init_a]
  case piece3 =>
    idx_vars x
    simp only [vrow_val] at e0
    obtain rfl : h = 0 := Fin.ext (by show h.val = 0; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepA, score_eq, lane_0, vrow_0, negInf, keyI, keyC, init_m, init_l, init_a]

end Cert.MlaVal

end
-- ==== Proof.KCaseB.lean ====
module

public import proofs.«01_k».proof.Proof.Gen.MlaIdeal.Frame
public import proofs.«01_k».proof.Proof.KDefs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlaVal

open Idealize.ShloMosaic Idealize.ShloMosaic.TcCoe Idealize.SL.Sem
open Cert.MlaIdeal Cert.MlaIdeal.Gen Cert.Flash
open Idealize.ShloMosaic.Pipeline (Dat)

variable (m : (ℓ : Loc nD τ sig) → Buf (Elt Ideal) ℓ) (c : Dev nD)

/-- Case B: the transposed queries are held. -/
theorem stepB_q (t : Fin cfg0.N) (h0 : ¬t.val % 9 = 0) (h1 : t.val % 9 ≤ 7) (h2 : ¬t.val % 9 = 8) : (outsAt0 m c t.val t.isLt).2.1 = (prev m c t).2.1 := by
  rw [outsAt0_B m c t h0 h1 h2]
  rfl

set_option maxHeartbeats 1000000 in
/-- Case B: the running maximum after the point. -/
theorem stepB_m (t : Fin cfg0.N) (h0 : ¬t.val % 9 = 0) (h1 : t.val % 9 ≤ 7) (h2 : ¬t.val % 9 = 8) (h : Fin 4) (q : Fin 512) :
    (outsAt0 m c t.val t.isLt).2.2.1 (ix3 h 0 q) = stepM ((prev m c t).2.2.1 (ix3 h 0 q)) (score (keyI m c t) (prev m c t).2.1 h q) := by
  rw [outsAt0_B m c t h0 h1 h2]
  dsimp only
  unfold sout0_B_1
  frame_out
  simp only [read_unread_whole]
  rw [← prev]
  generalize prev m c t = p
  canon_tiles x e
  case piece0 =>
    idx_vars x
    obtain rfl : h = 3 := Fin.ext (by show h.val = 3; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_3, negInf, keyI, keyC]
  case piece1 =>
    idx_vars x
    obtain rfl : h = 2 := Fin.ext (by show h.val = 2; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_2, negInf, keyI, keyC]
  case piece2 =>
    idx_vars x
    obtain rfl : h = 1 := Fin.ext (by show h.val = 1; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_1, negInf, keyI, keyC]
  case piece3 =>
    idx_vars x
    obtain rfl : h = 0 := Fin.ext (by show h.val = 0; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_0, negInf, keyI, keyC]

set_option maxHeartbeats 1000000 in
/-- Case B: the running weight after the point. -/
theorem stepB_l (t : Fin cfg0.N) (h0 : ¬t.val % 9 = 0) (h1 : t.val % 9 ≤ 7) (h2 : ¬t.val % 9 = 8) (h : Fin 4) (q : Fin 512) :
    (outsAt0 m c t.val t.isLt).2.2.2.1 (ix3 h 0 q) = stepL ((prev m c t).2.2.1 (ix3 h 0 q)) ((prev m c t).2.2.2.1 (ix3 h 0 q)) (score (keyI m c t) (prev m c t).2.1 h q) := by
  rw [outsAt0_B m c t h0 h1 h2]
  dsimp only
  unfold sout0_B_2
  frame_out
  simp only [read_unread_whole]
  rw [← prev]
  generalize prev m c t = p
  canon_tiles x e
  case piece0 =>
    idx_vars x
    obtain rfl : h = 3 := Fin.ext (by show h.val = 3; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_3, negInf, keyI, keyC]
  case piece1 =>
    idx_vars x
    obtain rfl : h = 2 := Fin.ext (by show h.val = 2; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_2, negInf, keyI, keyC]
  case piece2 =>
    idx_vars x
    obtain rfl : h = 1 := Fin.ext (by show h.val = 1; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_1, negInf, keyI, keyC]
  case piece3 =>
    idx_vars x
    obtain rfl : h = 0 := Fin.ext (by show h.val = 0; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_0, negInf, keyI, keyC]

set_option maxHeartbeats 1000000 in
/-- Case B: the running weighted sum of the values after the point. -/
theorem stepB_a (t : Fin cfg0.N) (h0 : ¬t.val % 9 = 0) (h1 : t.val % 9 ≤ 7) (h2 : ¬t.val % 9 = 8) (h : Fin 4) (v : Fin 64) (q : Fin 512) :
    (outsAt0 m c t.val t.isLt).2.2.2.2 (ix2 (vrow h v) q) = stepA ((prev m c t).2.2.1 (ix3 h 0 q)) ((prev m c t).2.2.2.2 (ix2 (vrow h v) q)) (score (keyI m c t) (prev m c t).2.1 h q) (fun k => iblk m c 3 t (ix2 (vrow h v) k)) := by
  rw [outsAt0_B m c t h0 h1 h2]
  dsimp only
  unfold sout0_B_3
  frame_out
  simp only [read_unread_whole]
  rw [← prev]
  generalize prev m c t = p
  canon_tiles x e
  case piece0 =>
    idx_vars x
    simp only [vrow_val] at e0
    obtain rfl : h = 3 := Fin.ext (by show h.val = 3; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepA, score_eq, lane_3, vrow_3, negInf, keyI, keyC]
  case piece1 =>
    idx_vars x
    simp only [vrow_val] at e0
    obtain rfl : h = 2 := Fin.ext (by show h.val = 2; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepA, score_eq, lane_2, vrow_2, negInf, keyI, keyC]
  case piece2 =>
    idx_vars x
    simp only [vrow_val] at e0
    obtain rfl : h = 1 := Fin.ext (by show h.val = 1; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepA, score_eq, lane_1, vrow_1, negInf, keyI, keyC]
  case piece3 =>
    idx_vars x
    simp only [vrow_val] at e0
    obtain rfl : h = 0 := Fin.ext (by show h.val = 0; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepA, score_eq, lane_0, vrow_0, negInf, keyI, keyC]

end Cert.MlaVal

end
-- ==== Proof.KCaseC.lean ====
module

public import proofs.«01_k».proof.Proof.Gen.MlaIdeal.Frame
public import proofs.«01_k».proof.Proof.KDefs
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlaVal

open Idealize.ShloMosaic Idealize.ShloMosaic.TcCoe Idealize.SL.Sem
open Cert.MlaIdeal Cert.MlaIdeal.Gen Cert.Flash
open Idealize.ShloMosaic.Pipeline (Dat)

variable (m : (ℓ : Loc nD τ sig) → Buf (Elt Ideal) ℓ) (c : Dev nD)

/-- Case C: the transposed queries are held. -/
theorem stepC_q (t : Fin cfg0.N) (h0 : ¬t.val % 9 = 0) (h1 : ¬t.val % 9 ≤ 7) (h2 : t.val % 9 = 8) : (outsAt0 m c t.val t.isLt).2.1 = (prev m c t).2.1 := by
  rw [outsAt0_C m c t h0 h1 h2]
  rfl

set_option maxHeartbeats 1000000 in
/-- Case C: the running maximum after the point. -/
theorem stepC_m (t : Fin cfg0.N) (h0 : ¬t.val % 9 = 0) (h1 : ¬t.val % 9 ≤ 7) (h2 : t.val % 9 = 8) (h : Fin 4) (q : Fin 512) :
    (outsAt0 m c t.val t.isLt).2.2.1 (ix3 h 0 q) = stepM ((prev m c t).2.2.1 (ix3 h 0 q)) (score (keyC m c t) (prev m c t).2.1 h q) := by
  rw [outsAt0_C m c t h0 h1 h2]
  dsimp only
  unfold sout0_C_1
  frame_out
  simp only [read_unread_whole]
  rw [← prev]
  generalize prev m c t = p
  canon_tiles x e
  case piece0 =>
    idx_vars x
    obtain rfl : h = 3 := Fin.ext (by show h.val = 3; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_3, negInf, keyI, keyC, init_m, init_l, init_a]
  case piece1 =>
    idx_vars x
    obtain rfl : h = 2 := Fin.ext (by show h.val = 2; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_2, negInf, keyI, keyC, init_m, init_l, init_a]
  case piece2 =>
    idx_vars x
    obtain rfl : h = 1 := Fin.ext (by show h.val = 1; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_1, negInf, keyI, keyC, init_m, init_l, init_a]
  case piece3 =>
    idx_vars x
    obtain rfl : h = 0 := Fin.ext (by show h.val = 0; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_0, negInf, keyI, keyC, init_m, init_l, init_a]

set_option maxHeartbeats 1000000 in
/-- Case C: the running weight after the point. -/
theorem stepC_l (t : Fin cfg0.N) (h0 : ¬t.val % 9 = 0) (h1 : ¬t.val % 9 ≤ 7) (h2 : t.val % 9 = 8) (h : Fin 4) (q : Fin 512) :
    (outsAt0 m c t.val t.isLt).2.2.2.1 (ix3 h 0 q) = stepL ((prev m c t).2.2.1 (ix3 h 0 q)) ((prev m c t).2.2.2.1 (ix3 h 0 q)) (score (keyC m c t) (prev m c t).2.1 h q) := by
  rw [outsAt0_C m c t h0 h1 h2]
  dsimp only
  unfold sout0_C_2
  frame_out
  simp only [read_unread_whole]
  rw [← prev]
  generalize prev m c t = p
  canon_tiles x e
  case piece0 =>
    idx_vars x
    obtain rfl : h = 3 := Fin.ext (by show h.val = 3; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_3, negInf, keyI, keyC, init_m, init_l, init_a]
  case piece1 =>
    idx_vars x
    obtain rfl : h = 2 := Fin.ext (by show h.val = 2; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_2, negInf, keyI, keyC, init_m, init_l, init_a]
  case piece2 =>
    idx_vars x
    obtain rfl : h = 1 := Fin.ext (by show h.val = 1; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_1, negInf, keyI, keyC, init_m, init_l, init_a]
  case piece3 =>
    idx_vars x
    obtain rfl : h = 0 := Fin.ext (by show h.val = 0; omega)
    obtain rfl : q = x2 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, score_eq, lane_0, negInf, keyI, keyC, init_m, init_l, init_a]

set_option maxHeartbeats 1000000 in
/-- Case C: the block written back, the weighted sums over the weights. -/
theorem stepC_o (t : Fin cfg0.N) (h0 : ¬t.val % 9 = 0) (h1 : ¬t.val % 9 ≤ 7) (h2 : t.val % 9 = 8) (h : Fin 4) (v : Fin 64) (q : Fin 512) :
    (outsAt0 m c t.val t.isLt).1 (ix2 q (vrow h v)) = Ideal.div (stepA ((prev m c t).2.2.1 (ix3 h 0 q)) ((prev m c t).2.2.2.2 (ix2 (vrow h v) q)) (score (keyC m c t) (prev m c t).2.1 h q) (fun k => iblk m c 6 t (ix2 (vrow h v) k))) (stepL ((prev m c t).2.2.1 (ix3 h 0 q)) ((prev m c t).2.2.2.1 (ix3 h 0 q)) (score (keyC m c t) (prev m c t).2.1 h q)) := by
  rw [outsAt0_C m c t h0 h1 h2]
  dsimp only
  unfold out0_C_13
  frame_out
  simp only [read_unread_whole]
  rw [← prev]
  generalize prev m c t = p
  simp (disch := decide) only [↓View.readCov_skip, View.readCov_cons_toLoadRect]
  rw [View.readCov_eq_canon']
  rw [show ∀ w : Vec Ideal S256x512 .f32, k0_pay13 w (ix2 q (vrow h v)) = w (ix2 (vrow h v) q) from fun w => by pointwise [k0_pay13]]
  rw [show ∀ (inb : ∀ a, (![0, 0] : Fin 2 → ℕ) a + (![256, 512] : Fin 2 → ℕ) a ≤ S256x512.size a) (j : S256x512.Idx), (Rect.unit (s := S256x512) ![0, 0] ![256, 512] inb).toLoadRect.idx j = j from fun inb j => by
    funext a; apply Fin.ext; fin_cases a <;> simp [LoadRect.idx, Rect.toLoadRect, Rect.unit]]
  refine (canon_prefix [_, _, _, _] [_, _, _, _] _ (View.cover_of_tiledL _ ![64, 512] (by sl_kernel_rfl) _)).trans ?_
  canon_tiles x e
  case piece0 =>
    idx_vars x
    simp only [vrow_val] at e0
    obtain rfl : h = 3 := Fin.ext (by show h.val = 3; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, stepA, score_eq, lane_3, vrow_3, negInf, keyI, keyC]
  case piece1 =>
    idx_vars x
    simp only [vrow_val] at e0
    obtain rfl : h = 2 := Fin.ext (by show h.val = 2; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, stepA, score_eq, lane_2, vrow_2, negInf, keyI, keyC]
  case piece2 =>
    idx_vars x
    simp only [vrow_val] at e0
    obtain rfl : h = 1 := Fin.ext (by show h.val = 1; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, stepA, score_eq, lane_1, vrow_1, negInf, keyI, keyC]
  case piece3 =>
    idx_vars x
    simp only [vrow_val] at e0
    obtain rfl : h = 0 := Fin.ext (by show h.val = 0; omega)
    obtain rfl : v = x0 := Fin.ext (by simp at e0; omega)
    obtain rfl : q = x1 := Fin.ext (by omega)
    pointwise [k0_pay5, k0_pay6, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    simp only [stepM, stepL, stepA, score_eq, lane_0, vrow_0, negInf, keyI, keyC]

end Cert.MlaVal

end
-- ==== Proof.KHost.lean ====
module

public import proofs.«01_k».proof.Proof.KDefs
public import proofs.«01_k».proof.Proof.Rope
public import Idealize.ShloMosaic.Lib.StableHlo.RunRead
public import Idealize.ShloMosaic.Lib.Pointwise

@[expose] public section

set_option maxRecDepth 16384

noncomputable section

namespace Cert.MlaVal

open Idealize.ShloMosaic Idealize.ShloMosaic.TcCoe Idealize.SL.Sem
open Cert.MlaIdeal Cert.MlaIdeal.Gen Cert.Rope

variable (m : (ℓ : Loc nD τ sig) → Buf (Elt Ideal) ℓ) (c : Dev nD)

/-- A 32-lane table widened to 128 lanes (the border filled with `o`) and repeated for the four heads. -/
def tabQ (x : Vec Ideal S4096x32 .f32) (o : Vec Ideal S_ .f32) : Vec Ideal S4096x512 .f32 :=
  shapeCast S4096x512 (broadcastInDim S1x4096x4x128 ![0, 1, 2, 3] bcast_S1x4096x1x128_S1x4096x4x128_0_1_2_3 (shapeCast S1x4096x1x128 (pad S4096x128 ![0, 64] ![0, 32] ![0, 0] x o pads_S4096x32_S4096x128_000_64320 h_S_) shapeCasts_S4096x128_S1x4096x1x128)) shapeCasts_S1x4096x4x128_S4096x512

theorem tabQ_at (x o) (r : Fin 4096) (l : Fin 512) :
    tabQ x o (ix2 r l) = if h : 64 ≤ l.val % 128 ∧ l.val % 128 - 64 < 32 then x (ix2 r ⟨l.val % 128 - 64, h.2⟩) else o (Shape.Idx.first h_S_) := by
  pointwise [tabQ]

/-- The same widening for one head. -/
def tabK (x : Vec Ideal S4096x32 .f32) (o : Vec Ideal S_ .f32) : Vec Ideal S4096x128 .f32 :=
  shapeCast S4096x128 (broadcastInDim S1x4096x1x128 ![0, 1, 2, 3] bcast_S1x4096x1x128_S1x4096x1x128_0_1_2_3 (shapeCast S1x4096x1x128 (pad S4096x128 ![0, 64] ![0, 32] ![0, 0] x o pads_S4096x32_S4096x128_000_64320 h_S_) shapeCasts_S4096x128_S1x4096x1x128)) shapeCasts_S1x4096x1x128_S4096x128

theorem tabK_at (x o) (r : Fin 4096) (l : Fin 128) :
    tabK x o (ix2 r l) = if h : 64 ≤ l.val ∧ l.val - 64 < 32 then x (ix2 r ⟨l.val - 64, h.2⟩) else o (Shape.Idx.first h_S_) := by
  pointwise [tabK]

/-- The table that is minus the sine where `w` holds, zero elsewhere. -/
def selA (w : Fin 32 → BitVec 1) (a : Vec Ideal S4096x32 .f32) : Vec Ideal S4096x32 .f32 :=
  select (broadcastInDim S4096x32 ![0, 1] bcast_S1x32_S4096x32_0_1 (broadcastInDim S1x32 ![1] bcast_S32_S1x32_1 (fun i : S32.Idx => w (S32.rowMajor i)))) (Host.negf (F := Ideal) (φ := .f32) (Host.sin (F := Ideal) (φ := .f32) a)) (broadcastInDim S4096x32 ![] bcast_S_S4096x32 (constant (F := Ideal) S_ .f32 0x00000000#32))
/-- The table that is the sine where `w` does not hold, zero elsewhere. -/
def selB (w : Fin 32 → BitVec 1) (a : Vec Ideal S4096x32 .f32) : Vec Ideal S4096x32 .f32 :=
  select (broadcastInDim S4096x32 ![0, 1] bcast_S1x32_S4096x32_0_1 (broadcastInDim S1x32 ![1] bcast_S32_S1x32_1 (fun i : S32.Idx => w (S32.rowMajor i)))) (broadcastInDim S4096x32 ![] bcast_S_S4096x32 (constant (F := Ideal) S_ .f32 0x00000000#32)) (Host.sin (F := Ideal) (φ := .f32) a)

theorem cos_at (a : Vec Ideal S4096x32 .f32) (i : S4096x32.Idx) : Host.cos (F := Ideal) (φ := .f32) a i = Ideal.cos (a i) := by
  idx_vars i
  pointwise

theorem zero_word : (FloatOps.sitofp (F := Ideal) FTy.f32 0#32 : EReal) = 0 := by
  show (((0#32).toInt : ℝ) : EReal) = 0
  simp

/-- Four tables of 8 lanes side by side, the first two alike and the last two alike. -/
def cat4 (x y : Vec Ideal S4096x8 .f32) : Vec Ideal S4096x32 .f32 :=
  concatenate S4096x32 1 [⟨S4096x8, x⟩, ⟨S4096x8, x⟩, ⟨S4096x8, y⟩, ⟨S4096x8, y⟩] concatenates_S4096x8_S4096x8_S4096x8_S4096x8_S4096x32_d1

theorem cat4_read (x y) (r : Fin 4096) (j : Fin 32) :
    cat4 x y (ix2 r j) = if h : j.val < 8 then x (ix2 r ⟨j.val, h⟩) else if h : j.val - 8 < 8 then x (ix2 r ⟨j.val - 8, h⟩)
      else if h : j.val - 8 - 8 < 8 then y (ix2 r ⟨j.val - 8 - 8, h⟩) else y (ix2 r ⟨j.val - 8 - 8 - 8, by omega⟩) := by
  pointwise [cat4]

theorem cat4_at (x y) (r : Fin 4096) (j : Fin 32) (hx : ∀ l : Fin 8, x (ix2 r l) = (FloatOps.sitofp (F := Ideal) FTy.f32 (rowW r.val) : EReal) * freq l.val)
    (hy : ∀ l : Fin 8, y (ix2 r l) = (FloatOps.sitofp (F := Ideal) FTy.f32 (colW r.val) : EReal) * freq l.val) :
    cat4 x y (ix2 r j) = ang r.val j.val := by
  rw [cat4_read]
  simp only [hx, hy]
  unfold ang
  by_cases h1 : j.val < 8
  · rw [dif_pos h1, if_pos (by omega), Nat.mod_eq_of_lt h1]
  · rw [dif_neg h1]
    by_cases h2 : j.val - 8 < 8
    · rw [dif_pos h2, if_pos (by omega), show j.val % 8 = j.val - 8 by omega]
    · rw [dif_neg h2, if_neg (by omega)]
      by_cases h3 : j.val - 8 - 8 < 8
      · rw [dif_pos h3, show j.val % 8 = j.val - 8 - 8 by omega]
      · rw [dif_neg h3, show j.val % 8 = j.val - 8 - 8 - 8 by omega]

theorem lit_val0 : ∀ j : Fin 32, lit0 (S32.rowMajor (ix1 j)) = if j.val % 16 < 8 then 1#1 else 0#1 := by decide +kernel
theorem lit_val1 : ∀ j : Fin 32, lit1 (S32.rowMajor (ix1 j)) = if j.val % 16 < 8 then 1#1 else 0#1 := by decide +kernel

theorem selA_at (w) (hw : ∀ j : Fin 32, w (S32.rowMajor (ix1 j)) = if j.val % 16 < 8 then 1#1 else 0#1) (a) (r : Fin 4096) (j : Fin 32) :
    selA w a (ix2 r j) = if j.val % 16 < 8 then -Ideal.sin (a (ix2 r j)) else 0 := by
  pointwise [selA]
  rw [hw]
  split <;> simp [Scalar.select]
theorem selB_at (w) (hw : ∀ j : Fin 32, w (S32.rowMajor (ix1 j)) = if j.val % 16 < 8 then 1#1 else 0#1) (a) (r : Fin 4096) (j : Fin 32) :
    selB w a (ix2 r j) = if j.val % 16 < 8 then 0 else Ideal.sin (a (ix2 r j)) := by
  pointwise [selB]
  rw [hw]
  split <;> simp [Scalar.select]

set_option maxHeartbeats 1000000 in
theorem V_v34 : V m c main_v34 = cat4 (V m c main_v26) (V m c main_v33) := by
  have h26 : V m c main_v26 = StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38].flatten (fun b => m (c, b)) 86 (Proc.tc.devRef main_v26) := by
    unfold V
    after_reads_simp
  have h33 : V m c main_v33 = StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38].flatten (fun b => m (c, b)) 86 (Proc.tc.devRef main_v33) := by
    unfold V
    after_reads_simp
  rw [h26, h33]
  unfold V
  after_reads_simp
  rfl
set_option maxHeartbeats 1000000 in
theorem V_v75 : V m c main_v75 = cat4 (V m c main_v67) (V m c main_v74) := by
  have h67 : V m c main_v67 = StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38].flatten (fun b => m (c, b)) 181 (Proc.tc.devRef main_v67) := by
    unfold V
    after_reads_simp
  have h74 : V m c main_v74 = StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38].flatten (fun b => m (c, b)) 181 (Proc.tc.devRef main_v74) := by
    unfold V
    after_reads_simp
  rw [h67, h74]
  unfold V
  after_reads_simp
  rfl
set_option maxHeartbeats 1000000 in
theorem V_v45 : V m c main_v45 = tabQ (Host.cos (F := Ideal) (φ := .f32) (V m c main_v34 : Vec Ideal S4096x32 .f32)) (constant (F := Ideal) S_ .f32 0x3F800000#32) := by
  unfold V
  after_reads_simp
  simp only [StableHlo.TRef.toBuf, StableHlo.TRef.ofBuf, cast_cast, cast_eq, tabQ, tabK, selA, selB]
  rfl
set_option maxHeartbeats 1000000 in
theorem V_v49 : V m c main_v49 = tabQ (selA lit0 (V m c main_v34)) (constant (F := Ideal) S_ .f32 0x00000000#32) := by
  unfold V
  after_reads_simp
  simp only [StableHlo.TRef.toBuf, StableHlo.TRef.ofBuf, cast_cast, cast_eq, tabQ, tabK, selA, selB]
  rfl
set_option maxHeartbeats 1000000 in
theorem V_v53 : V m c main_v53 = tabQ (selB lit0 (V m c main_v34)) (constant (F := Ideal) S_ .f32 0x00000000#32) := by
  unfold V
  after_reads_simp
  simp only [StableHlo.TRef.toBuf, StableHlo.TRef.ofBuf, cast_cast, cast_eq, tabQ, tabK, selA, selB]
  rfl
set_option maxHeartbeats 1000000 in
theorem V_v86 : V m c main_v86 = tabK (Host.cos (F := Ideal) (φ := .f32) (V m c main_v75 : Vec Ideal S4096x32 .f32)) (constant (F := Ideal) S_ .f32 0x3F800000#32) := by
  unfold V
  after_reads_simp
  simp only [StableHlo.TRef.toBuf, StableHlo.TRef.ofBuf, cast_cast, cast_eq, tabQ, tabK, selA, selB]
  rfl
set_option maxHeartbeats 1000000 in
theorem V_v90 : V m c main_v90 = tabK (selA lit1 (V m c main_v75)) (constant (F := Ideal) S_ .f32 0x00000000#32) := by
  unfold V
  after_reads_simp
  simp only [StableHlo.TRef.toBuf, StableHlo.TRef.ofBuf, cast_cast, cast_eq, tabQ, tabK, selA, selB]
  rfl
set_option maxHeartbeats 1000000 in
theorem V_v94 : V m c main_v94 = tabK (selB lit1 (V m c main_v75)) (constant (F := Ideal) S_ .f32 0x00000000#32) := by
  unfold V
  after_reads_simp
  simp only [StableHlo.TRef.toBuf, StableHlo.TRef.ofBuf, cast_cast, cast_eq, tabQ, tabK, selA, selB]
  rfl
set_option maxHeartbeats 1000000 in
theorem V_v1_at (r : Fin 32768) (l : Fin 512) : V m c main_v1 (ix2 r l) = if h : l.val % 128 < 96 then (m ((c : Thread nD τ).loc main_arg0) (ix4 ⟨r.val / 4096, by omega⟩ ⟨r.val % 4096, by omega⟩ ⟨l.val / 128, by omega⟩ ⟨l.val % 128, h⟩) : EReal) else (0 : EReal) := by
  unfold V
  after_reads_simp
  try simp only [StableHlo.TRef.toBuf, StableHlo.TRef.ofBuf, cast_cast, cast_eq]
  pointwise
  first
    | done
    | rfl
    | (have h1 : r.val / 4096 < 8 := by omega
       have h2 : r.val % 4096 < 4096 := by omega
       have h3 : l.val / 128 < 4 := by omega
       by_cases h : l.val % 128 < 96
       · rw [dif_pos h, dif_pos (by first | exact ⟨h1, h2, h3, h⟩ | exact ⟨h1, h2, h⟩)]
       · rw [dif_neg h, dif_neg (by first | exact fun e => h e.2.2.2 | exact fun e => h e.2.2)]
         exact zero_word)
set_option maxHeartbeats 1000000 in
theorem V_v3_at (r : Fin 32768) (l : Fin 512) : V m c main_v3 (ix2 r l) = if h : l.val % 128 < 64 then (m ((c : Thread nD τ).loc main_arg1) (ix4 ⟨r.val / 4096, by omega⟩ ⟨r.val % 4096, by omega⟩ ⟨l.val / 128, by omega⟩ ⟨l.val % 128, h⟩) : EReal) else (0 : EReal) := by
  unfold V
  after_reads_simp
  try simp only [StableHlo.TRef.toBuf, StableHlo.TRef.ofBuf, cast_cast, cast_eq]
  pointwise
  first
    | done
    | rfl
    | (have h1 : r.val / 4096 < 8 := by omega
       have h2 : r.val % 4096 < 4096 := by omega
       have h3 : l.val / 128 < 4 := by omega
       by_cases h : l.val % 128 < 64
       · rw [dif_pos h, dif_pos (by first | exact ⟨h1, h2, h3, h⟩ | exact ⟨h1, h2, h⟩)]
       · rw [dif_neg h, dif_neg (by first | exact fun e => h e.2.2.2 | exact fun e => h e.2.2)]
         exact zero_word)
set_option maxHeartbeats 1000000 in
theorem V_v5_at (r : Fin 32768) (l : Fin 128) : V m c main_v5 (ix2 r l) = if h : 64 ≤ l.val ∧ l.val - 64 < 32 then (m ((c : Thread nD τ).loc main_arg2) (ix3 ⟨r.val / 4096, by omega⟩ ⟨r.val % 4096, by omega⟩ ⟨l.val - 64, h.2⟩) : EReal) else (0 : EReal) := by
  unfold V
  after_reads_simp
  try simp only [StableHlo.TRef.toBuf, StableHlo.TRef.ofBuf, cast_cast, cast_eq]
  pointwise
  first
    | done
    | rfl
    | (have h1 : r.val / 4096 < 8 := by omega
       have h2 : r.val % 4096 < 4096 := by omega
       have h3 : l.val / 128 < 4 := by omega
       by_cases h : 64 ≤ l.val ∧ l.val - 64 < 32
       · rw [dif_pos h, dif_pos (by first | exact ⟨h1, h2, h3, h⟩ | exact ⟨h1, h2, h⟩)]
       · rw [dif_neg h, dif_neg (by first | exact fun e => h e.2.2.2 | exact fun e => h e.2.2)]
         exact zero_word)
set_option maxHeartbeats 1000000 in
theorem V_v7_at (r : Fin 256) (l : Fin 32768) : V m c main_v7 (ix2 r l) = (m ((c : Thread nD τ).loc main_arg3) (ix4 ⟨l.val / 4096, by omega⟩ ⟨l.val % 4096, by omega⟩ ⟨r.val / 64, by omega⟩ ⟨r.val % 64, by omega⟩) : EReal) := by
  unfold V
  after_reads_simp
  try simp only [StableHlo.TRef.toBuf, StableHlo.TRef.ofBuf, cast_cast, cast_eq]
  pointwise
  first
    | done
    | rfl
    | (have h1 : r.val / 4096 < 8 := by omega
       have h2 : r.val % 4096 < 4096 := by omega
       have h3 : l.val / 128 < 4 := by omega
       by_cases h : 64 ≤ l.val ∧ l.val - 64 < 32
       · rw [dif_pos h, dif_pos (by first | exact ⟨h1, h2, h3, h⟩ | exact ⟨h1, h2, h⟩)]
       · rw [dif_neg h, dif_neg (by first | exact fun e => h e.2.2.2 | exact fun e => h e.2.2)]
         exact zero_word)
set_option maxHeartbeats 1000000 in
theorem V_v9_at (r : Fin 4096) (l : Fin 512) : V m c main_v9 (ix2 r l) = if h : l.val % 128 < 64 then (m ((c : Thread nD τ).loc main_arg4) (ix4 ⟨r.val / 512, by omega⟩ ⟨r.val % 512, by omega⟩ ⟨l.val / 128, by omega⟩ ⟨l.val % 128, h⟩) : EReal) else (0 : EReal) := by
  unfold V
  after_reads_simp
  try simp only [StableHlo.TRef.toBuf, StableHlo.TRef.ofBuf, cast_cast, cast_eq]
  pointwise
  first
    | done
    | rfl
    | (have h1 : r.val / 512 < 8 := by omega
       have h2 : r.val % 512 < 512 := by omega
       have h3 : l.val / 128 < 4 := by omega
       by_cases h : l.val % 128 < 64
       · rw [dif_pos h, dif_pos (by first | exact ⟨h1, h2, h3, h⟩ | exact ⟨h1, h2, h⟩)]
       · rw [dif_neg h, dif_neg (by first | exact fun e => h e.2.2.2 | exact fun e => h e.2.2)]
         exact zero_word)
set_option maxHeartbeats 1000000 in
theorem V_v12_at (r : Fin 256) (l : Fin 4096) : V m c main_v12 (ix2 r l) = (m ((c : Thread nD τ).loc main_arg6) (ix4 ⟨l.val / 512, by omega⟩ ⟨l.val % 512, by omega⟩ ⟨r.val / 64, by omega⟩ ⟨r.val % 64, by omega⟩) : EReal) := by
  unfold V
  after_reads_simp
  try simp only [StableHlo.TRef.toBuf, StableHlo.TRef.ofBuf, cast_cast, cast_eq]
  pointwise
  first
    | done
    | rfl
    | (have h1 : r.val / 4096 < 8 := by omega
       have h2 : r.val % 4096 < 4096 := by omega
       have h3 : l.val / 128 < 4 := by omega
       by_cases h : 64 ≤ l.val ∧ l.val - 64 < 32
       · rw [dif_pos h, dif_pos (by first | exact ⟨h1, h2, h3, h⟩ | exact ⟨h1, h2, h⟩)]
       · rw [dif_neg h, dif_neg (by first | exact fun e => h e.2.2.2 | exact fun e => h e.2.2)]
         exact zero_word)
set_option maxHeartbeats 1000000 in
theorem V_v10_at (b : Fin 8) (r : Fin 512) (l : Fin 128) : V m c main_v10 (ix3 b r l) = if h : 64 ≤ l.val ∧ l.val - 64 < 32 then (m ((c : Thread nD τ).loc main_arg5) (ix3 b r ⟨l.val - 64, h.2⟩) : EReal) else (0 : EReal) := by
  unfold V
  after_reads_simp
  simp only [StableHlo.TRef.toBuf, StableHlo.TRef.ofBuf, cast_cast, cast_eq]
  pointwise
  by_cases h : 64 ≤ l.val ∧ l.val - 64 < 32
  · rw [dif_pos h, dif_pos (by first | exact h | exact ⟨b.isLt, r.isLt, h⟩)]
  · rw [dif_neg h, dif_neg (by first | exact h | exact fun e => h e.2.2)]
    exact zero_word
set_option maxHeartbeats 1000000 in
theorem V_v26_at (r : Fin 4096) (l : Fin 8) : V m c main_v26 (ix2 r l) = (FloatOps.sitofp (F := Ideal) FTy.f32 (rowW r.val) : EReal) * freq l.val := by
  unfold V
  after_reads_simp
  simp only [StableHlo.TRef.toBuf, StableHlo.TRef.ofBuf, cast_cast, cast_eq]
  pointwise
  rfl
set_option maxHeartbeats 1000000 in
theorem V_v67_at (r : Fin 4096) (l : Fin 8) : V m c main_v67 (ix2 r l) = (FloatOps.sitofp (F := Ideal) FTy.f32 (rowW r.val) : EReal) * freq l.val := by
  unfold V
  after_reads_simp
  simp only [StableHlo.TRef.toBuf, StableHlo.TRef.ofBuf, cast_cast, cast_eq]
  pointwise
  rfl
set_option maxHeartbeats 1000000 in
theorem V_v33_at (r : Fin 4096) (l : Fin 8) : V m c main_v33 (ix2 r l) = (FloatOps.sitofp (F := Ideal) FTy.f32 (colW r.val) : EReal) * freq l.val := by
  unfold V
  after_reads_simp
  simp only [StableHlo.TRef.toBuf, StableHlo.TRef.ofBuf, cast_cast, cast_eq]
  pointwise
  rfl
set_option maxHeartbeats 1000000 in
theorem V_v74_at (r : Fin 4096) (l : Fin 8) : V m c main_v74 (ix2 r l) = (FloatOps.sitofp (F := Ideal) FTy.f32 (colW r.val) : EReal) * freq l.val := by
  unfold V
  after_reads_simp
  simp only [StableHlo.TRef.toBuf, StableHlo.TRef.ofBuf, cast_cast, cast_eq]
  pointwise
  rfl
theorem V_v34_at (r : Fin 4096) (j : Fin 32) : V m c main_v34 (ix2 r j) = ang r.val j.val := by
  rw [V_v34]
  exact cat4_at _ _ r j (V_v26_at m c r) (V_v33_at m c r)
theorem V_v75_at (r : Fin 4096) (j : Fin 32) : V m c main_v75 (ix2 r j) = ang r.val j.val := by
  rw [V_v75]
  exact cat4_at _ _ r j (V_v67_at m c r) (V_v74_at m c r)
theorem cosQ (r : Fin 4096) (l : Fin 512) : V m c main_v45 (ix2 r l) = if 64 ≤ l.val % 128 ∧ l.val % 128 - 64 < 32 then Ideal.cos (ang r.val (l.val % 128 - 64)) else (1 : EReal) := by
  rw [V_v45, tabQ_at]
  by_cases h : 64 ≤ l.val % 128 ∧ l.val % 128 - 64 < 32
  · rw [dif_pos h, if_pos h]
    rw [cos_at, V_v34_at]
  · rw [dif_neg h, if_neg h]
    show Ideal.ofBits FTy.f32 0x3F800000#32 = _
    exact one_word
theorem sinAQ (r : Fin 4096) (l : Fin 512) : V m c main_v49 (ix2 r l) = if 64 ≤ l.val % 128 ∧ l.val % 128 - 64 < 32 then (if (l.val % 128 - 64) % 16 < 8 then -Ideal.sin (ang r.val (l.val % 128 - 64)) else 0) else (0 : EReal) := by
  rw [V_v49, tabQ_at]
  by_cases h : 64 ≤ l.val % 128 ∧ l.val % 128 - 64 < 32
  · rw [dif_pos h, if_pos h]
    rw [selA_at _ lit_val0, V_v34_at]
  · rw [dif_neg h, if_neg h]
    show Ideal.ofBits FTy.f32 0x00000000#32 = _
    exact by simp [Ideal.ofBits, Ideal.ieee]
theorem sinBQ (r : Fin 4096) (l : Fin 512) : V m c main_v53 (ix2 r l) = if 64 ≤ l.val % 128 ∧ l.val % 128 - 64 < 32 then (if (l.val % 128 - 64) % 16 < 8 then 0 else Ideal.sin (ang r.val (l.val % 128 - 64))) else (0 : EReal) := by
  rw [V_v53, tabQ_at]
  by_cases h : 64 ≤ l.val % 128 ∧ l.val % 128 - 64 < 32
  · rw [dif_pos h, if_pos h]
    rw [selB_at _ lit_val0, V_v34_at]
  · rw [dif_neg h, if_neg h]
    show Ideal.ofBits FTy.f32 0x00000000#32 = _
    exact by simp [Ideal.ofBits, Ideal.ieee]
theorem cosK (r : Fin 4096) (l : Fin 128) : V m c main_v86 (ix2 r l) = if 64 ≤ l.val ∧ l.val - 64 < 32 then Ideal.cos (ang r.val (l.val - 64)) else (1 : EReal) := by
  rw [V_v86, tabK_at]
  by_cases h : 64 ≤ l.val ∧ l.val - 64 < 32
  · rw [dif_pos h, if_pos h]
    rw [cos_at, V_v75_at]
  · rw [dif_neg h, if_neg h]
    show Ideal.ofBits FTy.f32 0x3F800000#32 = _
    exact one_word
theorem sinAK (r : Fin 4096) (l : Fin 128) : V m c main_v90 (ix2 r l) = if 64 ≤ l.val ∧ l.val - 64 < 32 then (if (l.val - 64) % 16 < 8 then -Ideal.sin (ang r.val (l.val - 64)) else 0) else (0 : EReal) := by
  rw [V_v90, tabK_at]
  by_cases h : 64 ≤ l.val ∧ l.val - 64 < 32
  · rw [dif_pos h, if_pos h]
    rw [selA_at _ lit_val1, V_v75_at]
  · rw [dif_neg h, if_neg h]
    show Ideal.ofBits FTy.f32 0x00000000#32 = _
    exact by simp [Ideal.ofBits, Ideal.ieee]
theorem sinBK (r : Fin 4096) (l : Fin 128) : V m c main_v94 (ix2 r l) = if 64 ≤ l.val ∧ l.val - 64 < 32 then (if (l.val - 64) % 16 < 8 then 0 else Ideal.sin (ang r.val (l.val - 64))) else (0 : EReal) := by
  rw [V_v94, tabK_at]
  by_cases h : 64 ≤ l.val ∧ l.val - 64 < 32
  · rw [dif_pos h, if_pos h]
    rw [selB_at _ lit_val1, V_v75_at]
  · rw [dif_neg h, if_neg h]
    show Ideal.ofBits FTy.f32 0x00000000#32 = _
    exact by simp [Ideal.ofBits, Ideal.ieee]
end Cert.MlaVal
end
-- ==== Proof.KBlocks.lean ====
module

public import proofs.«01_k».proof.Proof.KHost
public import Idealize.ShloMosaic.Lib.Pipeline.ValueKit

@[expose] public section

set_option maxRecDepth 16384

noncomputable section

namespace Cert.MlaVal

open Idealize.ShloMosaic Idealize.ShloMosaic.TcCoe Idealize.SL.Sem
open Cert.MlaIdeal Cert.MlaIdeal.Gen Cert.Rope

variable (m : (ℓ : Loc nD τ sig) → Buf (Elt Ideal) ℓ) (c : Dev nD)

/-- The queries, as numbers by batch, token, head and lane. -/
def A0 (b : Fin 8) (t : Fin 4096) (h : Fin 4) (x : Fin 96) : EReal := m ((c : Thread nD τ).loc main_arg0) (ix4 b t h x)
/-- The sample tokens' own key lanes. -/
def A1 (b : Fin 8) (t : Fin 4096) (h : Fin 4) (x : Fin 64) : EReal := m ((c : Thread nD τ).loc main_arg1) (ix4 b t h x)
/-- The sample tokens' shared key lanes. -/
def A2 (b : Fin 8) (t : Fin 4096) (x : Fin 32) : EReal := m ((c : Thread nD τ).loc main_arg2) (ix3 b t x)
/-- The sample tokens' values. -/
def A3 (b : Fin 8) (t : Fin 4096) (h : Fin 4) (x : Fin 64) : EReal := m ((c : Thread nD τ).loc main_arg3) (ix4 b t h x)
/-- The prompt tokens' own key lanes. -/
def A4 (b : Fin 8) (t : Fin 512) (h : Fin 4) (x : Fin 64) : EReal := m ((c : Thread nD τ).loc main_arg4) (ix4 b t h x)
/-- The prompt tokens' shared key lanes. -/
def A5 (b : Fin 8) (t : Fin 512) (x : Fin 32) : EReal := m ((c : Thread nD τ).loc main_arg5) (ix3 b t x)
/-- The prompt tokens' values. -/
def A6 (b : Fin 8) (t : Fin 512) (h : Fin 4) (x : Fin 64) : EReal := m ((c : Thread nD τ).loc main_arg6) (ix4 b t h x)

theorem lt_N (t : Fin cfg0.N) : t.val < 576 := lt_of_lt_of_eq t.isLt N_0

theorem place0 : ∀ t : Fin cfg0.N, win0_0.index t (0 : Fin 2) = t.val / 9 ∧ win0_0.index t (1 : Fin 2) = 0 :=
  (by decide +kernel : ∀ t : Fin grid0.N, _)
theorem place1 : ∀ t : Fin cfg0.N, win0_1.index t (0 : Fin 2) = t.val / 72 * 8 + min (t.val % 9) 7 ∧ win0_1.index t (1 : Fin 2) = 0 :=
  (by decide +kernel : ∀ t : Fin grid0.N, _)
theorem place2 : ∀ t : Fin cfg0.N, win0_2.index t (0 : Fin 2) = t.val / 72 * 8 + min (t.val % 9) 7 ∧ win0_2.index t (1 : Fin 2) = 0 :=
  (by decide +kernel : ∀ t : Fin grid0.N, _)
theorem place3 : ∀ t : Fin cfg0.N, win0_3.index t (0 : Fin 2) = 0 ∧ win0_3.index t (1 : Fin 2) = t.val / 72 * 8 + min (t.val % 9) 7 :=
  (by decide +kernel : ∀ t : Fin grid0.N, _)
theorem place4 : ∀ t : Fin cfg0.N, win0_4.index t (0 : Fin 2) = t.val / 72 ∧ win0_4.index t (1 : Fin 2) = 0 :=
  (by decide +kernel : ∀ t : Fin grid0.N, _)
theorem place6 : ∀ t : Fin cfg0.N, win0_6.index t (0 : Fin 2) = 0 ∧ win0_6.index t (1 : Fin 2) = t.val / 72 :=
  (by decide +kernel : ∀ t : Fin grid0.N, _)
theorem place7 : ∀ t : Fin cfg0.N, win0_7.index t (0 : Fin 2) = t.val / 9 % 8 ∧ win0_7.index t (1 : Fin 2) = 0 :=
  (by decide +kernel : ∀ t : Fin grid0.N, _)
theorem place8 : ∀ t : Fin cfg0.N, win0_8.index t (0 : Fin 2) = t.val / 9 % 8 ∧ win0_8.index t (1 : Fin 2) = 0 :=
  (by decide +kernel : ∀ t : Fin grid0.N, _)
theorem place9 : ∀ t : Fin cfg0.N, win0_9.index t (0 : Fin 2) = t.val / 9 % 8 ∧ win0_9.index t (1 : Fin 2) = 0 :=
  (by decide +kernel : ∀ t : Fin grid0.N, _)
theorem place10 : ∀ t : Fin cfg0.N, win0_10.index t (0 : Fin 2) = min (t.val % 9) 7 ∧ win0_10.index t (1 : Fin 2) = 0 :=
  (by decide +kernel : ∀ t : Fin grid0.N, _)
theorem place11 : ∀ t : Fin cfg0.N, win0_11.index t (0 : Fin 2) = min (t.val % 9) 7 ∧ win0_11.index t (1 : Fin 2) = 0 :=
  (by decide +kernel : ∀ t : Fin grid0.N, _)
theorem place12 : ∀ t : Fin cfg0.N, win0_12.index t (0 : Fin 2) = min (t.val % 9) 7 ∧ win0_12.index t (1 : Fin 2) = 0 :=
  (by decide +kernel : ∀ t : Fin grid0.N, _)
theorem place5 : ∀ t : Fin cfg0.N, win0_5.index t (0 : Fin 3) = t.val / 72 ∧ win0_5.index t (1 : Fin 3) = 0 ∧ win0_5.index t (2 : Fin 3) = 0 :=
  (by decide +kernel : ∀ t : Fin grid0.N, _)

theorem blk0 (t : Fin cfg0.N) (r : Fin 512) (l : Fin 512) : iblk m c 0 t (ix2 r l) = V m c main_v1 (ix2 ⟨(t.val / 9) * 512 + r.val, by have := lt_N t; omega⟩ l) := by
  blk_simp [iblk]
  obtain ⟨e0, e1⟩ := place0 t
  refine congrArg (V m c main_v1) ?_
  funext a
  apply Fin.ext
  match a with
  | ⟨0, _⟩ =>
    show win0_0.index t (0 : Fin 2) * 512 + 1 * r.val = (t.val / 9) * 512 + r.val
    rw [e0]; omega
  | ⟨1, _⟩ =>
    show win0_0.index t (1 : Fin 2) * 512 + 1 * l.val = l.val
    rw [e1]; omega
theorem blk1 (t : Fin cfg0.N) (r : Fin 512) (l : Fin 512) : iblk m c 1 t (ix2 r l) = V m c main_v3 (ix2 ⟨(t.val / 72 * 8 + min (t.val % 9) 7) * 512 + r.val, by have := lt_N t; omega⟩ l) := by
  blk_simp [iblk]
  obtain ⟨e0, e1⟩ := place1 t
  refine congrArg (V m c main_v3) ?_
  funext a
  apply Fin.ext
  match a with
  | ⟨0, _⟩ =>
    show win0_1.index t (0 : Fin 2) * 512 + 1 * r.val = (t.val / 72 * 8 + min (t.val % 9) 7) * 512 + r.val
    rw [e0]; omega
  | ⟨1, _⟩ =>
    show win0_1.index t (1 : Fin 2) * 512 + 1 * l.val = l.val
    rw [e1]; omega
theorem blk2 (t : Fin cfg0.N) (r : Fin 512) (l : Fin 128) : iblk m c 2 t (ix2 r l) = V m c main_v5 (ix2 ⟨(t.val / 72 * 8 + min (t.val % 9) 7) * 512 + r.val, by have := lt_N t; omega⟩ l) := by
  blk_simp [iblk]
  obtain ⟨e0, e1⟩ := place2 t
  refine congrArg (V m c main_v5) ?_
  funext a
  apply Fin.ext
  match a with
  | ⟨0, _⟩ =>
    show win0_2.index t (0 : Fin 2) * 512 + 1 * r.val = (t.val / 72 * 8 + min (t.val % 9) 7) * 512 + r.val
    rw [e0]; omega
  | ⟨1, _⟩ =>
    show win0_2.index t (1 : Fin 2) * 128 + 1 * l.val = l.val
    rw [e1]; omega
theorem blk3 (t : Fin cfg0.N) (r : Fin 256) (l : Fin 512) : iblk m c 3 t (ix2 r l) = V m c main_v7 (ix2 r ⟨(t.val / 72 * 8 + min (t.val % 9) 7) * 512 + l.val, by have := lt_N t; omega⟩) := by
  blk_simp [iblk]
  obtain ⟨e0, e1⟩ := place3 t
  refine congrArg (V m c main_v7) ?_
  funext a
  apply Fin.ext
  match a with
  | ⟨0, _⟩ =>
    show win0_3.index t (0 : Fin 2) * 256 + 1 * r.val = r.val
    rw [e0]; omega
  | ⟨1, _⟩ =>
    show win0_3.index t (1 : Fin 2) * 512 + 1 * l.val = (t.val / 72 * 8 + min (t.val % 9) 7) * 512 + l.val
    rw [e1]; omega
theorem blk4 (t : Fin cfg0.N) (r : Fin 512) (l : Fin 512) : iblk m c 4 t (ix2 r l) = V m c main_v9 (ix2 ⟨(t.val / 72) * 512 + r.val, by have := lt_N t; omega⟩ l) := by
  blk_simp [iblk]
  obtain ⟨e0, e1⟩ := place4 t
  refine congrArg (V m c main_v9) ?_
  funext a
  apply Fin.ext
  match a with
  | ⟨0, _⟩ =>
    show win0_4.index t (0 : Fin 2) * 512 + 1 * r.val = (t.val / 72) * 512 + r.val
    rw [e0]; omega
  | ⟨1, _⟩ =>
    show win0_4.index t (1 : Fin 2) * 512 + 1 * l.val = l.val
    rw [e1]; omega
theorem blk6 (t : Fin cfg0.N) (r : Fin 256) (l : Fin 512) : iblk m c 6 t (ix2 r l) = V m c main_v12 (ix2 r ⟨(t.val / 72) * 512 + l.val, by have := lt_N t; omega⟩) := by
  blk_simp [iblk]
  obtain ⟨e0, e1⟩ := place6 t
  refine congrArg (V m c main_v12) ?_
  funext a
  apply Fin.ext
  match a with
  | ⟨0, _⟩ =>
    show win0_6.index t (0 : Fin 2) * 256 + 1 * r.val = r.val
    rw [e0]; omega
  | ⟨1, _⟩ =>
    show win0_6.index t (1 : Fin 2) * 512 + 1 * l.val = (t.val / 72) * 512 + l.val
    rw [e1]; omega
theorem blk7 (t : Fin cfg0.N) (r : Fin 512) (l : Fin 512) : iblk m c 7 t (ix2 r l) = V m c main_v45 (ix2 ⟨(t.val / 9 % 8) * 512 + r.val, by have := lt_N t; omega⟩ l) := by
  blk_simp [iblk]
  obtain ⟨e0, e1⟩ := place7 t
  refine congrArg (V m c main_v45) ?_
  funext a
  apply Fin.ext
  match a with
  | ⟨0, _⟩ =>
    show win0_7.index t (0 : Fin 2) * 512 + 1 * r.val = (t.val / 9 % 8) * 512 + r.val
    rw [e0]; omega
  | ⟨1, _⟩ =>
    show win0_7.index t (1 : Fin 2) * 512 + 1 * l.val = l.val
    rw [e1]; omega
theorem blk8 (t : Fin cfg0.N) (r : Fin 512) (l : Fin 512) : iblk m c 8 t (ix2 r l) = V m c main_v49 (ix2 ⟨(t.val / 9 % 8) * 512 + r.val, by have := lt_N t; omega⟩ l) := by
  blk_simp [iblk]
  obtain ⟨e0, e1⟩ := place8 t
  refine congrArg (V m c main_v49) ?_
  funext a
  apply Fin.ext
  match a with
  | ⟨0, _⟩ =>
    show win0_8.index t (0 : Fin 2) * 512 + 1 * r.val = (t.val / 9 % 8) * 512 + r.val
    rw [e0]; omega
  | ⟨1, _⟩ =>
    show win0_8.index t (1 : Fin 2) * 512 + 1 * l.val = l.val
    rw [e1]; omega
theorem blk9 (t : Fin cfg0.N) (r : Fin 512) (l : Fin 512) : iblk m c 9 t (ix2 r l) = V m c main_v53 (ix2 ⟨(t.val / 9 % 8) * 512 + r.val, by have := lt_N t; omega⟩ l) := by
  blk_simp [iblk]
  obtain ⟨e0, e1⟩ := place9 t
  refine congrArg (V m c main_v53) ?_
  funext a
  apply Fin.ext
  match a with
  | ⟨0, _⟩ =>
    show win0_9.index t (0 : Fin 2) * 512 + 1 * r.val = (t.val / 9 % 8) * 512 + r.val
    rw [e0]; omega
  | ⟨1, _⟩ =>
    show win0_9.index t (1 : Fin 2) * 512 + 1 * l.val = l.val
    rw [e1]; omega
theorem blk10 (t : Fin cfg0.N) (r : Fin 512) (l : Fin 128) : iblk m c 10 t (ix2 r l) = V m c main_v86 (ix2 ⟨(min (t.val % 9) 7) * 512 + r.val, by have := lt_N t; omega⟩ l) := by
  blk_simp [iblk]
  obtain ⟨e0, e1⟩ := place10 t
  refine congrArg (V m c main_v86) ?_
  funext a
  apply Fin.ext
  match a with
  | ⟨0, _⟩ =>
    show win0_10.index t (0 : Fin 2) * 512 + 1 * r.val = (min (t.val % 9) 7) * 512 + r.val
    rw [e0]; omega
  | ⟨1, _⟩ =>
    show win0_10.index t (1 : Fin 2) * 128 + 1 * l.val = l.val
    rw [e1]; omega
theorem blk11 (t : Fin cfg0.N) (r : Fin 512) (l : Fin 128) : iblk m c 11 t (ix2 r l) = V m c main_v90 (ix2 ⟨(min (t.val % 9) 7) * 512 + r.val, by have := lt_N t; omega⟩ l) := by
  blk_simp [iblk]
  obtain ⟨e0, e1⟩ := place11 t
  refine congrArg (V m c main_v90) ?_
  funext a
  apply Fin.ext
  match a with
  | ⟨0, _⟩ =>
    show win0_11.index t (0 : Fin 2) * 512 + 1 * r.val = (min (t.val % 9) 7) * 512 + r.val
    rw [e0]; omega
  | ⟨1, _⟩ =>
    show win0_11.index t (1 : Fin 2) * 128 + 1 * l.val = l.val
    rw [e1]; omega
theorem blk12 (t : Fin cfg0.N) (r : Fin 512) (l : Fin 128) : iblk m c 12 t (ix2 r l) = V m c main_v94 (ix2 ⟨(min (t.val % 9) 7) * 512 + r.val, by have := lt_N t; omega⟩ l) := by
  blk_simp [iblk]
  obtain ⟨e0, e1⟩ := place12 t
  refine congrArg (V m c main_v94) ?_
  funext a
  apply Fin.ext
  match a with
  | ⟨0, _⟩ =>
    show win0_12.index t (0 : Fin 2) * 512 + 1 * r.val = (min (t.val % 9) 7) * 512 + r.val
    rw [e0]; omega
  | ⟨1, _⟩ =>
    show win0_12.index t (1 : Fin 2) * 128 + 1 * l.val = l.val
    rw [e1]; omega
theorem blk5 (t : Fin cfg0.N) (r : Fin 512) (l : Fin 128) : iblk m c 5 t (ix3 0 r l) = V m c main_v10 (ix3 ⟨t.val / 72, by have := lt_N t; omega⟩ r l) := by
  blk_simp [iblk]
  obtain ⟨e0, e1, e2⟩ := place5 t
  refine congrArg (V m c main_v10) ?_
  funext a
  apply Fin.ext
  match a with
  | ⟨0, _⟩ =>
    show win0_5.index t (0 : Fin 3) * 1 + 1 * 0 = t.val / 72
    rw [e0]; omega
  | ⟨1, _⟩ =>
    show win0_5.index t (1 : Fin 3) * 512 + 1 * r.val = r.val
    rw [e1]; omega
  | ⟨2, _⟩ =>
    show win0_5.index t (2 : Fin 3) * 128 + 1 * l.val = l.val
    rw [e2]; omega
end Cert.MlaVal
end
-- ==== Proof.KVec.lean ====
module

public import proofs.«01_k».proof.Proof.KBlocks

@[expose] public section

set_option maxRecDepth 16384

noncomputable section

namespace Cert.MlaVal

open Idealize.ShloMosaic Idealize.ShloMosaic.TcCoe Idealize.SL.Sem
open Cert.MlaIdeal Cert.MlaIdeal.Gen Cert.Rope

variable (m : (ℓ : Loc nD τ sig) → Buf (Elt Ideal) ℓ) (c : Dev nD)

/-- The batch that point `t` works on. -/
def bOf (t : Fin cfg0.N) : Fin 8 := ⟨t.val / 72, by have := lt_N t; omega⟩
/-- The token of row `q` of the query tile that point `t` works on. -/
def qOf (t : Fin cfg0.N) (q : Fin 512) : Fin 4096 := ⟨512 * (t.val / 9 % 8) + q.val, by omega⟩
/-- The sample token of row `k` of the key tile that point `t` works on. -/
def kOf (t : Fin cfg0.N) (k : Fin 512) : Fin 4096 := ⟨512 * min (t.val % 9) 7 + k.val, by omega⟩

theorem congr4 {n : ℕ} (A : Fin 8 → Fin 4096 → Fin 4 → Fin n → EReal) {b b' : Fin 8} {t t' : Fin 4096} {h h' : Fin 4} {x x' : ℕ}
    (e1 : b.val = b'.val) (e2 : t.val = t'.val) (e3 : h.val = h'.val) (e4 : x = x') : ext (A b t h) x = ext (A b' t' h') x' := by
  obtain rfl := Fin.ext e1; obtain rfl := Fin.ext e2; obtain rfl := Fin.ext e3; subst e4; rfl
theorem congr4c {n : ℕ} (A : Fin 8 → Fin 512 → Fin 4 → Fin n → EReal) {b b' : Fin 8} {t t' : Fin 512} {h h' : Fin 4} {x x' : ℕ}
    (e1 : b.val = b'.val) (e2 : t.val = t'.val) (e3 : h.val = h'.val) (e4 : x = x') : ext (A b t h) x = ext (A b' t' h') x' := by
  obtain rfl := Fin.ext e1; obtain rfl := Fin.ext e2; obtain rfl := Fin.ext e3; subst e4; rfl

/-! ## The blocks in terms of the arguments -/

theorem read0 (t : Fin cfg0.N) (q l : Fin 512) :
    iblk m c 0 t (ix2 q l) = ext (A0 m c (bOf t) (qOf t q) ⟨l.val / 128, by omega⟩) (l.val % 128) := by
  rw [blk0, V_v1_at]
  refine Eq.trans (b := ext (A0 m c ⟨(t.val / 9 * 512 + q.val) / 4096, by have := lt_N t; omega⟩ ⟨(t.val / 9 * 512 + q.val) % 4096, by omega⟩ ⟨l.val / 128, by omega⟩) (l.val % 128)) rfl ?_
  refine congr4 _ ?_ ?_ rfl rfl
  · show (t.val / 9 * 512 + q.val) / 4096 = t.val / 72
    omega
  · show (t.val / 9 * 512 + q.val) % 4096 = 512 * (t.val / 9 % 8) + q.val
    omega

theorem read1 (t : Fin cfg0.N) (k l : Fin 512) :
    iblk m c 1 t (ix2 k l) = ext (A1 m c (bOf t) (kOf t k) ⟨l.val / 128, by omega⟩) (l.val % 128) := by
  rw [blk1, V_v3_at]
  refine Eq.trans (b := ext (A1 m c ⟨((t.val / 72 * 8 + min (t.val % 9) 7) * 512 + k.val) / 4096, by have := lt_N t; omega⟩ ⟨((t.val / 72 * 8 + min (t.val % 9) 7) * 512 + k.val) % 4096, by omega⟩ ⟨l.val / 128, by omega⟩) (l.val % 128)) rfl ?_
  refine congr4 _ ?_ ?_ rfl rfl
  · show ((t.val / 72 * 8 + min (t.val % 9) 7) * 512 + k.val) / 4096 = t.val / 72
    omega
  · show ((t.val / 72 * 8 + min (t.val % 9) 7) * 512 + k.val) % 4096 = 512 * min (t.val % 9) 7 + k.val
    omega

theorem read2 (t : Fin cfg0.N) (k : Fin 512) (l : Fin 128) :
    iblk m c 2 t (ix2 k l) = if 64 ≤ l.val ∧ l.val - 64 < 32 then ext (A2 m c (bOf t) (kOf t k)) (l.val - 64) else 0 := by
  rw [blk2, V_v5_at]
  by_cases h : 64 ≤ l.val ∧ l.val - 64 < 32
  · rw [dif_pos h, if_pos h, ext_lt _ _ h.2]
    unfold A2
    congr 2
    · exact Fin.ext (by show ((t.val / 72 * 8 + min (t.val % 9) 7) * 512 + k.val) / 4096 = t.val / 72; omega)
    · exact Fin.ext (by show ((t.val / 72 * 8 + min (t.val % 9) 7) * 512 + k.val) % 4096 = 512 * min (t.val % 9) 7 + k.val; omega)
  · rw [dif_neg h, if_neg h]

theorem read3 (t : Fin cfg0.N) (h : Fin 4) (v : Fin 64) (k : Fin 512) :
    iblk m c 3 t (ix2 (vrow h v) k) = A3 m c (bOf t) (kOf t k) h v := by
  rw [blk3, V_v7_at]
  unfold A3
  congr 2
  · exact Fin.ext (by show ((t.val / 72 * 8 + min (t.val % 9) 7) * 512 + k.val) / 4096 = t.val / 72; omega)
  · exact Fin.ext (by show ((t.val / 72 * 8 + min (t.val % 9) 7) * 512 + k.val) % 4096 = 512 * min (t.val % 9) 7 + k.val; omega)
  · exact Fin.ext (by show (64 * h.val + v.val) / 64 = h.val; omega)
  · exact Fin.ext (by show (64 * h.val + v.val) % 64 = v.val; omega)

theorem read4 (t : Fin cfg0.N) (k l : Fin 512) :
    iblk m c 4 t (ix2 k l) = ext (A4 m c (bOf t) k ⟨l.val / 128, by omega⟩) (l.val % 128) := by
  rw [blk4, V_v9_at]
  refine Eq.trans (b := ext (A4 m c ⟨(t.val / 72 * 512 + k.val) / 512, by have := lt_N t; omega⟩ ⟨(t.val / 72 * 512 + k.val) % 512, by omega⟩ ⟨l.val / 128, by omega⟩) (l.val % 128)) rfl ?_
  refine congr4c _ ?_ ?_ rfl rfl
  · show (t.val / 72 * 512 + k.val) / 512 = t.val / 72
    omega
  · show (t.val / 72 * 512 + k.val) % 512 = k.val
    omega

theorem read5 (t : Fin cfg0.N) (k : Fin 512) (l : Fin 128) :
    iblk m c 5 t (ix3 0 k l) = if 64 ≤ l.val ∧ l.val - 64 < 32 then ext (A5 m c (bOf t) k) (l.val - 64) else 0 := by
  rw [blk5, V_v10_at]
  by_cases h : 64 ≤ l.val ∧ l.val - 64 < 32
  · rw [dif_pos h, if_pos h, ext_lt _ _ h.2]
    rfl
  · rw [dif_neg h, if_neg h]

theorem read6 (t : Fin cfg0.N) (h : Fin 4) (v : Fin 64) (k : Fin 512) :
    iblk m c 6 t (ix2 (vrow h v) k) = A6 m c (bOf t) k h v := by
  rw [blk6, V_v12_at]
  unfold A6
  congr 2
  · exact Fin.ext (by show (t.val / 72 * 512 + k.val) / 512 = t.val / 72; omega)
  · exact Fin.ext (by show (t.val / 72 * 512 + k.val) % 512 = k.val; omega)
  · exact Fin.ext (by show (64 * h.val + v.val) / 64 = h.val; omega)
  · exact Fin.ext (by show (64 * h.val + v.val) % 64 = v.val; omega)

/-! ## The queries and the keys as the kernel holds them -/

theorem pay1_at (x c1 s1 s2 : Vec Ideal S512x512 .f32) (r q : Fin 512) : k0_pay1 (F := Ideal) x c1 s1 s2 (ix2 r q)
    = x (ix2 q r) * c1 (ix2 q r) + x (ix2 q ⟨(r.val + 512 - 504) % 512, by omega⟩) * s1 (ix2 q r)
      + x (ix2 q ⟨(r.val + 512 - 8) % 512, by omega⟩) * s2 (ix2 q r) := by
  pointwise [k0_pay1]

/-- The scratch that holds the turned queries: lane by token. -/
theorem query_at (t : Fin cfg0.N) (h : Fin 4) (x : Fin 128) (q : Fin 512) :
    k0_pay1 (iblk m c 0 t) (iblk m c 7 t) (iblk m c 8 t) (iblk m c 9 t) (ix2 (lane h x) q) = qvec (A0 m c) (bOf t) (qOf t q) h x.val := by
  have e3 : (⟨t.val / 9 % 8 * 512 + q.val, by omega⟩ : Fin 4096) = qOf t q := Fin.ext (by show t.val / 9 % 8 * 512 + q.val = 512 * (t.val / 9 % 8) + q.val; omega)
  rw [pay1_at, blk7, blk8, blk9, e3, cosQ, sinAQ, sinBQ, read0, read0, read0]
  have e1 : (lane h x).val / 128 = h.val := by show (128 * h.val + x.val) / 128 = h.val; omega
  have e2 : (lane h x).val % 128 = x.val := by show (128 * h.val + x.val) % 128 = x.val; omega
  have eh : (⟨(lane h x).val / 128, by omega⟩ : Fin 4) = h := Fin.ext e1
  rw [eh, e2]
  unfold qvec
  refine rope_lanes (ext (A0 m c (bOf t) (qOf t q) h)) _ _ _ _ _ _ _ ?_ ?_ rfl rfl rfl
  · intro h1 h2
    refine congr4 _ rfl rfl ?_ ?_
    · show ((128 * h.val + x.val + 512 - 504) % 512) / 128 = h.val
      omega
    · show ((128 * h.val + x.val + 512 - 504) % 512) % 128 = x.val + 8
      omega
  · intro h1 h2
    refine congr4 _ rfl rfl ?_ ?_
    · show ((128 * h.val + x.val + 512 - 8) % 512) / 128 = h.val
      omega
    · show ((128 * h.val + x.val + 512 - 8) % 512) % 128 = x.val - 8
      omega

/-- A 128-lane row repeated for the four heads: the row at the lane within the head. -/
theorem four_heads (f : Fin 128 → EReal) (h : Fin 4) (x : Fin 128) :
    (if e : (lane h x).val < 128 then f ⟨(lane h x).val, e⟩ else if e : (lane h x).val - 128 < 128 then f ⟨(lane h x).val - 128, e⟩
      else if e : (lane h x).val - 128 - 128 < 128 then f ⟨(lane h x).val - 128 - 128, e⟩
      else f ⟨(lane h x).val - 128 - 128 - 128, by omega⟩) = f x := by
  have e0 : (lane h x).val = 128 * h.val + x.val := rfl
  split
  · congr 1; apply Fin.ext; show (lane h x).val = x.val; omega
  · split
    · congr 1; apply Fin.ext; show (lane h x).val - 128 = x.val; omega
    · split
      · congr 1; apply Fin.ext; show (lane h x).val - 128 - 128 = x.val; omega
      · congr 1; apply Fin.ext; show (lane h x).val - 128 - 128 - 128 = x.val; omega

theorem pay14_read (x c1 s1 s2 : Vec Ideal S512x128 .f32) (kn : Vec Ideal S512x512 .f32) (r l : Fin 512) :
    k0_pay14 (F := Ideal) x c1 s1 s2 kn (ix2 r l) = kn (ix2 r l)
      + (fun f : Fin 128 → EReal => if e : l.val < 128 then f ⟨l.val, e⟩ else if e : l.val - 128 < 128 then f ⟨l.val - 128, e⟩
      else if e : l.val - 128 - 128 < 128 then f ⟨l.val - 128 - 128, e⟩
      else f ⟨l.val - 128 - 128 - 128, by omega⟩) (fun y => x (ix2 r y) * c1 (ix2 r y) + x (ix2 r ⟨(y.val + 128 - 120) % 128, by omega⟩) * s1 (ix2 r y)
        + x (ix2 r ⟨(y.val + 128 - 8) % 128, by omega⟩) * s2 (ix2 r y)) := by
  pointwise [k0_pay14]

theorem pay14_at (x c1 s1 s2 : Vec Ideal S512x128 .f32) (kn : Vec Ideal S512x512 .f32) (r : Fin 512) (h : Fin 4) (y : Fin 128) :
    k0_pay14 (F := Ideal) x c1 s1 s2 kn (ix2 r (lane h y)) = kn (ix2 r (lane h y))
      + (x (ix2 r y) * c1 (ix2 r y) + x (ix2 r ⟨(y.val + 128 - 120) % 128, by omega⟩) * s1 (ix2 r y)
        + x (ix2 r ⟨(y.val + 128 - 8) % 128, by omega⟩) * s2 (ix2 r y)) := by
  rw [pay14_read]
  exact congrArg _ (four_heads (fun y => x (ix2 r y) * c1 (ix2 r y) + x (ix2 r ⟨(y.val + 128 - 120) % 128, by omega⟩) * s1 (ix2 r y)
        + x (ix2 r ⟨(y.val + 128 - 8) % 128, by omega⟩) * s2 (ix2 r y)) h y)

theorem pay43_read (kn : Vec Ideal S512x512 .f32) (x : Vec Ideal S1x512x128 .f32) (r l : Fin 512) :
    k0_pay43 (F := Ideal) kn x (ix2 r l) = kn (ix2 r l)
      + (fun f : Fin 128 → EReal => if e : l.val < 128 then f ⟨l.val, e⟩ else if e : l.val - 128 < 128 then f ⟨l.val - 128, e⟩
      else if e : l.val - 128 - 128 < 128 then f ⟨l.val - 128 - 128, e⟩
      else f ⟨l.val - 128 - 128 - 128, by omega⟩) (fun y => x (ix3 0 r y)) := by
  pointwise [k0_pay43]

theorem pay43_at (kn : Vec Ideal S512x512 .f32) (x : Vec Ideal S1x512x128 .f32) (r : Fin 512) (h : Fin 4) (y : Fin 128) :
    k0_pay43 (F := Ideal) kn x (ix2 r (lane h y)) = kn (ix2 r (lane h y)) + x (ix3 0 r y) := by
  rw [pay43_read]
  exact congrArg _ (four_heads (fun y => x (ix3 0 r y)) h y)

/-- The keys of a tile of sample tokens, the shared lanes turned and laid beside each head's own. -/
theorem key_at (t : Fin cfg0.N) (k : Fin 512) (h : Fin 4) (x : Fin 128) :
    keyI m c t (ix2 k (lane h x)) = kvec (A1 m c) (A2 m c) (bOf t) (kOf t k) h x.val := by
  unfold keyI
  have e3 : (⟨min (t.val % 9) 7 * 512 + k.val, by omega⟩ : Fin 4096) = kOf t k := Fin.ext (by show min (t.val % 9) 7 * 512 + k.val = 512 * min (t.val % 9) 7 + k.val; omega)
  rw [pay14_at, blk10, blk11, blk12, e3, cosK, sinAK, sinBK, read1, read2, read2, read2]
  have e1 : (lane h x).val / 128 = h.val := by show (128 * h.val + x.val) / 128 = h.val; omega
  have e2 : (lane h x).val % 128 = x.val := by show (128 * h.val + x.val) % 128 = x.val; omega
  have eh : (⟨(lane h x).val / 128, by omega⟩ : Fin 4) = h := Fin.ext e1
  rw [eh, e2]
  have key := rope_lanes (fun y => if 64 ≤ y ∧ y - 64 < 32 then ext (A2 m c (bOf t) (kOf t k)) (y - 64) else 0) (kOf t k).val x.val
    (u := if 64 ≤ (x.val + 128 - 120) % 128 ∧ (x.val + 128 - 120) % 128 - 64 < 32 then ext (A2 m c (bOf t) (kOf t k)) ((x.val + 128 - 120) % 128 - 64) else 0)
    (d := if 64 ≤ (x.val + 128 - 8) % 128 ∧ (x.val + 128 - 8) % 128 - 64 < 32 then ext (A2 m c (bOf t) (kOf t k)) ((x.val + 128 - 8) % 128 - 64) else 0)
    _ _ _ (by intro h1 h2; rw [show (x.val + 128 - 120) % 128 = x.val + 8 by omega]) (by intro h1 h2; rw [show (x.val + 128 - 8) % 128 = x.val - 8 by omega]) rfl rfl rfl
  refine (congrArg _ key).trans ?_
  unfold kvec
  by_cases hx : 64 ≤ x.val ∧ x.val - 64 < 32
  · rw [if_pos hx, if_pos hx, ext_ge _ _ (by omega), zero_add]
    unfold rope
    by_cases h2 : (x.val - 64) % 16 < 8
    · rw [if_pos h2, if_pos h2]
      beta_reduce
      rw [if_pos (by omega), if_pos (by omega), show 64 + (x.val - 64) - 64 = x.val - 64 by omega,
        show 64 + (x.val - 64 + 8) - 64 = x.val - 64 + 8 by omega]
    · rw [if_neg h2, if_neg h2]
      beta_reduce
      rw [if_pos (by omega), if_pos (by omega), show 64 + (x.val - 64) - 64 = x.val - 64 by omega,
        show 64 + (x.val - 64 - 8) - 64 = x.val - 64 - 8 by omega]
  · rw [if_neg hx, if_neg hx, if_neg hx, add_zero]

/-- The keys of the prompt tokens, the shared lanes laid beside each head's own. -/
theorem keyC_at (t : Fin cfg0.N) (k : Fin 512) (h : Fin 4) (x : Fin 128) :
    keyC m c t (ix2 k (lane h x)) = cvec (A4 m c) (A5 m c) (bOf t) k h x.val := by
  unfold keyC
  rw [pay43_at, read4, read5]
  have e1 : (lane h x).val / 128 = h.val := by show (128 * h.val + x.val) / 128 = h.val; omega
  have e2 : (lane h x).val % 128 = x.val := by show (128 * h.val + x.val) % 128 = x.val; omega
  have eh : (⟨(lane h x).val / 128, by omega⟩ : Fin 4) = h := Fin.ext e1
  rw [eh, e2]
  unfold cvec
  by_cases hx : 64 ≤ x.val ∧ x.val - 64 < 32
  · rw [if_pos hx, if_pos hx, ext_ge _ _ (by omega), zero_add]
  · rw [if_neg hx, if_neg hx, add_zero]

end Cert.MlaVal
end
-- ==== Proof.KFold.lean ====
module

public import proofs.«01_k».proof.Proof.KCaseA
public import proofs.«01_k».proof.Proof.KCaseB
public import proofs.«01_k».proof.Proof.KCaseC
public import proofs.«01_k».proof.Proof.KVec
public import proofs.«01_k».proof.Proof.Spec

@[expose] public section

set_option maxRecDepth 16384

noncomputable section

namespace Cert.MlaVal

open Idealize.ShloMosaic Idealize.ShloMosaic.TcCoe Idealize.SL.Sem
open Cert.MlaIdeal Cert.MlaIdeal.Gen Cert.Rope Cert.Flash

variable (m : (ℓ : Loc nD τ sig) → Buf (Elt Ideal) ℓ) (c : Dev nD)

set_option maxHeartbeats 1000000 in
/-- Case A: the scratch holding the turned, transposed queries after the point. -/
theorem stepA_q (t : Fin cfg0.N) (h0 : t.val % 9 = 0) (h1 : t.val % 9 ≤ 7) (h2 : ¬t.val % 9 = 8) :
    (outsAt0 m c t.val t.isLt).2.1 = k0_pay1 (iblk m c 0 t) (iblk m c 7 t) (iblk m c 8 t) (iblk m c 9 t) := by
  rw [outsAt0_A m c t h0 h1 h2]
  dsimp only
  unfold sout0_A_0
  frame_out

/-- The start of the running maximum. -/
def start : EReal := Ideal.ofBits FTy.f32 0xF149F2CA#32

/-- The scores that the points of `t`'s group meet, block by block. -/
def scG (t : Fin cfg0.N) (h : Fin 4) (q : Fin 512) : ℕ → Fin 512 → EReal :=
  sc (A0 m c) (A1 m c) (A2 m c) (A4 m c) (A5 m c) (bOf t) (qOf t q) h
/-- The values that the points of `t`'s group meet, block by block. -/
def vaG (t : Fin cfg0.N) (h : Fin 4) (v : Fin 64) : ℕ → Fin 512 → EReal := va (A3 m c) (A6 m c) (bOf t) h v

/-- The scores against an image block, from the turned queries. -/
theorem score_image (t : Fin cfg0.N) (h1 : t.val % 9 ≤ 7) (Qt : Vec Ideal S512x512 .bf16)
    (hQ : ∀ (h : Fin 4) (x : Fin 128) (q : Fin 512), Qt (ix2 (lane h x) q) = qvec (A0 m c) (bOf t) (qOf t q) h x.val)
    (h : Fin 4) (q : Fin 512) : score (keyI m c t) Qt h q = scG m c t h q (t.val % 9) := by
  funext k
  unfold score scG sc
  rw [if_pos (by omega)]
  refine congrArg (· * scale) (Finset.sum_congr rfl fun x _ => ?_)
  rw [key_at, hQ]
  rfl

/-- The scores against the cached block, from the turned queries. -/
theorem score_cached (t : Fin cfg0.N) (h1 : t.val % 9 = 8) (Qt : Vec Ideal S512x512 .bf16)
    (hQ : ∀ (h : Fin 4) (x : Fin 128) (q : Fin 512), Qt (ix2 (lane h x) q) = qvec (A0 m c) (bOf t) (qOf t q) h x.val)
    (h : Fin 4) (q : Fin 512) : score (keyC m c t) Qt h q = scG m c t h q (t.val % 9) := by
  funext k
  unfold score scG sc
  rw [if_neg (by omega)]
  refine congrArg (· * scale) (Finset.sum_congr rfl fun x _ => ?_)
  rw [keyC_at, hQ]

/-- The values of an image block. -/
theorem value_image (t : Fin cfg0.N) (h1 : t.val % 9 ≤ 7) (h : Fin 4) (v : Fin 64) :
    (fun k => iblk m c 3 t (ix2 (vrow h v) k)) = vaG m c t h v (t.val % 9) := by
  funext k
  unfold vaG va
  rw [if_pos (by omega), read3]
  rfl

/-- The values of the cached block. -/
theorem value_cached (t : Fin cfg0.N) (h1 : t.val % 9 = 8) (h : Fin 4) (v : Fin 64) :
    (fun k => iblk m c 6 t (ix2 (vrow h v) k)) = vaG m c t h v (t.val % 9) := by
  funext k
  unfold vaG va
  rw [if_neg (by omega), read6]

/-- What the four scratch buffers hold after point `t`: the turned queries, and the running maximum, weight and weighted sum
    over the blocks of the group up to `t`'s. -/
structure Held (t : Fin cfg0.N) : Prop where
  hq : ∀ (h : Fin 4) (x : Fin 128) (q : Fin 512), (outsAt0 m c t.val t.isLt).2.1 (ix2 (lane h x) q) = qvec (A0 m c) (bOf t) (qOf t q) h x.val
  hm : ∀ (h : Fin 4) (q : Fin 512), (outsAt0 m c t.val t.isLt).2.2.1 (ix3 h 0 q) = runM start (scG m c t h q) (t.val % 9 + 1)
  hl : ∀ (h : Fin 4) (q : Fin 512), (outsAt0 m c t.val t.isLt).2.2.2.1 (ix3 h 0 q) = runL start (scG m c t h q) (t.val % 9 + 1)
  ha : ∀ (h : Fin 4) (v : Fin 64) (q : Fin 512), (outsAt0 m c t.val t.isLt).2.2.2.2 (ix2 (vrow h v) q) = runA start (scG m c t h q) (vaG m c t h v) (t.val % 9 + 1)

/-- The point before `t`. -/
def before (t : Fin cfg0.N) : Fin cfg0.N := ⟨t.val - 1, Nat.lt_of_le_of_lt (Nat.sub_le _ _) t.isLt⟩

theorem bOf_before (t : Fin cfg0.N) (h0 : ¬t.val % 9 = 0) : bOf (before t) = bOf t :=
  Fin.ext (by show (t.val - 1) / 72 = t.val / 72; omega)
theorem qOf_before (t : Fin cfg0.N) (h0 : ¬t.val % 9 = 0) (q : Fin 512) : qOf (before t) q = qOf t q :=
  Fin.ext (by show 512 * ((t.val - 1) / 9 % 8) + q.val = 512 * (t.val / 9 % 8) + q.val; omega)

/-- What the point before left, in terms of `t`'s own group. -/
theorem held_prev (t : Fin cfg0.N) (h0 : ¬t.val % 9 = 0) (H : Held m c (before t)) :
    (∀ (h : Fin 4) (x : Fin 128) (q : Fin 512), (prev m c t).2.1 (ix2 (lane h x) q) = qvec (A0 m c) (bOf t) (qOf t q) h x.val)
    ∧ (∀ (h : Fin 4) (q : Fin 512), (prev m c t).2.2.1 (ix3 h 0 q) = runM start (scG m c t h q) (t.val % 9))
    ∧ (∀ (h : Fin 4) (q : Fin 512), (prev m c t).2.2.2.1 (ix3 h 0 q) = runL start (scG m c t h q) (t.val % 9))
    ∧ (∀ (h : Fin 4) (v : Fin 64) (q : Fin 512), (prev m c t).2.2.2.2 (ix2 (vrow h v) q) = runA start (scG m c t h q) (vaG m c t h v) (t.val % 9)) := by
  obtain ⟨hq, hm, hl, ha⟩ := H
  have e : (before t).val % 9 + 1 = t.val % 9 := by show (t.val - 1) % 9 + 1 = t.val % 9; omega
  have es : ∀ h q, scG m c (before t) h q = scG m c t h q := fun h q => by unfold scG; rw [bOf_before t h0, qOf_before t h0]
  have ev : ∀ h v, vaG m c (before t) h v = vaG m c t h v := fun h v => by unfold vaG; rw [bOf_before t h0]
  refine ⟨fun h x q => ?_, fun h q => ?_, fun h q => ?_, fun h v q => ?_⟩
  · rw [← bOf_before t h0, ← qOf_before t h0]; exact hq h x q
  · rw [← es, ← e]; exact hm h q
  · rw [← es, ← e]; exact hl h q
  · rw [← es, ← ev, ← e]; exact ha h v q

/-- After a point of an image block the scratch buffers hold what `Held` says. -/
theorem held : ∀ (n : ℕ) (t : Fin cfg0.N), t.val % 9 = n → n ≤ 7 → Held m c t := by
  intro n
  induction n with
  | zero =>
    intro t h0 _
    have h1 : t.val % 9 ≤ 7 := by omega
    have h2 : ¬t.val % 9 = 8 := by omega
    have es := score_image m c t h1 _ (query_at m c t)
    rw [h0] at es
    have ev := value_image m c t h1
    rw [h0] at ev
    refine ⟨fun h x q => ?_, fun h q => ?_, fun h q => ?_, fun h v q => ?_⟩
    · rw [stepA_q m c t h0 h1 h2]; exact query_at m c t h x q
    · rw [stepA_m m c t h0 h1 h2, es, h0]; rfl
    · rw [stepA_l m c t h0 h1 h2, es, h0]; rfl
    · rw [stepA_a m c t h0 h1 h2, es, ev, h0]; rfl
  | succ n ih =>
    intro t hn hle
    have h0 : ¬t.val % 9 = 0 := by omega
    have h1 : t.val % 9 ≤ 7 := by omega
    have h2 : ¬t.val % 9 = 8 := by omega
    obtain ⟨pq, pm, pl, pa⟩ := held_prev m c t h0 (ih (before t) (by show (t.val - 1) % 9 = n; omega) (by omega))
    have es := score_image m c t h1 _ pq
    have ev := value_image m c t h1
    refine ⟨fun h x q => ?_, fun h q => ?_, fun h q => ?_, fun h v q => ?_⟩
    · rw [stepB_q m c t h0 h1 h2]; exact pq h x q
    · rw [stepB_m m c t h0 h1 h2, es, pm]; rfl
    · rw [stepB_l m c t h0 h1 h2, es, pm, pl]; rfl
    · rw [stepB_a m c t h0 h1 h2, es, ev, pm, pa]; rfl

/-- The output block after the last point of a group: the quotient of the weighted sum by the weight, over all nine blocks. -/
theorem out_at (t : Fin cfg0.N) (h2 : t.val % 9 = 8) (h : Fin 4) (v : Fin 64) (q : Fin 512) :
    (outsAt0 m c t.val t.isLt).1 (ix2 q (vrow h v))
      = Ideal.div (runA start (scG m c t h q) (vaG m c t h v) 9) (runL start (scG m c t h q) 9) := by
  have h0 : ¬t.val % 9 = 0 := by omega
  have h1 : ¬t.val % 9 ≤ 7 := by omega
  obtain ⟨pq, pm, pl, pa⟩ := held_prev m c t h0 (held m c 7 (before t) (by show (t.val - 1) % 9 = 7; omega) le_rfl)
  have es := score_cached m c t h2 _ pq
  have ev := value_cached m c t h2
  rw [stepC_o m c t h0 h1 h2, es, ev, pm, pl, pa, h2]
  rfl

end Cert.MlaVal

end
-- ==== Proof.KRun.lean ====
module

public import proofs.«01_k».proof.Proof.KFold
public import Idealize.ShloMosaic.Lib.Pipeline.Value

@[expose] public section

set_option maxRecDepth 16384

noncomputable section

namespace Cert.MlaVal

open Idealize.ShloMosaic Idealize.ShloMosaic.TcCoe Idealize.SL.Sem
open Cert.MlaIdeal Cert.MlaIdeal.Gen Cert.Rope Cert.Flash
open Idealize.ShloMosaic.Pipeline (Dat)

variable (m : (ℓ : Loc nD τ sig) → Buf (Elt Ideal) ℓ) (ρ : Dev nD → PrngReg) (c : Dev nD)

/-- The number the kernel leaves for batch `b`, token `t`, head `h`, lane `v`. -/
def flash (b : Fin 8) (t : Fin 4096) (h : Fin 4) (v : Fin 64) : EReal :=
  Ideal.div (runA start (sc (A0 m c) (A1 m c) (A2 m c) (A4 m c) (A5 m c) b t h) (va (A3 m c) (A6 m c) b h v) 9)
    (runL start (sc (A0 m c) (A1 m c) (A2 m c) (A4 m c) (A5 m c) b t h) 9)

/-- What the kernel's output array ends holding. -/
def outK : Buf (Elt Ideal) ((c : Thread nD τ).loc main_v95) := fun i : S32768x256.Idx =>
  flash m c ⟨(i 0).val / 4096, by have : (i 0).val < 32768 := (i 0).isLt; omega⟩ ⟨(i 0).val % 4096, by omega⟩
    ⟨(i 1).val / 64, by have : (i 1).val < 256 := (i 1).isLt; omega⟩ ⟨(i 1).val % 64, by omega⟩

/-- Where the output blocks lie: the block of each group of nine points is the group's. -/
theorem place13 : ∀ t : Fin cfg0.N, win0_13.index t (0 : Fin 2) = t.val / 9 ∧ win0_13.index t (1 : Fin 2) = 0 :=
  (by decide +kernel : ∀ t : Fin grid0.N, _)

/-- What the last point of a group writes back is its block of `outK`. -/
theorem written (t : Fin cfg0.N) (hf : (cfg0.win 13).flush t = true) :
    (dats m 0 c).flushed 13 t = ((cfg0.win 13).blk t).view.read (Elt Ideal) (outK m c) := by
  show (cfg0.win 13).cut (grid0.coords t) ((dats m 0 c).after 13 t) = _
  rw [after0_13]
  have hm : t.val % 9 = 8 := (flush0_13 t).mp hf
  obtain ⟨e0, e1⟩ := place13 t
  have hN := lt_N t
  funext y
  have hy0 : (y 0).val < 512 := (y 0).isLt
  have hy1 : (y 1).val < 256 := (y 1).isLt
  have hb0 : (((cfg0.win 13).blk t).view.emb y 0).val = win0_13.index t (0 : Fin 2) * 512 + 1 * (y 0).val := rfl
  have hb1 : (((cfg0.win 13).blk t).view.emb y 1).val = win0_13.index t (1 : Fin 2) * 256 + 1 * (y 1).val := rfl
  rw [e0] at hb0
  rw [e1] at hb1
  have hl : (cfg0.win 13).xinj (grid0.coords t) y = ix2 (⟨(y 0).val, hy0⟩ : Fin 512) (vrow ⟨(y 1).val / 64, by omega⟩ ⟨(y 1).val % 64, by omega⟩) := by
    funext a; apply Fin.ext
    match a with
    | ⟨0, _⟩ => show (y 0).val = (y 0).val; rfl
    | ⟨1, _⟩ => show (y 1).val = 64 * ((y 1).val / 64) + (y 1).val % 64; omega
  show (outsAt0 m c t.val t.isLt).1 ((cfg0.win 13).xinj (grid0.coords t) y) = outK m c (((cfg0.win 13).blk t).view.emb y)
  rw [hl, out_at m c t hm]
  unfold outK flash scG vaG
  have f0 : (⟨(((cfg0.win 13).blk t).view.emb y 0).val / 4096, by rw [hb0]; omega⟩ : Fin 8) = bOf t :=
    Fin.ext (by show (((cfg0.win 13).blk t).view.emb y 0).val / 4096 = t.val / 72; rw [hb0]; omega)
  have f1 : (⟨(((cfg0.win 13).blk t).view.emb y 0).val % 4096, by omega⟩ : Fin 4096) = qOf t ⟨(y 0).val, hy0⟩ :=
    Fin.ext (by show (((cfg0.win 13).blk t).view.emb y 0).val % 4096 = 512 * (t.val / 9 % 8) + (y 0).val; rw [hb0]; omega)
  have f2 : (⟨(((cfg0.win 13).blk t).view.emb y 1).val / 64, by rw [hb1]; omega⟩ : Fin 4) = ⟨(y 1).val / 64, by omega⟩ :=
    Fin.ext (by show (((cfg0.win 13).blk t).view.emb y 1).val / 64 = (y 1).val / 64; rw [hb1]; omega)
  have f3 : (⟨(((cfg0.win 13).blk t).view.emb y 1).val % 64, by omega⟩ : Fin 64) = ⟨(y 1).val % 64, by omega⟩ :=
    Fin.ext (by show (((cfg0.win 13).blk t).view.emb y 1).val % 64 = (y 1).val % 64; rw [hb1]; omega)
  rw [f0, f1, f2, f3]

/-- An index of the array is in point `t`'s block when each coordinate is in the block's range on its axis. -/
theorem in_block (t : Fin cfg0.N) (i : S32768x256.Idx) :
    i ∈ ((cfg0.win 13).blk t).view.set ↔ ∀ a : Fin 2, win0_13.index t a * S512x256.size a ≤ (i a).val ∧ (i a).val < win0_13.index t a * S512x256.size a + S512x256.size a := by
  show i ∈ ((View.whole main_v95).slice (win0_13.rect t)).set ↔ _
  rw [View.set_slice_whole, Rect.mem_set_unit]
  exact Iff.rfl

/-- The array after the run. -/
theorem array_after : (dats m 0 c).arrAt 13 cfg0.N = outK m c := by
  refine (dats m 0 c).arrAt_eq_of_cover 13 _ (fun t hf => written m c t hf) (fun i => ?_)
  have hi0 : (i 0).val < 32768 := (i 0).isLt
  have hi1 : (i 1).val < 256 := (i 1).isLt
  have hN : 9 * ((i 0).val / 512) + 8 < cfg0.N := lt_of_lt_of_eq (by omega) N_0.symm
  obtain ⟨e0, e1⟩ := place13 ⟨9 * ((i 0).val / 512) + 8, hN⟩
  have e0' : win0_13.index ⟨9 * ((i 0).val / 512) + 8, hN⟩ (0 : Fin 2) = (i 0).val / 512 := by rw [e0]; show (9 * ((i 0).val / 512) + 8) / 9 = _; omega
  refine ⟨⟨9 * ((i 0).val / 512) + 8, hN⟩, (flush0_13 _).mpr (by show (9 * ((i 0).val / 512) + 8) % 9 = 8; omega), ?_⟩
  rw [in_block]
  intro a
  match a with
  | ⟨0, _⟩ =>
    show win0_13.index ⟨9 * ((i 0).val / 512) + 8, hN⟩ (0 : Fin 2) * 512 ≤ (i 0).val ∧ (i 0).val < win0_13.index ⟨9 * ((i 0).val / 512) + 8, hN⟩ (0 : Fin 2) * 512 + 512
    rw [e0']; omega
  | ⟨1, _⟩ =>
    show win0_13.index ⟨9 * ((i 0).val / 512) + 8, hN⟩ (1 : Fin 2) * 256 ≤ (i 1).val ∧ (i 1).val < win0_13.index ⟨9 * ((i 0).val / 512) + 8, hN⟩ (1 : Fin 2) * 256 + 256
    rw [e1]; omega

/-- The kernel's run: the output array ends at `outK`, the arguments are unchanged. -/
theorem runK : θ_run defs (onTc (τ := τ) (main (F := Ideal))) ⟨m, fun _ => 0, ρ⟩ fun r => ∀ c : Dev nD,
      r.2.mem ((c : Thread nD τ).loc main_v95) = outK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 13).trans (array_after m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.MlaVal

end
-- ==== Proof.Join.lean ====
module

public import proofs.«01_k».proof.Proof.Spec
public import Idealize.ShloMosaic.Lib.Pointwise

@[expose] public section

noncomputable section

namespace Cert.Rope

open Idealize.ShloMosaic Cert.Flash

/-- The literal the running maximum starts from is a real. -/
theorem start_real : IsR (Ideal.ofBits FTy.f32 0xF149F2CA#32) := by
  simp only [Ideal.ofBits, Ideal.ieee]
  norm_num
  rw [if_neg (by decide)]
  split <;> exact ⟨_, rfl⟩

/-- A sum over the 4608 keys, block by block. -/
theorem sum_blocks (f : Fin 4608 → EReal) (g : ℕ → Fin 512 → EReal) (h : ∀ (j : Fin 9) (k : Fin 512), f ⟨512 * j.val + k.val, by omega⟩ = g j.val k) :
    ∑ k : Fin 4608, f k = ∑ j ∈ Finset.range 9, ∑ k : Fin 512, g j k := by
  rw [Fin.sum_univ_tiles 9 512 rfl f, Finset.sum_range]
  refine Finset.sum_congr rfl fun j _ => Finset.sum_congr rfl fun k _ => ?_
  rw [← h j k]
  exact congrArg f (Fin.ext (by show j.val * 512 + k.val = 512 * j.val + k.val; omega))

variable (Q : Fin 8 → Fin 4096 → Fin 4 → Fin 96 → EReal) (hQ : ∀ b t h x, IsR (Q b t h x))
  (Kn : Fin 8 → Fin 4096 → Fin 4 → Fin 64 → EReal) (hKn : ∀ b t h x, IsR (Kn b t h x))
  (Kr : Fin 8 → Fin 4096 → Fin 32 → EReal) (hKr : ∀ b t x, IsR (Kr b t x))
  (Cn : Fin 8 → Fin 512 → Fin 4 → Fin 64 → EReal) (hCn : ∀ b t h x, IsR (Cn b t h x))
  (Cr : Fin 8 → Fin 512 → Fin 32 → EReal) (hCr : ∀ b t x, IsR (Cr b t x))
  (V : Fin 8 → Fin 4096 → Fin 4 → Fin 64 → EReal) (Vc : Fin 8 → Fin 512 → Fin 4 → Fin 64 → EReal)

/-- Past the ninth block the score is the ninth block's again. -/
theorem sc_past (b : Fin 8) (t : Fin 4096) (h : Fin 4) (j : ℕ) (hj : ¬ j < 8) (k : Fin 512) :
    sc Q Kn Kr Cn Cr b t h j k = sc Q Kn Kr Cn Cr b t h 8 k := by
  unfold sc
  rw [if_neg hj, if_neg (by omega)]

include hQ hKn hKr hCn hCr

/-- With real queries and keys every blocked score is real. -/
theorem sc_real (b : Fin 8) (t : Fin 4096) (h : Fin 4) (j : ℕ) (k : Fin 512) : IsR (sc Q Kn Kr Cn Cr b t h j k) := by
  by_cases hj : j < 8
  · have e := sco_block Q Kn Kr Cn Cr b t h ⟨j, by omega⟩ k
    rw [show sc Q Kn Kr Cn Cr b t h j k = _ from e.symm]
    exact sco_real Q hQ Kn hKn Kr hKr Cn hCn Cr hCr b t h _
  · have e := sco_block Q Kn Kr Cn Cr b t h ⟨8, by omega⟩ k
    rw [sc_past Q Kn Kr Cn Cr b t h j hj k, show sc Q Kn Kr Cn Cr b t h 8 k = _ from e.symm]
    exact sco_real Q hQ Kn hKn Kr hKr Cn hCn Cr hCr b t h _

/-- The quotient after the nine blocks is the softmax-weighted sum of the values over the 4608 keys, at any real shift. -/
theorem flash_eq (b : Fin 8) (t : Fin 4096) (h : Fin 4) (v : Fin 64) (M : EReal) (hM : IsR M) :
    Ideal.div (runA (Ideal.ofBits FTy.f32 0xF149F2CA#32) (sc Q Kn Kr Cn Cr b t h) (va V Vc b h v) 9)
      (runL (Ideal.ofBits FTy.f32 0xF149F2CA#32) (sc Q Kn Kr Cn Cr b t h) 9)
    = ∑ k : Fin 4608, vals V Vc b h v k *
        Ideal.div (Ideal.exp (sco Q Kn Kr Cn Cr b t h k - M)) (∑ k' : Fin 4608, Ideal.exp (sco Q Kn Kr Cn Cr b t h k' - M)) := by
  rw [quotient_eq _ start_real _ (va V Vc b h v) (sc_real Q hQ Kn hKn Kr hKr Cn hCn Cr hCr b t h) 9 M hM 0 (by norm_num) 0]
  have eL := sum_blocks (fun k' => Ideal.exp (sco Q Kn Kr Cn Cr b t h k' - M)) (fun j k => Ideal.exp (sc Q Kn Kr Cn Cr b t h j k - M))
    (fun j k => by beta_reduce; rw [sco_block])
  rw [eL]
  refine (sum_blocks _ _ fun j k => ?_).symm
  beta_reduce
  rw [vals_block, sco_block]

end Cert.Rope
end
-- ==== Proof.MlaTie.lean ====
module

public import proofs.«01_k».proof.Proof.RVal
public import proofs.«01_k».proof.Proof.KRun
public import proofs.«01_k».proof.Proof.Join

@[expose] public section

set_option maxRecDepth 16384

noncomputable section

namespace Cert.MlaTie

open Idealize.ShloMosaic Idealize.ShloMosaic.TcCoe Idealize.SL.Sem
open Cert.Rope Cert.Flash Cert.MlaVal Cert.MlaRefVal

variable (m : (ℓ : Loc Cert.MlaIdeal.nD Cert.MlaIdeal.τ Cert.MlaIdeal.sig) → Buf (Elt Ideal) ℓ) (c : Dev Cert.MlaIdeal.nD)
  (V0 : Valuation Cert.MlaRefIdeal.τ Cert.MlaRefIdeal.sig (Elt Ideal))

/-- On the same arguments, with real queries and keys, the reference's result is the kernel's. -/
theorem tie (e0 : B0 V0 = A0 m c) (e1 : B1 V0 = A1 m c) (e2 : B2 V0 = A2 m c) (e3 : B3 V0 = A3 m c) (e4 : B4 V0 = A4 m c) (e5 : B5 V0 = A5 m c) (e6 : B6 V0 = A6 m c)
    (h0 : ∀ b t h x, IsR (A0 m c b t h x)) (h1 : ∀ b t h x, IsR (A1 m c b t h x)) (h2 : ∀ b t x, IsR (A2 m c b t x))
    (h4 : ∀ b t h x, IsR (A4 m c b t h x)) (h5 : ∀ b t x, IsR (A5 m c b t x)) : refOut V0 = outK m c := by
  funext i
  obtain ⟨M, hM, e⟩ := refOut_at V0 (e0 ▸ h0) (e1 ▸ h1) (e2 ▸ h2) (e4 ▸ h4) (e5 ▸ h5) (i 0) (i 1) _ rfl _ rfl _ rfl _ rfl
  rw [e0, e1, e2, e3, e4, e5, e6] at e
  refine (congrArg (refOut V0) (eq_ix2 i)).trans (e.trans ?_)
  exact (flash_eq (A0 m c) h0 (A1 m c) h1 (A2 m c) h2 (A4 m c) h4 (A5 m c) h5 (A3 m c) (A6 m c) _ _ _ _ M hM).symm

end Cert.MlaTie
end
-- ==== Proof.PreOpen.lean ====
module

public import proofs.«01_k».proof.Pre_finite_scores
public import proofs.«01_k».proof.Proof.Spec
public import Idealize.ShloMosaic.Lib.ReduceAll
public import Idealize.ShloMosaic.Lib.Affine

@[expose] public section

noncomputable section

namespace Cert.PreOpen

open Idealize.ShloMosaic Cert.Pre_finite_scores Cert.Rope

/-- The shape relations the precondition's operations take. -/
theorem facts : Cert.Pre_finite_scores.Facts where
  bcast_S_S8x4096x4x96 := by decide
  reducesTo_S8x4096x4x96_S_d0_1_2_3 := by decide
  h_S_ := by decide
  bcast_S_S8x4096x4x64 := by decide
  reducesTo_S8x4096x4x64_S_d0_1_2_3 := by decide
  bcast_S_S8x4096x32 := by decide
  reducesTo_S8x4096x32_S_d0_1_2 := by decide
  bcast_S_S8x512x4x64 := by decide
  reducesTo_S8x512x4x64_S_d0_1_2_3 := by decide
  bcast_S_S8x512x32 := by decide
  reducesTo_S8x512x32_S_d0_1_2 := by decide

instance : Cert.Pre_finite_scores.Facts := facts

open Cert.Pre_finite_scores.Facts

theorem top_word : Ideal.ofBits FTy.f32 0x7F800000#32 = ⊤ := by simp [Ideal.ofBits, Ideal.ieee]

/-- A number whose magnitude compares below infinity is real. -/
theorem real_of_lt (x : EReal) (h : Ideal.cmp .olt (max x (-x)) (Ideal.ofBits FTy.f32 0x7F800000#32) = 1#1) : IsR x := by
  rw [top_word] at h
  induction x with
  | bot => simp [Ideal.cmp] at h
  | top => simp [Ideal.cmp] at h
  | coe r => exact ⟨r, rfl⟩

/-- An array whose magnitudes all compare below infinity holds reals. -/
theorem all_real {S : Shape} (x : FVec Ideal S .f32) (hb : S_.BroadcastsInDim S (![] : Fin 0 → Fin S.rank)) (i : S.Idx)
    (h : cmpf .olt (Host.absf x) (broadcastInDim S ![] hb (constant S_ .f32 0x7F800000#32)) i = 1#1) : IsR (x i) :=
  real_of_lt _ h

instance : Subsingleton S_.Idx := ⟨fun _ _ => funext fun a => a.elim0⟩

/-- The precondition says that queries and keys hold reals. -/
theorem reals (a0 : FVec Ideal S8x4096x4x96 .f32) (a1 : FVec Ideal S8x4096x4x64 .f32) (a2 : FVec Ideal S8x4096x32 .f32) (a3 : FVec Ideal S8x4096x4x64 .f32)
    (a4 : FVec Ideal S8x512x4x64 .f32) (a5 : FVec Ideal S8x512x32 .f32) (a6 : FVec Ideal S8x512x4x64 .f32)
    (h : Cert.Pre_finite_scores.fn (F := Ideal) a0 a1 a2 a3 a4 a5 a6 = fun _ => 1#1) :
    (∀ i, IsR (a0 i)) ∧ (∀ i, IsR (a1 i)) ∧ (∀ i, IsR (a2 i)) ∧ (∀ i, IsR (a4 i)) ∧ (∀ i, IsR (a5 i)) := by
  have e := congrFun h (Shape.Idx.first h_S_)
  obtain ⟨e, h5⟩ := IntOp.andi_eq_one.1 e
  obtain ⟨e, h4⟩ := IntOp.andi_eq_one.1 e
  obtain ⟨e, h2⟩ := IntOp.andi_eq_one.1 e
  obtain ⟨e, h1⟩ := IntOp.andi_eq_one.1 e
  obtain ⟨_, h0⟩ := IntOp.andi_eq_one.1 e
  exact ⟨fun i => all_real a0 _ i (Host.reduce_andi_all _ _ _ _ _ h0 i), fun i => all_real a1 _ i (Host.reduce_andi_all _ _ _ _ _ h1 i),
    fun i => all_real a2 _ i (Host.reduce_andi_all _ _ _ _ _ h2 i), fun i => all_real a4 _ i (Host.reduce_andi_all _ _ _ _ _ h4 i),
    fun i => all_real a5 _ i (Host.reduce_andi_all _ _ _ _ _ h5 i)⟩

end Cert.PreOpen
end
-- ==== Proof.Lin.lean ====
module

public import Idealize.ShloMosaic.PureOps.Ideal
public import Idealize.ShloMosaic.Lib.Pointwise

@[expose] public section

noncomputable section

namespace Cert.Lin

open Idealize.ShloMosaic

variable (X : Fin 32768 → Fin 1024 → EReal) (G : Fin 1024 → EReal) (SC SH : Fin 8 → Fin 1024 → EReal)
  (W : Fin 1024 → Fin 6768 → EReal) (B : Fin 6768 → EReal)

/-- The batch a token's row belongs to. -/
def bat (r : Fin 32768) : Fin 8 := ⟨r.val / 4096, by omega⟩

/-- A row's normed and modulated entry, from the row, the gains and the batch's scale and shift. -/
def hidOf (x g s h : Fin 1024 → EReal) (k : Fin 1024) : EReal :=
  x k * Ideal.rsqrt ((∑ i : Fin 1024, x i * x i) * Ideal.ofBits FTy.f32 0x3A800000#32 + Ideal.ofBits FTy.f32 0x358637BD#32) * g k
    * ((1 : EReal) + s k) + h k

/-- A column of the projection, from the normed row. -/
def colOf (x g s h w : Fin 1024 → EReal) (b : EReal) : EReal := (∑ k : Fin 1024, hidOf x g s h k * w k) + b

/-- The combined projection at a token and a column. -/
def proj (r : Fin 32768) (j : Fin 6768) : EReal :=
  colOf (X r) G (SC (bat r)) (SH (bat r)) (fun k => W k j) (B j)

/-- The mean over 1024 numbers: dividing by 1024 is multiplying by the literal for 1/1024. -/
theorem mean_eq (x : EReal) : Ideal.div x (Ideal.ofBits FTy.f32 0x44800000#32) = x * Ideal.ofBits FTy.f32 0x3A800000#32 := by
  have e1 : Ideal.ofBits FTy.f32 0x44800000#32 = ((1024 : ℝ) : EReal) := by
    simp [Ideal.ofBits, Ideal.ieee, -EReal.coe_mul]; norm_num
  have e2 : Ideal.ofBits FTy.f32 0x3A800000#32 = ((1 / 1024 : ℝ) : EReal) := by
    simp [Ideal.ofBits, Ideal.ieee, -EReal.coe_mul]; norm_num
  rw [e1, e2]
  exact Ideal.div_coe (by norm_num) x

end Cert.Lin
end
-- ==== Proof.GateK.lean ====
module

public import proofs.«01_k».proof.Proof.Gen.GateIdeal.Value
public import proofs.«01_k».proof.Proof.Lin
public import Idealize.ShloMosaic.Lib.Pipeline.ValueKit
public import Idealize.ShloMosaic.Lib.StableHlo.RunRead
public import Idealize.ShloMosaic.Lib.Pointwise

@[expose] public section

set_option maxRecDepth 16384

noncomputable section

namespace Cert.GateVal

open Idealize.ShloMosaic Idealize.ShloMosaic.TcCoe Idealize.SL.Sem
open Cert.GateIdeal Cert.GateIdeal.Gen Cert.Lin
open Idealize.ShloMosaic.Pipeline (Dat)

/-- One number of a block's product, from the blocks. -/
theorem pay_at (v0 : Vec Ideal S512x1024 .f32) (v11 : Vec Ideal S1x1024 .f32) (v15 v21 : Vec Ideal S1x1x1024 .f32) (v26 : Vec Ideal S1024x4096 .bf16)
    (v29 : Vec Ideal S1x4096 .f32) (r : Fin 512) (l : Fin 4096) (z : EReal)
    (hz : z = colOf (fun k => v0 (ix2 r k)) (fun k => v11 (ix2 0 k)) (fun k => v15 (ix3 0 0 k)) (fun k => v21 (ix3 0 0 k)) (fun k => v26 (ix2 k l)) (v29 (ix2 0 l))) :
    k0_pay1 v0 v11 v15 v21 v26 v29 (ix2 r l) = z := by
  pointwise [k0_pay1]
  rw [hz]
  rfl

variable (m : (ℓ : Loc nD τ sig) → Buf (Elt Ideal) ℓ) (ρ : Dev nD → PrngReg) (c : Dev nD)

/-- The arguments, as numbers. -/
def X (r : Fin 32768) (k : Fin 1024) : EReal := m ((c : Thread nD τ).loc main_arg0) (ix2 r k)
def G (k : Fin 1024) : EReal := m ((c : Thread nD τ).loc main_arg1) (ix1 k)
def SC (b : Fin 8) (k : Fin 1024) : EReal := m ((c : Thread nD τ).loc main_arg2) (ix3 b 0 k)
def SH (b : Fin 8) (k : Fin 1024) : EReal := m ((c : Thread nD τ).loc main_arg3) (ix3 b 0 k)
def W (k : Fin 1024) (j : Fin 6768) : EReal := m ((c : Thread nD τ).loc main_arg4) (ix2 k j)
def B (j : Fin 6768) : EReal := m ((c : Thread nD τ).loc main_arg5) (ix1 j)

theorem lt_N (t : Fin cfg0.N) : t.val < 64 := lt_of_lt_of_eq t.isLt N_0

/-- The gate columns of the projection begin at column 2672. -/
def gcol (l : Fin 4096) : Fin 6768 := ⟨2672 + l.val, by omega⟩

theorem V_g (k : Fin 1024) : V m c main_v3 (ix2 0 k) = G m c k := by
  have e : V m c main_v3 = shapeCast S1x1024 (m ((c : Thread nD τ).loc main_arg1)) shapeCasts_S1024_S1x1024 := by
    unfold V
    after_reads_simp
    rfl
  rw [e]
  pointwise [G]

theorem V_w (k : Fin 1024) (l : Fin 4096) : V m c main_v1 (ix2 k l) = W m c k (gcol l) := by
  have e : V m c main_v1 = truncf (F := Ideal) .bf16 (extractStridedSlice S1024x4096 ![0, 2672] (m ((c : Thread nD τ).loc main_arg4)) slices_S1024x6768_S1024x4096_0_2672) bitsLt_bf16_f32 := by
    unfold V
    after_reads_simp
  rw [e]
  pointwise [W, gcol]

theorem V_b (l : Fin 4096) : V m c main_v4 (ix2 0 l) = B m c (gcol l) := by
  have e : V m c main_v4 = shapeCast S1x4096 (extractStridedSlice S4096 ![2672] (m ((c : Thread nD τ).loc main_arg5)) slices_S6768_S4096_2672) shapeCasts_S4096_S1x4096 := by
    unfold V
    after_reads_simp
    rfl
  rw [e]
  pointwise [B, gcol]

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem place3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem place4 : ∀ t : Fin cfg0.N, win0_4.index t (0 : Fin 2) = 0 ∧ win0_4.index t (1 : Fin 2) = 0 :=
  (by decide +kernel : ∀ t : Fin grid0.N, _)
theorem place5 : ∀ t : Fin cfg0.N, win0_5.index t (0 : Fin 2) = 0 ∧ win0_5.index t (1 : Fin 2) = 0 :=
  (by decide +kernel : ∀ t : Fin grid0.N, _)
theorem place6 : ∀ t : Fin cfg0.N, win0_6.index t (0 : Fin 2) = t.val ∧ win0_6.index t (1 : Fin 2) = 0 :=
  (by decide +kernel : ∀ t : Fin grid0.N, _)

/-- The row of the whole array that a row of a point's block is. -/
def row (t : Fin cfg0.N) (r : Fin 512) : Fin 32768 := ⟨t.val * 512 + r.val, by have := lt_N t; omega⟩

theorem bat_row (t : Fin cfg0.N) (r : Fin 512) : bat (row t r) = ⟨t.val / 8, by have := lt_N t; omega⟩ :=
  Fin.ext (by show (t.val * 512 + r.val) / 4096 = t.val / 8; omega)

theorem blk0 (t : Fin cfg0.N) (r : Fin 512) (k : Fin 1024) : iblk m c 0 t (ix2 r k) = X m c (row t r) k := by
  have e : iblk m c 0 t (ix2 r k) = V m c main_arg0 (ix2 (row t r) k) := by
    blk_simp [iblk]
    obtain ⟨e0, e1⟩ := place0 t
    refine congrArg (V m c main_arg0) ?_
    funext a
    apply Fin.ext
    match a with
    | ⟨0, _⟩ =>
      show win0_0.index t (0 : Fin 2) * 512 + 1 * r.val = t.val * 512 + r.val
      rw [e0]; omega
    | ⟨1, _⟩ =>
      show win0_0.index t (1 : Fin 2) * 1024 + 1 * k.val = k.val
      rw [e1]; omega
  rw [e, V_main_arg0]
  rfl

theorem blk1 (t : Fin cfg0.N) (k : Fin 1024) : iblk m c 1 t (ix2 0 k) = G m c k := by
  have e : iblk m c 1 t (ix2 0 k) = V m c main_v3 (ix2 0 k) := by
    blk_simp [iblk]
    obtain ⟨e0, e1⟩ := place1 t
    refine congrArg (V m c main_v3) ?_
    funext a
    apply Fin.ext
    match a with
    | ⟨0, _⟩ =>
      show win0_1.index t (0 : Fin 2) * 1 + 1 * 0 = 0
      rw [e0]
    | ⟨1, _⟩ =>
      show win0_1.index t (1 : Fin 2) * 1024 + 1 * k.val = k.val
      rw [e1]; omega
  rw [e, V_g]

theorem blk2 (t : Fin cfg0.N) (r : Fin 512) (k : Fin 1024) : iblk m c 2 t (ix3 0 0 k) = SC m c (bat (row t r)) k := by
  have e : iblk m c 2 t (ix3 0 0 k) = V m c main_arg2 (ix3 (bat (row t r)) 0 k) := by
    blk_simp [iblk]
    obtain ⟨e0, e1, e2⟩ := place2 t
    rw [bat_row]
    refine congrArg (V m c main_arg2) ?_
    funext a
    apply Fin.ext
    match a with
    | ⟨0, _⟩ =>
      show win0_2.index t (0 : Fin 3) * 1 + 1 * 0 = t.val / 8
      rw [e0]; omega
    | ⟨1, _⟩ =>
      show win0_2.index t (1 : Fin 3) * 1 + 1 * 0 = 0
      rw [e1]
    | ⟨2, _⟩ =>
      show win0_2.index t (2 : Fin 3) * 1024 + 1 * k.val = k.val
      rw [e2]; omega
  rw [e, V_main_arg2]
  rfl

theorem blk3 (t : Fin cfg0.N) (r : Fin 512) (k : Fin 1024) : iblk m c 3 t (ix3 0 0 k) = SH m c (bat (row t r)) k := by
  have e : iblk m c 3 t (ix3 0 0 k) = V m c main_arg3 (ix3 (bat (row t r)) 0 k) := by
    blk_simp [iblk]
    obtain ⟨e0, e1, e2⟩ := place3 t
    rw [bat_row]
    refine congrArg (V m c main_arg3) ?_
    funext a
    apply Fin.ext
    match a with
    | ⟨0, _⟩ =>
      show win0_3.index t (0 : Fin 3) * 1 + 1 * 0 = t.val / 8
      rw [e0]; omega
    | ⟨1, _⟩ =>
      show win0_3.index t (1 : Fin 3) * 1 + 1 * 0 = 0
      rw [e1]
    | ⟨2, _⟩ =>
      show win0_3.index t (2 : Fin 3) * 1024 + 1 * k.val = k.val
      rw [e2]; omega
  rw [e, V_main_arg3]
  rfl

theorem blk4 (t : Fin cfg0.N) (k : Fin 1024) (l : Fin 4096) : iblk m c 4 t (ix2 k l) = W m c k (gcol l) := by
  have e : iblk m c 4 t (ix2 k l) = V m c main_v1 (ix2 k l) := by
    blk_simp [iblk]
    obtain ⟨e0, e1⟩ := place4 t
    refine congrArg (V m c main_v1) ?_
    funext a
    apply Fin.ext
    match a with
    | ⟨0, _⟩ =>
      show win0_4.index t (0 : Fin 2) * 1024 + 1 * k.val = k.val
      rw [e0]; omega
    | ⟨1, _⟩ =>
      show win0_4.index t (1 : Fin 2) * 4096 + 1 * l.val = l.val
      rw [e1]; omega
  rw [e, V_w]

theorem blk5 (t : Fin cfg0.N) (l : Fin 4096) : iblk m c 5 t (ix2 0 l) = B m c (gcol l) := by
  have e : iblk m c 5 t (ix2 0 l) = V m c main_v4 (ix2 0 l) := by
    blk_simp [iblk]
    obtain ⟨e0, e1⟩ := place5 t
    refine congrArg (V m c main_v4) ?_
    funext a
    apply Fin.ext
    match a with
    | ⟨0, _⟩ =>
      show win0_5.index t (0 : Fin 2) * 1 + 1 * 0 = 0
      rw [e0]
    | ⟨1, _⟩ =>
      show win0_5.index t (1 : Fin 2) * 4096 + 1 * l.val = l.val
      rw [e1]; omega
  rw [e, V_b]

/-- One number of what a point writes. -/
theorem pay_val (t : Fin cfg0.N) (r : Fin 512) (l : Fin 4096) :
    k0_pay1 (iblk m c 0 t) (iblk m c 1 t) (iblk m c 2 t) (iblk m c 3 t) (iblk m c 4 t) (iblk m c 5 t) (ix2 r l)
      = proj (X m c) (G m c) (SC m c) (SH m c) (W m c) (B m c) (row t r) (gcol l) := by
  refine pay_at _ _ _ _ _ _ r l _ ?_
  unfold proj
  rw [show X m c (row t r) = fun k => iblk m c 0 t (ix2 r k) from funext fun k => (blk0 m c t r k).symm,
    show G m c = fun k => iblk m c 1 t (ix2 0 k) from funext fun k => (blk1 m c t k).symm,
    show SC m c (bat (row t r)) = fun k => iblk m c 2 t (ix3 0 0 k) from funext fun k => (blk2 m c t r k).symm,
    show SH m c (bat (row t r)) = fun k => iblk m c 3 t (ix3 0 0 k) from funext fun k => (blk3 m c t r k).symm,
    show (fun k => W m c k (gcol l)) = fun k => iblk m c 4 t (ix2 k l) from funext fun k => (blk4 m c t k l).symm,
    ← blk5 m c t l]

/-- What the call's array ends holding. -/
def outG : Buf (Elt Ideal) ((c : Thread nD τ).loc main_v5) := fun i : S32768x4096.Idx =>
  proj (X m c) (G m c) (SC m c) (SH m c) (W m c) (B m c) (i 0) (gcol (i 1))

/-- A point's output block holds the payload of the blocks it reads. -/
theorem out_pay (x0 : Vec Ideal S512x1024 .f32) (x1 : Vec Ideal S1x1024 .f32) (x2 x3 : Vec Ideal S1x1x1024 .f32) (x4 : Vec Ideal S1024x4096 .bf16)
    (x5 : Vec Ideal S1x4096 .f32) : out0_6 x0 x1 x2 x3 x4 x5 = k0_pay1 x0 x1 x2 x3 x4 x5 := by
  unfold out0_6
  have l0 : View.ld x0 r0_0 = x0 := View.ld_unit_zero (by funext a; match a with | ⟨0, _⟩ => rfl | ⟨1, _⟩ => rfl) _ _
  have l1 : View.ld x1 r0_1 = x1 := View.ld_unit_zero (by funext a; match a with | ⟨0, _⟩ => rfl | ⟨1, _⟩ => rfl) _ _
  have l2 : View.ld x2 r0_2 = x2 := View.ld_unit_zero (by funext a; match a with | ⟨0, _⟩ => rfl | ⟨1, _⟩ => rfl | ⟨2, _⟩ => rfl) _ _
  have l3 : View.ld x3 r0_2 = x3 := View.ld_unit_zero (by funext a; match a with | ⟨0, _⟩ => rfl | ⟨1, _⟩ => rfl | ⟨2, _⟩ => rfl) _ _
  have l4 : View.ld x4 r0_3 = x4 := View.ld_unit_zero (by funext a; match a with | ⟨0, _⟩ => rfl | ⟨1, _⟩ => rfl) _ _
  have l5 : View.ld x5 r0_4 = x5 := View.ld_unit_zero (by funext a; match a with | ⟨0, _⟩ => rfl | ⟨1, _⟩ => rfl) _ _
  rw [l0, l1, l2, l3, l4, l5]
  exact View.canon_unit_zero (by funext a; match a with | ⟨0, _⟩ => rfl | ⟨1, _⟩ => rfl) _ _

/-- What a point writes back is its block of `outG`. -/
theorem written (t : Fin cfg0.N) :
    (dats m 0 c).flushed 6 t = ((cfg0.win 6).blk t).view.read (Elt Ideal) (outG m c) := by
  rw [Cert.GateIdeal.Value.flushed6, out_pay]
  obtain ⟨e0, e1⟩ := place6 t
  have hN := lt_N t
  funext y
  have hy0 : (y 0).val < 512 := (y 0).isLt
  have hy1 : (y 1).val < 4096 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 4096 + 1 * (y 1).val := rfl
  rw [e0] at hb0
  rw [e1] at hb1
  have hl : (cfg0.win 6).xinj (grid0.coords t) y = ix2 (⟨(y 0).val, hy0⟩ : Fin 512) (⟨(y 1).val, hy1⟩ : Fin 4096) := by
    funext a; apply Fin.ext
    match a with
    | ⟨0, _⟩ => rfl
    | ⟨1, _⟩ => rfl
  show k0_pay1 (iblk m c 0 t) (iblk m c 1 t) (iblk m c 2 t) (iblk m c 3 t) (iblk m c 4 t) (iblk m c 5 t) ((cfg0.win 6).xinj (grid0.coords t) y)
    = outG m c (((cfg0.win 6).blk t).view.emb y)
  rw [hl, pay_val]
  unfold outG
  have f0 : (((cfg0.win 6).blk t).view.emb y 0 : Fin 32768) = row t ⟨(y 0).val, hy0⟩ :=
    Fin.ext (by show (((cfg0.win 6).blk t).view.emb y 0).val = t.val * 512 + (y 0).val; rw [hb0]; omega)
  have f1 : (((cfg0.win 6).blk t).view.emb y 1 : Fin 4096) = ⟨(y 1).val, hy1⟩ :=
    Fin.ext (by show (((cfg0.win 6).blk t).view.emb y 1).val = (y 1).val; rw [hb1]; omega)
  exact congrArg₂ (fun (r : Fin 32768) (l : Fin 4096) => proj (X m c) (G m c) (SC m c) (SH m c) (W m c) (B m c) r (gcol l)) f0.symm f1.symm

/-- An index of the array is in point `t`'s block when each coordinate is in the block's range on its axis. -/
theorem in_block (t : Fin cfg0.N) (i : S32768x4096.Idx) :
    i ∈ ((cfg0.win 6).blk t).view.set ↔ ∀ a : Fin 2, win0_6.index t a * S512x4096.size a ≤ (i a).val ∧ (i a).val < win0_6.index t a * S512x4096.size a + S512x4096.size a := by
  show i ∈ ((View.whole main_v5).slice (win0_6.rect t)).set ↔ _
  rw [View.set_slice_whole, Rect.mem_set_unit]
  exact Iff.rfl

theorem flush6 : ∀ t : Fin cfg0.N, (cfg0.win 6).flush t = true := (by decide +kernel : ∀ t : Fin grid0.N, _)

/-- The array after the run. -/
theorem array_after : (dats m 0 c).arrAt 6 cfg0.N = outG m c := by
  refine (dats m 0 c).arrAt_eq_of_cover 6 _ (fun t _ => written m c t) (fun i => ?_)
  have hi0 : (i 0).val < 32768 := (i 0).isLt
  have hi1 : (i 1).val < 4096 := (i 1).isLt
  have hN : (i 0).val / 512 < cfg0.N := lt_of_lt_of_eq (by omega) N_0.symm
  obtain ⟨e0, e1⟩ := place6 ⟨(i 0).val / 512, hN⟩
  refine ⟨⟨(i 0).val / 512, hN⟩, flush6 _, ?_⟩
  rw [in_block]
  intro a
  match a with
  | ⟨0, _⟩ =>
    show win0_6.index ⟨(i 0).val / 512, hN⟩ (0 : Fin 2) * 512 ≤ (i 0).val ∧ (i 0).val < win0_6.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win0_6.index ⟨(i 0).val / 512, hN⟩ (1 : Fin 2) * 4096 ≤ (i 1).val ∧ (i 1).val < win0_6.index ⟨(i 0).val / 512, hN⟩ (1 : Fin 2) * 4096 + 4096
    rw [e1]; omega

/-- The kernel's run: the output array ends at `outG`, the arguments are unchanged. -/
theorem runG : θ_run defs (onTc (τ := τ) (main (F := Ideal))) ⟨m, fun _ => 0, ρ⟩ fun r => ∀ c : Dev nD,
      r.2.mem ((c : Thread nD τ).loc main_v5) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (array_after m c), (h c).2⟩) (Cert.GateIdeal.Value.run_blocks m ρ)

end Cert.GateVal
end
-- ==== Proof.GateR.lean ====
module

public import proofs.«01_k».proof.Proof.Gen.GateRefIdeal.Run
public import proofs.«01_k».proof.Proof.Lin

@[expose] public section

set_option maxRecDepth 16384

noncomputable section

namespace Cert.GateRefVal

open Idealize.ShloMosaic Idealize.ShloMosaic.TcCoe Idealize.SL.Sem Idealize.ShloMosaic.StableHlo
open Cert.GateRefIdeal Cert.GateRefIdeal.Gen Cert.Lin

variable (a0 : FVec Ideal S32768x1024 .f32) (a1 : FVec Ideal S1024 .f32) (a2 a3 : FVec Ideal S8x1x1024 .f32) (a4 : FVec Ideal S1024x6768 .f32) (a5 : FVec Ideal S6768 .f32)

/-- The normed and modulated tokens. -/
def hidV : FVec Ideal S8x4096x1024 .f32 := addf (mulf (mulf (mulf (shapeCast _ a0 shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ a0 shapeCasts_S32768x1024_S8x4096x1024) (shapeCast _ a0 shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a1))) (broadcastInDim S8x4096x1024 ![0, 1, 2] bcast_S8x1x1024_S8x4096x1024_0_1_2 (addf (broadcastInDim S8x1x1024 ![] bcast_S_S8x1x1024 (constant S_ .f32 0x3F800000#32)) a2))) (broadcastInDim S8x4096x1024 ![0, 1, 2] bcast_S8x1x1024_S8x4096x1024_0_1_2 a3)

/-- The reference's result. -/
def refG : FVec Ideal S32768x4096 .f32 := shapeCast _ (extractStridedSlice S8x4096x4096 ![0, 0, 2672] (addf (Host.dotGeneral dot_S8x4096x1024_S1024x6768_S8x4096x6768_2_0_01_1_n_n none (hidV a0 a1 a2 a3) a4) (broadcastInDim S8x4096x6768 ![0, 1, 2] bcast_S1x1x6768_S8x4096x6768_0_1_2 (broadcastInDim S1x1x6768 ![2] bcast_S6768_S1x1x6768_2 a5))) slices_S8x4096x6768_S8x4096x4096_0_0_2672) shapeCasts_S8x4096x4096_S32768x4096

/-- The token that a batch and a position name. -/
def tok (b : Fin 8) (q : Fin 4096) : Fin 32768 := ⟨b.val * 4096 + q.val, by omega⟩

/-- A normed and modulated entry, from the arguments. -/
theorem hid_at (b : Fin 8) (q : Fin 4096) (k : Fin 1024) (z : EReal)
    (hz : z = a0 (ix2 (tok b q) k) * Ideal.rsqrt (Ideal.div (∑ i : Fin 1024, a0 (ix2 (tok b q) i) * a0 (ix2 (tok b q) i)) (Ideal.ofBits FTy.f32 0x44800000#32) + Ideal.ofBits FTy.f32 0x358637BD#32)
      * a1 (ix1 k) * ((1 : EReal) + a2 (ix3 b 0 k)) + a3 (ix3 b 0 k)) :
    hidV a0 a1 a2 a3 (ix3 b q k) = z := by
  unfold tok at hz
  pointwise [hidV]
  rw [hz]

theorem refG_at (r : Fin 32768) (l : Fin 4096) (b : Fin 8) (hb : b = ⟨r.val / 4096, by omega⟩) (q : Fin 4096) (hq : q = ⟨r.val % 4096, by omega⟩)
    (j : Fin 6768) (hj : j = ⟨2672 + l.val, by omega⟩) (z : EReal) (hz : z = (∑ k : Fin 1024, hidV a0 a1 a2 a3 (ix3 b q k) * a4 (ix2 k j)) + a5 (ix1 j)) :
    refG a0 a1 a2 a3 a4 a5 (ix2 r l) = z := by
  subst hb hq hj
  pointwise [refG]
  rw [hz]

/-- The reference's result is the projection's column. -/
theorem ref_val (r : Fin 32768) (l : Fin 4096) :
    refG a0 a1 a2 a3 a4 a5 (ix2 r l)
      = proj (fun r k => a0 (ix2 r k)) (fun k => a1 (ix1 k)) (fun b k => a2 (ix3 b 0 k)) (fun b k => a3 (ix3 b 0 k)) (fun k j => a4 (ix2 k j)) (fun j => a5 (ix1 j)) r ⟨2672 + l.val, by omega⟩ := by
  refine refG_at a0 a1 a2 a3 a4 a5 r l (bat r) rfl ⟨r.val % 4096, by omega⟩ rfl ⟨2672 + l.val, by omega⟩ rfl _ ?_
  have ht : tok (bat r) ⟨r.val % 4096, by omega⟩ = r := Fin.ext (by show r.val / 4096 * 4096 + r.val % 4096 = r.val; omega)
  unfold proj colOf hidOf
  refine congrArg (fun u : EReal => u + a5 (ix1 ⟨2672 + l.val, by omega⟩)) (@Finset.sum_congr _ EReal _ _ _ _ _ rfl fun k _ => congrArg (fun u : EReal => u * a4 (ix2 k ⟨2672 + l.val, by omega⟩)) ?_)
  refine (hid_at a0 a1 a2 a3 (bat r) ⟨r.val % 4096, by omega⟩ k _ ?_).symm
  rw [ht, mean_eq]

variable (m : (ℓ : Loc nD τ sig) → Buf (Elt Ideal) ℓ) (ρ : Dev nD → PrngReg)

/-- The reference's run. -/
theorem runR : θ_run defs (onTc (τ := τ) (main (F := Ideal))) ⟨m, fun _ => 0, ρ⟩ fun r => ∀ c : Dev nD,
      r.2.mem ((c : Thread nD τ).loc main_v25) = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans rfl, (h c).2⟩) (Cert.GateRefIdeal.Value.run (F := Ideal) m ρ)

end Cert.GateRefVal
end
-- ==== Proof.LinAb.lean ====
module

public import proofs.«01_k».proof.Proof.Lin

@[expose] public section

noncomputable section

namespace Cert.Lin

open Idealize.ShloMosaic

/-- The column of the combined projection with a given number. -/
def col (n : Nat) : Fin 6768 := ⟨n % 6768, by omega⟩

theorem col_eq {n : Nat} (h : n < 6768) {m : Nat} (e : n = m) : (⟨n, h⟩ : Fin 6768) = col m :=
  Fin.ext (by subst e; show n = n % 6768; omega)

/-- A lane of a widened part: a column of `P`, or the filling. -/
def part (P : Fin 6768 → EReal) (ok : Prop) [Decidable ok] (n : Nat) (o : EReal) : EReal := if ok then P (col n) else o

/-- A lane of a part that holds four heads of 64 columns, each in 128 lanes. -/
abbrev heads (P : Fin 6768 → EReal) (b : Nat) (o : EReal) (l : Nat) : EReal := part P (l / 128 < 4 ∧ l % 128 < 64) (b + (l / 128 * 64 + l % 128)) o

/-- A lane of a part that holds `n` columns in its first lanes. -/
abbrev left (P : Fin 6768 → EReal) (b n : Nat) (l : Nat) : EReal := part P (l < n) (b + l) 0

/-- A lane of the part that holds 32 columns in the lanes from 64. -/
abbrev rope (P : Fin 6768 → EReal) (l : Nat) : EReal := part P (64 ≤ l ∧ l - 64 < 32) (2640 + (l - 64)) 0

theorem part_dite {P : Fin 6768 → EReal} {ok : Prop} [Decidable ok] {n : Nat} {o : EReal} {f : ok → Fin 6768} (h : ∀ e, f e = col n) :
    (if e : ok then P (f e) else o) = part P ok n o := by
  unfold part
  split
  · rw [h]
  · rfl

/-- A column whose weights are zeros and whose bias is the filling is the filling; so widening the weights widens the projection. -/
theorem col_part (x g s h : Fin 1024 → EReal) (W : Fin 1024 → Fin 6768 → EReal) (B : Fin 6768 → EReal) (ok : Prop) [Decidable ok] (n : Nat) (o : EReal) :
    colOf x g s h (fun k => part (W k) ok n 0) (part B ok n o) = part (fun j => colOf x g s h (fun k => W k j) (B j)) ok n o := by
  unfold part
  split
  · rfl
  · unfold colOf
    simp

/-- Some columns of an array as wide as the projection, read at an index. -/
theorem slice2 {n wd : Nat} (a : (⟨2, ![n, 6768]⟩ : Shape).Idx → EReal) (b : Nat) (hb : b + wd ≤ 6768) (h) (r : Fin n) (l : Fin wd) :
    extractStridedSlice ⟨2, ![n, wd]⟩ ![0, b] a h (ix2 r l) = a (ix2 r (col (b + l.val))) := by
  refine congrArg a (funext fun d => Fin.ext ?_)
  match d with
  | ⟨0, _⟩ =>
    show 0 + r.val = r.val
    omega
  | ⟨1, _⟩ =>
    show b + l.val = (b + l.val) % 6768
    omega

end Cert.Lin
end
-- ==== Proof.AbPay.lean ====
module

public import proofs.«01_k».proof.Proof.Gen.AbIdeal.Value
public import proofs.«01_k».proof.Proof.LinAb
public import Idealize.ShloMosaic.Lib.Pipeline.ValueKit
public import Idealize.ShloMosaic.Lib.StableHlo.RunRead
public import Idealize.ShloMosaic.Lib.Pointwise

@[expose] public section

set_option maxRecDepth 16384

noncomputable section

namespace Cert.AbVal

open Idealize.ShloMosaic Idealize.ShloMosaic.TcCoe Idealize.SL.Sem
open Cert.AbIdeal Cert.AbIdeal.Gen Cert.Lin

/-- The column of the call's weights with a given number. -/
def cl (n : Nat) : Fin 3712 := ⟨n % 3712, by omega⟩

/-- A normed entry of a block. -/
theorem hid_at (v0 : Vec Ideal S512x1024 .f32) (v11 : Vec Ideal S1x1024 .f32) (v15 v21 : Vec Ideal S1x1x1024 .f32) (r : Fin 512) (k : Fin 1024) (z : EReal)
    (hz : z = hidOf (fun k => v0 (ix2 r k)) (fun k => v11 (ix2 0 k)) (fun k => v15 (ix3 0 0 k)) (fun k => v21 (ix3 0 0 k)) k) :
    k0_pay3 v0 v11 v15 v21 (ix2 r k) = z := by
  pointwise [k0_pay3]
  rw [hz]
  rfl

/-- One number of a product 256 columns wide. -/
theorem pay256 (v : FVec Ideal S512x1024 .bf16) (w : Vec Ideal S1024x256 .bf16) (b : Vec Ideal S1x256 .f32) (r : Fin 512) (l : Fin 256) (z : EReal)
    (hz : z = (∑ k : Fin 1024, v (ix2 r k) * w (ix2 k l)) + b (ix2 0 l)) : k0_pay5 v w b (ix2 r l) = z := by
  pointwise [k0_pay5]
  rw [hz]

/-- One number of a product 512 columns wide. -/
theorem pay512 (v : FVec Ideal S512x1024 .bf16) (w : Vec Ideal S1024x512 .bf16) (b : Vec Ideal S1x512 .f32) (r : Fin 512) (l : Fin 512) (z : EReal)
    (hz : z = (∑ k : Fin 1024, v (ix2 r k) * w (ix2 k l)) + b (ix2 0 l)) : k0_pay7 v w b (ix2 r l) = z := by
  pointwise [k0_pay7]
  rw [hz]

/-- One number of a product 128 columns wide. -/
theorem pay128 (v : FVec Ideal S512x1024 .bf16) (w : Vec Ideal S1024x128 .bf16) (b : Vec Ideal S1x128 .f32) (r : Fin 512) (l : Fin 128) (z : EReal)
    (hz : z = (∑ k : Fin 1024, v (ix2 r k) * w (ix2 k l)) + b (ix2 0 l)) : k0_pay2 v w b (ix2 r l) = z := by
  pointwise [k0_pay2]
  rw [hz]

variable (x0 : Vec Ideal S512x1024 .f32) (x1 : Vec Ideal S1x1024 .f32) (x2 x3 : Vec Ideal S1x1x1024 .f32) (x4 : Vec Ideal S1024x3712 .bf16) (x5 : Vec Ideal S1x3712 .f32)

/-- A column of a block's product, from the blocks. -/
def colAt (r : Fin 512) (j : Fin 3712) : EReal :=
  colOf (fun k => x0 (ix2 r k)) (fun k => x1 (ix2 0 k)) (fun k => x2 (ix3 0 0 k)) (fun k => x3 (ix3 0 0 k)) (fun k => x4 (ix2 k j)) (x5 (ix2 0 j))

/-- The normed block's entry. -/
theorem normed (r : Fin 512) (k : Fin 1024) :
    k0_pay19 x0 x1 x2 x3 x4 x5 (ix2 r k) = hidOf (fun k => x0 (ix2 r k)) (fun k => x1 (ix2 0 k)) (fun k => x2 (ix3 0 0 k)) (fun k => x3 (ix3 0 0 k)) k := by
  unfold k0_pay19
  have l0 : View.ld x0 r0_0 = x0 := View.ld_unit_zero (by funext a; match a with | ⟨0, _⟩ => rfl | ⟨1, _⟩ => rfl) _ _
  have l1 : View.ld x1 r0_1 = x1 := View.ld_unit_zero (by funext a; match a with | ⟨0, _⟩ => rfl | ⟨1, _⟩ => rfl) _ _
  have l2 : View.ld x2 r0_2 = x2 := View.ld_unit_zero (by funext a; match a with | ⟨0, _⟩ => rfl | ⟨1, _⟩ => rfl | ⟨2, _⟩ => rfl) _ _
  have l3 : View.ld x3 r0_2 = x3 := View.ld_unit_zero (by funext a; match a with | ⟨0, _⟩ => rfl | ⟨1, _⟩ => rfl | ⟨2, _⟩ => rfl) _ _
  rw [l0, l1, l2, l3]
  exact hid_at x0 x1 x2 x3 r k _ rfl

/-- Some columns of the weights, read at an index. -/
theorem ldW {wd : Nat} (s : Nat) (hs : s + wd ≤ 3712) (inb) (k : Fin 1024) (l : Fin wd) :
    View.ld x4 (Rect.unit (s := S1024x3712) ![0, s] (⟨2, ![1024, wd]⟩ : Shape).size inb) (ix2 k l) = x4 (ix2 k (cl (s + l.val))) := by
  refine congrArg x4 (funext fun a => Fin.ext ?_)
  match a with
  | ⟨0, _⟩ =>
    show 0 + 1 * k.val = k.val
    omega
  | ⟨1, _⟩ =>
    show s + 1 * l.val = (s + l.val) % 3712
    omega

/-- Some columns of the biases, read at an index. -/
theorem ldB {wd : Nat} (s : Nat) (hs : s + wd ≤ 3712) (inb) (l : Fin wd) :
    View.ld x5 (Rect.unit (s := S1x3712) ![0, s] (⟨2, ![1, wd]⟩ : Shape).size inb) (ix2 0 l) = x5 (ix2 0 (cl (s + l.val))) := by
  refine congrArg x5 (funext fun a => Fin.ext ?_)
  match a with
  | ⟨0, _⟩ => rfl
  | ⟨1, _⟩ =>
    show s + 1 * l.val = (s + l.val) % 3712
    omega

/-- One number of a part 256 columns wide that begins at column `s`. -/
theorem col256 (s : Nat) (hs : s + 256 ≤ 3712) (i4) (i5) (r : Fin 512) (l : Fin 256) :
    k0_pay5 (k0_pay19 x0 x1 x2 x3 x4 x5) (View.ld x4 (Rect.unit (s := S1024x3712) ![0, s] S1024x256.size i4)) (View.ld x5 (Rect.unit (s := S1x3712) ![0, s] S1x256.size i5)) (ix2 r l)
      = colAt x0 x1 x2 x3 x4 x5 r (cl (s + l.val)) := by
  refine pay256 _ _ _ r l _ ?_
  unfold colAt colOf
  exact congrArg₂ (fun u v : EReal => u + v)
    (@Finset.sum_congr _ EReal _ _ _ _ _ rfl fun k _ => congrArg₂ (fun u v : EReal => u * v) (normed x0 x1 x2 x3 x4 x5 r k).symm (ldW x4 s hs i4 k l).symm)
    (ldB x5 s hs i5 l).symm

/-- One number of a part 512 columns wide that begins at column `s`. -/
theorem col512 (s : Nat) (hs : s + 512 ≤ 3712) (i4) (i5) (r : Fin 512) (l : Fin 512) :
    k0_pay7 (k0_pay19 x0 x1 x2 x3 x4 x5) (View.ld x4 (Rect.unit (s := S1024x3712) ![0, s] S1024x512.size i4)) (View.ld x5 (Rect.unit (s := S1x3712) ![0, s] S1x512.size i5)) (ix2 r l)
      = colAt x0 x1 x2 x3 x4 x5 r (cl (s + l.val)) := by
  refine pay512 _ _ _ r l _ ?_
  unfold colAt colOf
  exact congrArg₂ (fun u v : EReal => u + v)
    (@Finset.sum_congr _ EReal _ _ _ _ _ rfl fun k _ => congrArg₂ (fun u v : EReal => u * v) (normed x0 x1 x2 x3 x4 x5 r k).symm (ldW x4 s hs i4 k l).symm)
    (ldB x5 s hs i5 l).symm

/-- One number of a part 128 columns wide that begins at column `s`. -/
theorem col128 (s : Nat) (hs : s + 128 ≤ 3712) (i4) (i5) (r : Fin 512) (l : Fin 128) :
    k0_pay2 (k0_pay19 x0 x1 x2 x3 x4 x5) (View.ld x4 (Rect.unit (s := S1024x3712) ![0, s] S1024x128.size i4)) (View.ld x5 (Rect.unit (s := S1x3712) ![0, s] S1x128.size i5)) (ix2 r l)
      = colAt x0 x1 x2 x3 x4 x5 r (cl (s + l.val)) := by
  refine pay128 _ _ _ r l _ ?_
  unfold colAt colOf
  exact congrArg₂ (fun u v : EReal => u + v)
    (@Finset.sum_congr _ EReal _ _ _ _ _ rfl fun k _ => congrArg₂ (fun u v : EReal => u * v) (normed x0 x1 x2 x3 x4 x5 r k).symm (ldW x4 s hs i4 k l).symm)
    (ldB x5 s hs i5 l).symm

theorem off0 : (![0, 0] : Fin 2 → Nat) = fun _ => 0 := by
  funext a; match a with | ⟨0, _⟩ => rfl | ⟨1, _⟩ => rfl

theorem out6_at (r : Fin 512) (l : Fin 256) : out0_6 x0 x1 x2 x3 x4 x5 (ix2 r l) = colAt x0 x1 x2 x3 x4 x5 r (cl (0 + l.val)) :=
  (congrFun (View.canon_unit_zero off0 _ _) (ix2 r l)).trans (col256 x0 x1 x2 x3 x4 x5 0 (by omega) _ _ r l)

theorem out7_at (r : Fin 512) (l : Fin 256) : out0_7 x0 x1 x2 x3 x4 x5 (ix2 r l) = colAt x0 x1 x2 x3 x4 x5 r (cl (256 + l.val)) :=
  (congrFun (View.canon_unit_zero off0 _ _) (ix2 r l)).trans (col256 x0 x1 x2 x3 x4 x5 256 (by omega) _ _ r l)

theorem out8_at (r : Fin 512) (l : Fin 256) : out0_8 x0 x1 x2 x3 x4 x5 (ix2 r l) = colAt x0 x1 x2 x3 x4 x5 r (cl (512 + l.val)) :=
  (congrFun (View.canon_unit_zero off0 _ _) (ix2 r l)).trans (col256 x0 x1 x2 x3 x4 x5 512 (by omega) _ _ r l)

theorem out9_at (r : Fin 512) (l : Fin 512) : out0_9 x0 x1 x2 x3 x4 x5 (ix2 r l) = colAt x0 x1 x2 x3 x4 x5 r (cl (768 + l.val)) :=
  (congrFun (View.canon_unit_zero off0 _ _) (ix2 r l)).trans (col512 x0 x1 x2 x3 x4 x5 768 (by omega) _ _ r l)

theorem out10_at (r : Fin 512) (l : Fin 512) : out0_10 x0 x1 x2 x3 x4 x5 (ix2 r l) = colAt x0 x1 x2 x3 x4 x5 r (cl (1280 + l.val)) :=
  (congrFun (View.canon_unit_zero off0 _ _) (ix2 r l)).trans (col512 x0 x1 x2 x3 x4 x5 1280 (by omega) _ _ r l)

theorem out11_at (r : Fin 512) (l : Fin 512) : out0_11 x0 x1 x2 x3 x4 x5 (ix2 r l) = colAt x0 x1 x2 x3 x4 x5 r (cl (1792 + l.val)) :=
  (congrFun (View.canon_unit_zero off0 _ _) (ix2 r l)).trans (col512 x0 x1 x2 x3 x4 x5 1792 (by omega) _ _ r l)

theorem out12_at (r : Fin 512) (l : Fin 256) : out0_12 x0 x1 x2 x3 x4 x5 (ix2 r l) = colAt x0 x1 x2 x3 x4 x5 r (cl (2304 + l.val)) :=
  (congrFun (View.canon_unit_zero off0 _ _) (ix2 r l)).trans (col256 x0 x1 x2 x3 x4 x5 2304 (by omega) _ _ r l)

theorem out13_at (r : Fin 512) (l : Fin 128) : out0_13 x0 x1 x2 x3 x4 x5 (ix2 r l) = colAt x0 x1 x2 x3 x4 x5 r (cl (2560 + l.val)) :=
  (congrFun (View.canon_unit_zero off0 _ _) (ix2 r l)).trans (col128 x0 x1 x2 x3 x4 x5 2560 (by omega) _ _ r l)

theorem out14_at (r : Fin 512) (l : Fin 256) : out0_14 x0 x1 x2 x3 x4 x5 (ix2 r l) = colAt x0 x1 x2 x3 x4 x5 r (cl (2688 + l.val)) :=
  (congrFun (View.canon_unit_zero off0 _ _) (ix2 r l)).trans (col256 x0 x1 x2 x3 x4 x5 2688 (by omega) _ _ r l)

theorem out15_at (r : Fin 512) (l : Fin 128) : out0_15 x0 x1 x2 x3 x4 x5 (ix2 r l) = colAt x0 x1 x2 x3 x4 x5 r (cl (2944 + l.val)) :=
  (congrFun (View.canon_unit_zero off0 _ _) (ix2 r l)).trans (col128 x0 x1 x2 x3 x4 x5 2944 (by omega) _ _ r l)

theorem out16_at (r : Fin 512) (l : Fin 128) : out0_16 x0 x1 x2 x3 x4 x5 (ix2 r l) = colAt x0 x1 x2 x3 x4 x5 r (cl (3072 + l.val)) :=
  (congrFun (View.canon_unit_zero off0 _ _) (ix2 r l)).trans (col128 x0 x1 x2 x3 x4 x5 3072 (by omega) _ _ r l)

theorem out17_at (r : Fin 512) (l : Fin 256) : out0_17 x0 x1 x2 x3 x4 x5 (ix2 r l) = colAt x0 x1 x2 x3 x4 x5 r (cl (3200 + l.val)) :=
  (congrFun (View.canon_unit_zero off0 _ _) (ix2 r l)).trans (col256 x0 x1 x2 x3 x4 x5 3200 (by omega) _ _ r l)

theorem out18_at (r : Fin 512) (l : Fin 128) : out0_18 x0 x1 x2 x3 x4 x5 (ix2 r l) = colAt x0 x1 x2 x3 x4 x5 r (cl (3456 + l.val)) :=
  (congrFun (View.canon_unit_zero off0 _ _) (ix2 r l)).trans (col128 x0 x1 x2 x3 x4 x5 3456 (by omega) _ _ r l)

theorem out19_at (r : Fin 512) (l : Fin 128) : out0_19 x0 x1 x2 x3 x4 x5 (ix2 r l) = colAt x0 x1 x2 x3 x4 x5 r (cl (3584 + l.val)) :=
  (congrFun (View.canon_unit_zero off0 _ _) (ix2 r l)).trans (col128 x0 x1 x2 x3 x4 x5 3584 (by omega) _ _ r l)

end Cert.AbVal
end
-- ==== Proof.AbHost.lean ====
module

public import proofs.«01_k».proof.Proof.Gen.AbIdeal.Value
public import proofs.«01_k».proof.Proof.LinAb
public import Idealize.ShloMosaic.Lib.Pipeline.ValueKit
public import Idealize.ShloMosaic.Lib.StableHlo.RunRead
public import Idealize.ShloMosaic.Lib.Pointwise

@[expose] public section

set_option maxRecDepth 16384

noncomputable section

namespace Cert.AbVal

open Idealize.ShloMosaic Idealize.ShloMosaic.TcCoe Idealize.SL.Sem
open Cert.AbIdeal Cert.AbIdeal.Gen Cert.Lin

/-- Four heads of 64 columns, each widened to 128 lanes. -/
def headsW (x : FVec Ideal S1024x256 .f32) (o : FVec Ideal S_ .f32) : FVec Ideal S1024x512 .f32 :=
  shapeCast _ (pad S1024x4x128 ![0, 0, 0] ![0, 0, 64] ![0, 0, 0] (shapeCast _ x shapeCasts_S1024x256_S1024x4x64) o pads_S1024x4x64_S1024x4x128_000_000_0640 h_S_) shapeCasts_S1024x4x128_S1024x512

def headsB (x : FVec Ideal S256 .f32) (o : FVec Ideal S_ .f32) : FVec Ideal S512 .f32 :=
  shapeCast _ (pad S4x128 ![0, 0] ![0, 64] ![0, 0] (shapeCast _ x shapeCasts_S256_S4x64) o pads_S4x64_S4x128_000_0640 h_S_) shapeCasts_S4x128_S512

/-- The two gates' 16 columns, widened to 128 lanes. -/
def ifW (a : FVec Ideal S1024x6768 .f32) (o : FVec Ideal S_ .f32) : FVec Ideal S1024x128 .f32 :=
  pad S1024x128 ![0, 0] ![0, 112] ![0, 0] (concatenate S1024x16 1 [⟨S1024x8, extractStridedSlice S1024x8 ![0, 1792] a slices_S1024x6768_S1024x8_0_1792⟩, ⟨S1024x8, extractStridedSlice S1024x8 ![0, 1800] a slices_S1024x6768_S1024x8_0_1800⟩] concatenates_S1024x8_S1024x8_S1024x16_d1) o pads_S1024x16_S1024x128_000_01120 h_S_

def ifB (a : FVec Ideal S6768 .f32) (o : FVec Ideal S_ .f32) : FVec Ideal S128 .f32 :=
  pad S128 ![0] ![112] ![0] (concatenate S16 0 [⟨S8, extractStridedSlice S8 ![1792] a slices_S6768_S8_1792⟩, ⟨S8, extractStridedSlice S8 ![1800] a slices_S6768_S8_1800⟩] concatenates_S8_S8_S16_d0) o pads_S16_S128_01120 h_S_

def cqW (a : FVec Ideal S1024x6768 .f32) (o : FVec Ideal S_ .f32) : FVec Ideal S1024x256 .f32 :=
  pad S1024x256 ![0, 0] ![0, 64] ![0, 0] (extractStridedSlice S1024x192 ![0, 2320] a slices_S1024x6768_S1024x192_0_2320) o pads_S1024x192_S1024x256_000_0640 h_S_

def cqB (a : FVec Ideal S6768 .f32) (o : FVec Ideal S_ .f32) : FVec Ideal S256 .f32 :=
  pad S256 ![0] ![64] ![0] (extractStridedSlice S192 ![2320] a slices_S6768_S192_2320) o pads_S192_S256_0640 h_S_

def ropeW (a : FVec Ideal S1024x6768 .f32) (o : FVec Ideal S_ .f32) : FVec Ideal S1024x128 .f32 :=
  pad S1024x128 ![0, 64] ![0, 32] ![0, 0] (extractStridedSlice S1024x32 ![0, 2640] a slices_S1024x6768_S1024x32_0_2640) o pads_S1024x32_S1024x128_000_64320 h_S_

def ropeB (a : FVec Ideal S6768 .f32) (o : FVec Ideal S_ .f32) : FVec Ideal S128 .f32 :=
  pad S128 ![64] ![32] ![0] (extractStridedSlice S32 ![2640] a slices_S6768_S32_2640) o pads_S32_S128_64320 h_S_

theorem headsW_at (x o) (k : Fin 1024) (l : Fin 512) :
    headsW x o (ix2 k l) = if h : l.val / 128 < 4 ∧ l.val % 128 < 64 then x (ix2 k ⟨l.val / 128 * 64 + l.val % 128, by omega⟩) else o (Shape.Idx.first h_S_) := by
  pointwise [headsW]

theorem headsB_at (x o) (l : Fin 512) :
    headsB x o (ix1 l) = if h : l.val / 128 < 4 ∧ l.val % 128 < 64 then x (ix1 ⟨l.val / 128 * 64 + l.val % 128, by omega⟩) else o (Shape.Idx.first h_S_) := by
  pointwise [headsB]

theorem ifW_at (a o) (k : Fin 1024) (l : Fin 128) :
    ifW a o (ix2 k l) = if h : l.val < 16 then a (ix2 k ⟨1792 + l.val, by omega⟩) else o (Shape.Idx.first h_S_) := by
  pointwise [ifW]
  split
  · split
    · rfl
    · exact congrArg (fun j => a (ix2 k j)) (Fin.ext (by show 1800 + (l.val - 8) = 1792 + l.val; omega))
  · rfl

theorem ifB_at (a o) (l : Fin 128) :
    ifB a o (ix1 l) = if h : l.val < 16 then a (ix1 ⟨1792 + l.val, by omega⟩) else o (Shape.Idx.first h_S_) := by
  pointwise [ifB]
  split
  · split
    · rfl
    · exact congrArg (fun j => a (ix1 j)) (Fin.ext (by show 1800 + (l.val - 8) = 1792 + l.val; omega))
  · rfl

theorem cqW_at (a o) (k : Fin 1024) (l : Fin 256) :
    cqW a o (ix2 k l) = if h : l.val < 192 then a (ix2 k ⟨2320 + l.val, by omega⟩) else o (Shape.Idx.first h_S_) := by
  pointwise [cqW]

theorem cqB_at (a o) (l : Fin 256) :
    cqB a o (ix1 l) = if h : l.val < 192 then a (ix1 ⟨2320 + l.val, by omega⟩) else o (Shape.Idx.first h_S_) := by
  pointwise [cqB]

theorem ropeW_at (a o) (k : Fin 1024) (l : Fin 128) :
    ropeW a o (ix2 k l) = if h : 64 ≤ l.val ∧ l.val - 64 < 32 then a (ix2 k ⟨2640 + (l.val - 64), by omega⟩) else o (Shape.Idx.first h_S_) := by
  pointwise [ropeW]

theorem ropeB_at (a o) (l : Fin 128) :
    ropeB a o (ix1 l) = if h : 64 ≤ l.val ∧ l.val - 64 < 32 then a (ix1 ⟨2640 + (l.val - 64), by omega⟩) else o (Shape.Idx.first h_S_) := by
  pointwise [ropeB]

/-- The 14 parts of the weights side by side. -/
def joinW (x0 x1 x2 : FVec Ideal S1024x256 .f32) (x3 x4 x5 : FVec Ideal S1024x512 .f32) (x6 : FVec Ideal S1024x256 .f32) (x7 : FVec Ideal S1024x128 .f32) (x8 : FVec Ideal S1024x256 .f32) (x9 x10 : FVec Ideal S1024x128 .f32) (x11 : FVec Ideal S1024x256 .f32) (x12 x13 : FVec Ideal S1024x128 .f32) : Vec Ideal S1024x3712 .bf16 :=
  truncf (F := Ideal) (s := S1024x3712) .bf16 (concatenate S1024x3712 1 [⟨S1024x256, x0⟩, ⟨S1024x256, x1⟩, ⟨S1024x256, x2⟩, ⟨S1024x512, x3⟩, ⟨S1024x512, x4⟩, ⟨S1024x512, x5⟩, ⟨S1024x256, x6⟩, ⟨S1024x128, x7⟩, ⟨S1024x256, x8⟩, ⟨S1024x128, x9⟩, ⟨S1024x128, x10⟩, ⟨S1024x256, x11⟩, ⟨S1024x128, x12⟩, ⟨S1024x128, x13⟩]
    concatenates_S1024x256_S1024x256_S1024x256_S1024x512_S1024x512_S1024x512_S1024x256_S1024x128_S1024x256_S1024x128_S1024x128_S1024x256_S1024x128_S1024x128_S1024x3712_d1) bitsLt_bf16_f32

/-- The 14 parts of the biases side by side, as one row. -/
def joinB (x0 x1 x2 : FVec Ideal S256 .f32) (x3 x4 x5 : FVec Ideal S512 .f32) (x6 : FVec Ideal S256 .f32) (x7 : FVec Ideal S128 .f32) (x8 : FVec Ideal S256 .f32) (x9 x10 : FVec Ideal S128 .f32) (x11 : FVec Ideal S256 .f32) (x12 x13 : FVec Ideal S128 .f32) : Vec Ideal S1x3712 .f32 :=
  shapeCast _ (concatenate S3712 0 [⟨S256, x0⟩, ⟨S256, x1⟩, ⟨S256, x2⟩, ⟨S512, x3⟩, ⟨S512, x4⟩, ⟨S512, x5⟩, ⟨S256, x6⟩, ⟨S128, x7⟩, ⟨S256, x8⟩, ⟨S128, x9⟩, ⟨S128, x10⟩, ⟨S256, x11⟩, ⟨S128, x12⟩, ⟨S128, x13⟩]
    concatenates_S256_S256_S256_S512_S512_S512_S256_S128_S256_S128_S128_S256_S128_S128_S3712_d0) shapeCasts_S3712_S1x3712

/-- The call's weights: the columns it uses, part after part, each in the width the call gives it. -/
def catW (a : FVec Ideal S1024x6768 .f32) : Vec Ideal S1024x3712 .bf16 :=
  joinW
    (extractStridedSlice S1024x256 ![0, 0] a slices_S1024x6768_S1024x256_0_0)
    (extractStridedSlice S1024x256 ![0, 256] a slices_S1024x6768_S1024x256_0_256)
    (extractStridedSlice S1024x256 ![0, 512] a slices_S1024x6768_S1024x256_0_512)
    (headsW (extractStridedSlice S1024x256 ![0, 768] a slices_S1024x6768_S1024x256_0_768) (constant (F := Ideal) S_ .f32 0x00000000#32))
    (headsW (extractStridedSlice S1024x256 ![0, 1024] a slices_S1024x6768_S1024x256_0_1024) (constant (F := Ideal) S_ .f32 0x00000000#32))
    (headsW (extractStridedSlice S1024x256 ![0, 1280] a slices_S1024x6768_S1024x256_0_1280) (constant (F := Ideal) S_ .f32 0x00000000#32))
    (extractStridedSlice S1024x256 ![0, 1536] a slices_S1024x6768_S1024x256_0_1536)
    (ifW a (sitofp (F := Ideal) .f32 (constantI S_ 32 0#32)))
    (extractStridedSlice S1024x256 ![0, 1808] a slices_S1024x6768_S1024x256_0_1808)
    (extractStridedSlice S1024x128 ![0, 2064] a slices_S1024x6768_S1024x128_0_2064)
    (extractStridedSlice S1024x128 ![0, 2192] a slices_S1024x6768_S1024x128_0_2192)
    (cqW a (sitofp (F := Ideal) .f32 (constantI S_ 32 0#32)))
    (extractStridedSlice S1024x128 ![0, 2512] a slices_S1024x6768_S1024x128_0_2512)
    (ropeW a (sitofp (F := Ideal) .f32 (constantI S_ 32 0#32)))

/-- The call's biases, laid out the same way; the values' heads are filled with ones. -/
def catB (a : FVec Ideal S6768 .f32) : Vec Ideal S1x3712 .f32 :=
  joinB
    (extractStridedSlice S256 ![0] a slices_S6768_S256_0)
    (extractStridedSlice S256 ![256] a slices_S6768_S256_256)
    (extractStridedSlice S256 ![512] a slices_S6768_S256_512)
    (headsB (extractStridedSlice S256 ![768] a slices_S6768_S256_768) (constant (F := Ideal) S_ .f32 0x00000000#32))
    (headsB (extractStridedSlice S256 ![1024] a slices_S6768_S256_1024) (constant (F := Ideal) S_ .f32 0x00000000#32))
    (headsB (extractStridedSlice S256 ![1280] a slices_S6768_S256_1280) (constant (F := Ideal) S_ .f32 0x3F800000#32))
    (extractStridedSlice S256 ![1536] a slices_S6768_S256_1536)
    (ifB a (sitofp (F := Ideal) .f32 (constantI S_ 32 0#32)))
    (extractStridedSlice S256 ![1808] a slices_S6768_S256_1808)
    (extractStridedSlice S128 ![2064] a slices_S6768_S128_2064)
    (extractStridedSlice S128 ![2192] a slices_S6768_S128_2192)
    (cqB a (sitofp (F := Ideal) .f32 (constantI S_ 32 0#32)))
    (extractStridedSlice S128 ![2512] a slices_S6768_S128_2512)
    (ropeB a (sitofp (F := Ideal) .f32 (constantI S_ 32 0#32)))

end Cert.AbVal
end
-- ==== Proof.AbHostV.lean ====
module

public import proofs.«01_k».proof.Proof.Gen.AbIdeal.Value
public import proofs.«01_k».proof.Proof.AbHost
public import Idealize.ShloMosaic.Lib.Pipeline.ValueKit
public import Idealize.ShloMosaic.Lib.StableHlo.RunRead
public import Idealize.ShloMosaic.Lib.Pointwise

@[expose] public section

set_option maxRecDepth 16384

noncomputable section

namespace Cert.AbVal

open Idealize.ShloMosaic Idealize.ShloMosaic.TcCoe Idealize.SL.Sem
open Cert.AbIdeal Cert.AbIdeal.Gen Cert.Lin

variable (m : (ℓ : Loc nD τ sig) → Buf (Elt Ideal) ℓ) (c : Dev nD)

/-- What a buffer holds once the first `n` steps of the layout code have run. -/
abbrev upTo (n : Nat) (b : Ref sig .tc) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24].flatten (fun b => m (c, b)) n (Proc.tc.devRef b)

set_option maxHeartbeats 4000000 in
theorem V_w : V m c main_v29 = catW (m ((c : Thread nD τ).loc main_arg4)) := by
  have e : V m c main_v29 = joinW (upTo m c 40 main_v16) (upTo m c 40 main_v17) (upTo m c 40 main_v18) (upTo m c 40 main_v7) (upTo m c 40 main_v11) (upTo m c 40 main_v15) (upTo m c 40 main_v19) (upTo m c 40 main_v3) (upTo m c 40 main_v20) (upTo m c 40 main_v21) (upTo m c 40 main_v22) (upTo m c 40 main_v24) (upTo m c 40 main_v25) (upTo m c 40 main_v27) := by
    unfold V
    after_reads_simp
    rfl
  rw [e]
  unfold catW
  congr 1
  all_goals
    unfold upTo
    after_reads_simp
    try rfl

set_option maxHeartbeats 4000000 in
theorem V_b : V m c main_v60 = catB (m ((c : Thread nD τ).loc main_arg5)) := by
  have e : V m c main_v60 = joinB (upTo m c 82 main_v46) (upTo m c 82 main_v47) (upTo m c 82 main_v48) (upTo m c 82 main_v37) (upTo m c 82 main_v41) (upTo m c 82 main_v45) (upTo m c 82 main_v49) (upTo m c 82 main_v33) (upTo m c 82 main_v50) (upTo m c 82 main_v51) (upTo m c 82 main_v52) (upTo m c 82 main_v54) (upTo m c 82 main_v55) (upTo m c 82 main_v57) := by
    unfold V
    after_reads_simp
    rfl
  rw [e]
  unfold catB
  congr 1
  all_goals
    unfold upTo
    after_reads_simp
    try rfl

theorem V_g : V m c main_v59 = shapeCast S1x1024 (m ((c : Thread nD τ).loc main_arg1)) shapeCasts_S1024_S1x1024 := by
  unfold V
  after_reads_simp
  rfl

end Cert.AbVal
end
-- ==== Proof.AbK.lean ====
module

public import proofs.«01_k».proof.Proof.AbPay
public import proofs.«01_k».proof.Proof.AbHostV
public import Idealize.ShloMosaic.Lib.Pipeline.ValueKit
public import Idealize.ShloMosaic.Lib.StableHlo.RunRead
public import Idealize.ShloMosaic.Lib.Pointwise

@[expose] public section

set_option maxRecDepth 16384

noncomputable section

namespace Cert.AbVal

open Idealize.ShloMosaic Idealize.ShloMosaic.TcCoe Idealize.SL.Sem
open Cert.AbIdeal Cert.AbIdeal.Gen Cert.Lin

variable (m : (ℓ : Loc nD τ sig) → Buf (Elt Ideal) ℓ) (c : Dev nD)

/-- The arguments, as numbers. -/
def X (r : Fin 32768) (k : Fin 1024) : EReal := m ((c : Thread nD τ).loc main_arg0) (ix2 r k)
def G (k : Fin 1024) : EReal := m ((c : Thread nD τ).loc main_arg1) (ix1 k)
def SC (b : Fin 8) (k : Fin 1024) : EReal := m ((c : Thread nD τ).loc main_arg2) (ix3 b 0 k)
def SH (b : Fin 8) (k : Fin 1024) : EReal := m ((c : Thread nD τ).loc main_arg3) (ix3 b 0 k)
def W (k : Fin 1024) (j : Fin 6768) : EReal := m ((c : Thread nD τ).loc main_arg4) (ix2 k j)
def B (j : Fin 6768) : EReal := m ((c : Thread nD τ).loc main_arg5) (ix1 j)

theorem lt_N (t : Fin cfg0.N) : t.val < 64 := lt_of_lt_of_eq t.isLt N_0

theorem V_gain (k : Fin 1024) : V m c main_v59 (ix2 0 k) = G m c k := by
  rw [V_g]
  pointwise [G]

theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem place3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem place4 : ∀ t : Fin cfg0.N, win0_4.index t (0 : Fin 2) = 0 ∧ win0_4.index t (1 : Fin 2) = 0 :=
  (by decide +kernel : ∀ t : Fin grid0.N, _)
theorem place5 : ∀ t : Fin cfg0.N, win0_5.index t (0 : Fin 2) = 0 ∧ win0_5.index t (1 : Fin 2) = 0 :=
  (by decide +kernel : ∀ t : Fin grid0.N, _)

/-- Where an output's block goes: the point's rows, all columns. -/
def AtRow (f : Fin cfg0.N → Fin 2 → Nat) : Prop := ∀ t : Fin cfg0.N, f t 0 = t.val ∧ f t 1 = 0

theorem place6 : AtRow win0_6.index := (by decide +kernel : ∀ t : Fin grid0.N, win0_6.index t 0 = t.val ∧ win0_6.index t 1 = 0)
theorem place7 : AtRow win0_7.index := (by decide +kernel : ∀ t : Fin grid0.N, win0_7.index t 0 = t.val ∧ win0_7.index t 1 = 0)
theorem place8 : AtRow win0_8.index := (by decide +kernel : ∀ t : Fin grid0.N, win0_8.index t 0 = t.val ∧ win0_8.index t 1 = 0)
theorem place9 : AtRow win0_9.index := (by decide +kernel : ∀ t : Fin grid0.N, win0_9.index t 0 = t.val ∧ win0_9.index t 1 = 0)
theorem place10 : AtRow win0_10.index := (by decide +kernel : ∀ t : Fin grid0.N, win0_10.index t 0 = t.val ∧ win0_10.index t 1 = 0)
theorem place11 : AtRow win0_11.index := (by decide +kernel : ∀ t : Fin grid0.N, win0_11.index t 0 = t.val ∧ win0_11.index t 1 = 0)
theorem place12 : AtRow win0_12.index := (by decide +kernel : ∀ t : Fin grid0.N, win0_12.index t 0 = t.val ∧ win0_12.index t 1 = 0)
theorem place13 : AtRow win0_13.index := (by decide +kernel : ∀ t : Fin grid0.N, win0_13.index t 0 = t.val ∧ win0_13.index t 1 = 0)
theorem place14 : AtRow win0_14.index := (by decide +kernel : ∀ t : Fin grid0.N, win0_14.index t 0 = t.val ∧ win0_14.index t 1 = 0)
theorem place15 : AtRow win0_15.index := (by decide +kernel : ∀ t : Fin grid0.N, win0_15.index t 0 = t.val ∧ win0_15.index t 1 = 0)
theorem place16 : AtRow win0_16.index := (by decide +kernel : ∀ t : Fin grid0.N, win0_16.index t 0 = t.val ∧ win0_16.index t 1 = 0)
theorem place17 : AtRow win0_17.index := (by decide +kernel : ∀ t : Fin grid0.N, win0_17.index t 0 = t.val ∧ win0_17.index t 1 = 0)
theorem place18 : AtRow win0_18.index := (by decide +kernel : ∀ t : Fin grid0.N, win0_18.index t 0 = t.val ∧ win0_18.index t 1 = 0)
theorem place19 : AtRow win0_19.index := (by decide +kernel : ∀ t : Fin grid0.N, win0_19.index t 0 = t.val ∧ win0_19.index t 1 = 0)
theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)
theorem flush9 : ∀ t : Fin cfg0.N, (cfg0.win 9).flush t = true := (by decide +kernel : ∀ t : Fin grid0.N, _)
theorem flush10 : ∀ t : Fin cfg0.N, (cfg0.win 10).flush t = true := (by decide +kernel : ∀ t : Fin grid0.N, _)
theorem flush11 : ∀ t : Fin cfg0.N, (cfg0.win 11).flush t = true := (by decide +kernel : ∀ t : Fin grid0.N, _)
theorem flush12 : ∀ t : Fin cfg0.N, (cfg0.win 12).flush t = true := (by decide +kernel : ∀ t : Fin grid0.N, _)
theorem flush13 : ∀ t : Fin cfg0.N, (cfg0.win 13).flush t = true := (by decide +kernel : ∀ t : Fin grid0.N, _)
theorem flush14 : ∀ t : Fin cfg0.N, (cfg0.win 14).flush t = true := (by decide +kernel : ∀ t : Fin grid0.N, _)
theorem flush15 : ∀ t : Fin cfg0.N, (cfg0.win 15).flush t = true := (by decide +kernel : ∀ t : Fin grid0.N, _)
theorem flush16 : ∀ t : Fin cfg0.N, (cfg0.win 16).flush t = true := (by decide +kernel : ∀ t : Fin grid0.N, _)
theorem flush17 : ∀ t : Fin cfg0.N, (cfg0.win 17).flush t = true := (by decide +kernel : ∀ t : Fin grid0.N, _)
theorem flush18 : ∀ t : Fin cfg0.N, (cfg0.win 18).flush t = true := (by decide +kernel : ∀ t : Fin grid0.N, _)
theorem flush19 : ∀ t : Fin cfg0.N, (cfg0.win 19).flush t = true := (by decide +kernel : ∀ t : Fin grid0.N, _)

/-- The row of the whole array that a row of a point's block is. -/
def row (t : Fin cfg0.N) (r : Fin 512) : Fin 32768 := ⟨t.val * 512 + r.val, by have := lt_N t; omega⟩

theorem bat_row (t : Fin cfg0.N) (r : Fin 512) : bat (row t r) = ⟨t.val / 8, by have := lt_N t; omega⟩ :=
  Fin.ext (by show (t.val * 512 + r.val) / 4096 = t.val / 8; omega)

theorem blk0 (t : Fin cfg0.N) (r : Fin 512) (k : Fin 1024) : iblk m c 0 t (ix2 r k) = X m c (row t r) k := by
  have e : iblk m c 0 t (ix2 r k) = V m c main_arg0 (ix2 (row t r) k) := by
    blk_simp [iblk]
    obtain ⟨e0, e1⟩ := place0 t
    refine congrArg (V m c main_arg0) ?_
    funext a
    apply Fin.ext
    match a with
    | ⟨0, _⟩ =>
      show win0_0.index t (0 : Fin 2) * 512 + 1 * r.val = t.val * 512 + r.val
      rw [e0]; omega
    | ⟨1, _⟩ =>
      show win0_0.index t (1 : Fin 2) * 1024 + 1 * k.val = k.val
      rw [e1]; omega
  rw [e, V_main_arg0]
  rfl

theorem blk1 (t : Fin cfg0.N) (k : Fin 1024) : iblk m c 1 t (ix2 0 k) = G m c k := by
  have e : iblk m c 1 t (ix2 0 k) = V m c main_v59 (ix2 0 k) := by
    blk_simp [iblk]
    obtain ⟨e0, e1⟩ := place1 t
    refine congrArg (V m c main_v59) ?_
    funext a
    apply Fin.ext
    match a with
    | ⟨0, _⟩ =>
      show win0_1.index t (0 : Fin 2) * 1 + 1 * 0 = 0
      rw [e0]
    | ⟨1, _⟩ =>
      show win0_1.index t (1 : Fin 2) * 1024 + 1 * k.val = k.val
      rw [e1]; omega
  rw [e, V_gain]

theorem blk2 (t : Fin cfg0.N) (r : Fin 512) (k : Fin 1024) : iblk m c 2 t (ix3 0 0 k) = SC m c (bat (row t r)) k := by
  have e : iblk m c 2 t (ix3 0 0 k) = V m c main_arg2 (ix3 (bat (row t r)) 0 k) := by
    blk_simp [iblk]
    obtain ⟨e0, e1, e2⟩ := place2 t
    rw [bat_row]
    refine congrArg (V m c main_arg2) ?_
    funext a
    apply Fin.ext
    match a with
    | ⟨0, _⟩ =>
      show win0_2.index t (0 : Fin 3) * 1 + 1 * 0 = t.val / 8
      rw [e0]; omega
    | ⟨1, _⟩ =>
      show win0_2.index t (1 : Fin 3) * 1 + 1 * 0 = 0
      rw [e1]
    | ⟨2, _⟩ =>
      show win0_2.index t (2 : Fin 3) * 1024 + 1 * k.val = k.val
      rw [e2]; omega
  rw [e, V_main_arg2]
  rfl

theorem blk3 (t : Fin cfg0.N) (r : Fin 512) (k : Fin 1024) : iblk m c 3 t (ix3 0 0 k) = SH m c (bat (row t r)) k := by
  have e : iblk m c 3 t (ix3 0 0 k) = V m c main_arg3 (ix3 (bat (row t r)) 0 k) := by
    blk_simp [iblk]
    obtain ⟨e0, e1, e2⟩ := place3 t
    rw [bat_row]
    refine congrArg (V m c main_arg3) ?_
    funext a
    apply Fin.ext
    match a with
    | ⟨0, _⟩ =>
      show win0_3.index t (0 : Fin 3) * 1 + 1 * 0 = t.val / 8
      rw [e0]; omega
    | ⟨1, _⟩ =>
      show win0_3.index t (1 : Fin 3) * 1 + 1 * 0 = 0
      rw [e1]
    | ⟨2, _⟩ =>
      show win0_3.index t (2 : Fin 3) * 1024 + 1 * k.val = k.val
      rw [e2]; omega
  rw [e, V_main_arg3]
  rfl

theorem blk4 (t : Fin cfg0.N) (k : Fin 1024) (j : Fin 3712) : iblk m c 4 t (ix2 k j) = V m c main_v29 (ix2 k j) := by
  blk_simp [iblk]
  obtain ⟨e0, e1⟩ := place4 t
  refine congrArg (V m c main_v29) ?_
  funext a
  apply Fin.ext
  match a with
  | ⟨0, _⟩ =>
    show win0_4.index t (0 : Fin 2) * 1024 + 1 * k.val = k.val
    rw [e0]; omega
  | ⟨1, _⟩ =>
    show win0_4.index t (1 : Fin 2) * 3712 + 1 * j.val = j.val
    rw [e1]; omega

theorem blk5 (t : Fin cfg0.N) (j : Fin 3712) : iblk m c 5 t (ix2 0 j) = V m c main_v60 (ix2 0 j) := by
  blk_simp [iblk]
  obtain ⟨e0, e1⟩ := place5 t
  refine congrArg (V m c main_v60) ?_
  funext a
  apply Fin.ext
  match a with
  | ⟨0, _⟩ =>
    show win0_5.index t (0 : Fin 2) * 1 + 1 * 0 = 0
    rw [e0]
  | ⟨1, _⟩ =>
    show win0_5.index t (1 : Fin 2) * 3712 + 1 * j.val = j.val
    rw [e1]; omega

/-- A column of the product of the whole arrays. -/
def colA (r : Fin 32768) (j : Fin 3712) : EReal :=
  colOf (X m c r) (G m c) (SC m c (bat r)) (SH m c (bat r)) (fun k => V m c main_v29 (ix2 k j)) (V m c main_v60 (ix2 0 j))

/-- A point's columns are the whole product's at the point's rows. -/
theorem col_blk (t : Fin cfg0.N) (r : Fin 512) (j : Fin 3712) :
    colAt (iblk m c 0 t) (iblk m c 1 t) (iblk m c 2 t) (iblk m c 3 t) (iblk m c 4 t) (iblk m c 5 t) r j = colA m c (row t r) j := by
  unfold colA
  rw [show X m c (row t r) = fun k => iblk m c 0 t (ix2 r k) from funext fun k => (blk0 m c t r k).symm,
    show G m c = fun k => iblk m c 1 t (ix2 0 k) from funext fun k => (blk1 m c t k).symm,
    show SC m c (bat (row t r)) = fun k => iblk m c 2 t (ix3 0 0 k) from funext fun k => (blk2 m c t r k).symm,
    show SH m c (bat (row t r)) = fun k => iblk m c 3 t (ix3 0 0 k) from funext fun k => (blk3 m c t r k).symm,
    show (fun k => V m c main_v29 (ix2 k j)) = fun k => iblk m c 4 t (ix2 k j) from funext fun k => (blk4 m c t k j).symm,
    ← blk5 m c t j]
  rfl

/-- An array at a row and a column, when each point's block of it is known: the point is the row's, the row within its block the remainder. -/
theorem fetch {wd : Nat} (A : (⟨2, ![32768, wd]⟩ : Shape).Idx → EReal) (f : Fin cfg0.N → Fin 2 → Nat) (hf : AtRow f)
    (e : Fin cfg0.N → (⟨2, ![512, wd]⟩ : Shape).Idx → (⟨2, ![32768, wd]⟩ : Shape).Idx) (s : Nat)
    (h : ∀ (t : Fin cfg0.N) (r : Fin 512) (l : Fin wd), A (e t (ix2 r l)) = colA m c (row t r) (cl (s + l.val)))
    (he0 : ∀ (t : Fin cfg0.N) y, (e t y 0).val = f t 0 * 512 + 1 * (y 0).val) (he1 : ∀ (t : Fin cfg0.N) y, (e t y 1).val = f t 1 * wd + 1 * (y 1).val)
    (r : Fin 32768) (l : Fin wd) : A (ix2 r l) = colA m c r (cl (s + l.val)) := by
  have hN : r.val / 512 < cfg0.N := lt_of_lt_of_eq (by omega) N_0.symm
  have hr : row ⟨r.val / 512, hN⟩ ⟨r.val % 512, by omega⟩ = r := Fin.ext (by show r.val / 512 * 512 + r.val % 512 = r.val; omega)
  have hi : e ⟨r.val / 512, hN⟩ (ix2 ⟨r.val % 512, by omega⟩ l) = ix2 r l := by
    funext a
    apply Fin.ext
    match a with
    | ⟨0, _⟩ =>
      refine (he0 _ _).trans ?_
      rw [(hf _).1]
      show r.val / 512 * 512 + 1 * (r.val % 512) = r.val
      omega
    | ⟨1, _⟩ =>
      refine (he1 _ _).trans ?_
      rw [(hf _).2]
      show 0 * wd + 1 * l.val = l.val
      omega
  have := h ⟨r.val / 512, hN⟩ ⟨r.val % 512, by omega⟩ l
  rwa [hi, hr] at this

theorem arr6 (r : Fin 32768) (l : Fin 256) : (dats m 0 c).arrAt 6 cfg0.N (ix2 r l) = colA m c r (cl (0 + l.val)) :=
  fetch m c ((dats m 0 c).arrAt 6 cfg0.N) win0_6.index place6 (fun t => ((cfg0.win 6).blk t).view.emb) 0
    (fun t r l => (congrFun ((Value.blocks6 m c t (flush6 t)).trans (Value.flushed6 m c t)) (ix2 r l)).trans ((out6_at _ _ _ _ _ _ r l).trans (col_blk m c t r _)))
    (fun _ _ => rfl) (fun _ _ => rfl) r l

theorem arr7 (r : Fin 32768) (l : Fin 256) : (dats m 0 c).arrAt 7 cfg0.N (ix2 r l) = colA m c r (cl (256 + l.val)) :=
  fetch m c ((dats m 0 c).arrAt 7 cfg0.N) win0_7.index place7 (fun t => ((cfg0.win 7).blk t).view.emb) 256
    (fun t r l => (congrFun ((Value.blocks7 m c t (flush7 t)).trans (Value.flushed7 m c t)) (ix2 r l)).trans ((out7_at _ _ _ _ _ _ r l).trans (col_blk m c t r _)))
    (fun _ _ => rfl) (fun _ _ => rfl) r l

theorem arr8 (r : Fin 32768) (l : Fin 256) : (dats m 0 c).arrAt 8 cfg0.N (ix2 r l) = colA m c r (cl (512 + l.val)) :=
  fetch m c ((dats m 0 c).arrAt 8 cfg0.N) win0_8.index place8 (fun t => ((cfg0.win 8).blk t).view.emb) 512
    (fun t r l => (congrFun ((Value.blocks8 m c t (flush8 t)).trans (Value.flushed8 m c t)) (ix2 r l)).trans ((out8_at _ _ _ _ _ _ r l).trans (col_blk m c t r _)))
    (fun _ _ => rfl) (fun _ _ => rfl) r l

theorem arr9 (r : Fin 32768) (l : Fin 512) : (dats m 0 c).arrAt 9 cfg0.N (ix2 r l) = colA m c r (cl (768 + l.val)) :=
  fetch m c ((dats m 0 c).arrAt 9 cfg0.N) win0_9.index place9 (fun t => ((cfg0.win 9).blk t).view.emb) 768
    (fun t r l => (congrFun ((Value.blocks9 m c t (flush9 t)).trans (Value.flushed9 m c t)) (ix2 r l)).trans ((out9_at _ _ _ _ _ _ r l).trans (col_blk m c t r _)))
    (fun _ _ => rfl) (fun _ _ => rfl) r l

theorem arr10 (r : Fin 32768) (l : Fin 512) : (dats m 0 c).arrAt 10 cfg0.N (ix2 r l) = colA m c r (cl (1280 + l.val)) :=
  fetch m c ((dats m 0 c).arrAt 10 cfg0.N) win0_10.index place10 (fun t => ((cfg0.win 10).blk t).view.emb) 1280
    (fun t r l => (congrFun ((Value.blocks10 m c t (flush10 t)).trans (Value.flushed10 m c t)) (ix2 r l)).trans ((out10_at _ _ _ _ _ _ r l).trans (col_blk m c t r _)))
    (fun _ _ => rfl) (fun _ _ => rfl) r l

theorem arr11 (r : Fin 32768) (l : Fin 512) : (dats m 0 c).arrAt 11 cfg0.N (ix2 r l) = colA m c r (cl (1792 + l.val)) :=
  fetch m c ((dats m 0 c).arrAt 11 cfg0.N) win0_11.index place11 (fun t => ((cfg0.win 11).blk t).view.emb) 1792
    (fun t r l => (congrFun ((Value.blocks11 m c t (flush11 t)).trans (Value.flushed11 m c t)) (ix2 r l)).trans ((out11_at _ _ _ _ _ _ r l).trans (col_blk m c t r _)))
    (fun _ _ => rfl) (fun _ _ => rfl) r l

theorem arr12 (r : Fin 32768) (l : Fin 256) : (dats m 0 c).arrAt 12 cfg0.N (ix2 r l) = colA m c r (cl (2304 + l.val)) :=
  fetch m c ((dats m 0 c).arrAt 12 cfg0.N) win0_12.index place12 (fun t => ((cfg0.win 12).blk t).view.emb) 2304
    (fun t r l => (congrFun ((Value.blocks12 m c t (flush12 t)).trans (Value.flushed12 m c t)) (ix2 r l)).trans ((out12_at _ _ _ _ _ _ r l).trans (col_blk m c t r _)))
    (fun _ _ => rfl) (fun _ _ => rfl) r l

theorem arr13 (r : Fin 32768) (l : Fin 128) : (dats m 0 c).arrAt 13 cfg0.N (ix2 r l) = colA m c r (cl (2560 + l.val)) :=
  fetch m c ((dats m 0 c).arrAt 13 cfg0.N) win0_13.index place13 (fun t => ((cfg0.win 13).blk t).view.emb) 2560
    (fun t r l => (congrFun ((Value.blocks13 m c t (flush13 t)).trans (Value.flushed13 m c t)) (ix2 r l)).trans ((out13_at _ _ _ _ _ _ r l).trans (col_blk m c t r _)))
    (fun _ _ => rfl) (fun _ _ => rfl) r l

theorem arr14 (r : Fin 32768) (l : Fin 256) : (dats m 0 c).arrAt 14 cfg0.N (ix2 r l) = colA m c r (cl (2688 + l.val)) :=
  fetch m c ((dats m 0 c).arrAt 14 cfg0.N) win0_14.index place14 (fun t => ((cfg0.win 14).blk t).view.emb) 2688
    (fun t r l => (congrFun ((Value.blocks14 m c t (flush14 t)).trans (Value.flushed14 m c t)) (ix2 r l)).trans ((out14_at _ _ _ _ _ _ r l).trans (col_blk m c t r _)))
    (fun _ _ => rfl) (fun _ _ => rfl) r l

theorem arr15 (r : Fin 32768) (l : Fin 128) : (dats m 0 c).arrAt 15 cfg0.N (ix2 r l) = colA m c r (cl (2944 + l.val)) :=
  fetch m c ((dats m 0 c).arrAt 15 cfg0.N) win0_15.index place15 (fun t => ((cfg0.win 15).blk t).view.emb) 2944
    (fun t r l => (congrFun ((Value.blocks15 m c t (flush15 t)).trans (Value.flushed15 m c t)) (ix2 r l)).trans ((out15_at _ _ _ _ _ _ r l).trans (col_blk m c t r _)))
    (fun _ _ => rfl) (fun _ _ => rfl) r l

theorem arr16 (r : Fin 32768) (l : Fin 128) : (dats m 0 c).arrAt 16 cfg0.N (ix2 r l) = colA m c r (cl (3072 + l.val)) :=
  fetch m c ((dats m 0 c).arrAt 16 cfg0.N) win0_16.index place16 (fun t => ((cfg0.win 16).blk t).view.emb) 3072
    (fun t r l => (congrFun ((Value.blocks16 m c t (flush16 t)).trans (Value.flushed16 m c t)) (ix2 r l)).trans ((out16_at _ _ _ _ _ _ r l).trans (col_blk m c t r _)))
    (fun _ _ => rfl) (fun _ _ => rfl) r l

theorem arr17 (r : Fin 32768) (l : Fin 256) : (dats m 0 c).arrAt 17 cfg0.N (ix2 r l) = colA m c r (cl (3200 + l.val)) :=
  fetch m c ((dats m 0 c).arrAt 17 cfg0.N) win0_17.index place17 (fun t => ((cfg0.win 17).blk t).view.emb) 3200
    (fun t r l => (congrFun ((Value.blocks17 m c t (flush17 t)).trans (Value.flushed17 m c t)) (ix2 r l)).trans ((out17_at _ _ _ _ _ _ r l).trans (col_blk m c t r _)))
    (fun _ _ => rfl) (fun _ _ => rfl) r l

theorem arr18 (r : Fin 32768) (l : Fin 128) : (dats m 0 c).arrAt 18 cfg0.N (ix2 r l) = colA m c r (cl (3456 + l.val)) :=
  fetch m c ((dats m 0 c).arrAt 18 cfg0.N) win0_18.index place18 (fun t => ((cfg0.win 18).blk t).view.emb) 3456
    (fun t r l => (congrFun ((Value.blocks18 m c t (flush18 t)).trans (Value.flushed18 m c t)) (ix2 r l)).trans ((out18_at _ _ _ _ _ _ r l).trans (col_blk m c t r _)))
    (fun _ _ => rfl) (fun _ _ => rfl) r l

theorem arr19 (r : Fin 32768) (l : Fin 128) : (dats m 0 c).arrAt 19 cfg0.N (ix2 r l) = colA m c r (cl (3584 + l.val)) :=
  fetch m c ((dats m 0 c).arrAt 19 cfg0.N) win0_19.index place19 (fun t => ((cfg0.win 19).blk t).view.emb) 3584
    (fun t r l => (congrFun ((Value.blocks19 m c t (flush19 t)).trans (Value.flushed19 m c t)) (ix2 r l)).trans ((out19_at _ _ _ _ _ _ r l).trans (col_blk m c t r _)))
    (fun _ _ => rfl) (fun _ _ => rfl) r l

end Cert.AbVal
end
-- ==== Proof.AbLay.lean ====
module

public import proofs.«01_k».proof.Proof.AbHost
public import proofs.«01_k».proof.Proof.AbPay
public import Idealize.ShloMosaic.Lib.Pipeline.ValueKit
public import Idealize.ShloMosaic.Lib.StableHlo.RunRead
public import Idealize.ShloMosaic.Lib.Pointwise

@[expose] public section

set_option maxRecDepth 16384

noncomputable section

namespace Cert.AbVal

open Idealize.ShloMosaic Idealize.ShloMosaic.TcCoe Idealize.SL.Sem
open Cert.AbIdeal Cert.AbIdeal.Gen Cert.Lin

/-- Some entries of a bias as wide as the projection, read at an index. -/
theorem sliceB {wd : Nat} (a : (⟨1, ![6768]⟩ : Shape).Idx → EReal) (b : Nat) (hb : b + wd ≤ 6768) (h) (l : Fin wd) :
    extractStridedSlice ⟨1, ![wd]⟩ ![b] a h (ix1 l) = a (ix1 (col (b + l.val))) := by
  refine congrArg a (funext fun d => Fin.ext ?_)
  match d with
  | ⟨0, _⟩ =>
    show b + l.val = (b + l.val) % 6768
    omega

theorem zero_i : sitofp (F := Ideal) .f32 (constantI S_ 32 0#32) (Shape.Idx.first h_S_) = (0 : EReal) := by
  show (((0#32).toInt : ℝ) : EReal) = 0
  simp

theorem zero_f : constant (F := Ideal) S_ .f32 0x00000000#32 (Shape.Idx.first h_S_) = (0 : EReal) := by
  pointwise

theorem one_f : constant (F := Ideal) S_ .f32 0x3F800000#32 (Shape.Idx.first h_S_) = (1 : EReal) := by
  pointwise

/-- A lane of widened heads, when the columns are some of an array's. -/
theorem headsW_lane (x : FVec Ideal S1024x256 .f32) (o : FVec Ideal S_ .f32) {z : EReal} (ho : o (Shape.Idx.first h_S_) = z) (a : FVec Ideal S1024x6768 .f32)
    (b : Nat) (hb : b + 256 ≤ 6768) {k : Fin 1024} (hx : ∀ l : Fin 256, x (ix2 k l) = a (ix2 k (col (b + l.val)))) (l : Fin 512) :
    headsW x o (ix2 k l) = heads (fun j => a (ix2 k j)) b z l.val := by
  rw [headsW_at, ho]
  simp only [hx]
  exact part_dite (f := fun _ => _) (P := fun j => a (ix2 k j)) fun _ => rfl

theorem headsB_lane (x : FVec Ideal S256 .f32) (o : FVec Ideal S_ .f32) {z : EReal} (ho : o (Shape.Idx.first h_S_) = z) (a : FVec Ideal S6768 .f32)
    (b : Nat) (hb : b + 256 ≤ 6768) (hx : ∀ l : Fin 256, x (ix1 l) = a (ix1 (col (b + l.val)))) (l : Fin 512) :
    headsB x o (ix1 l) = heads (fun j => a (ix1 j)) b z l.val := by
  rw [headsB_at, ho]
  simp only [hx]
  exact part_dite (f := fun _ => _) (P := fun j => a (ix1 j)) fun _ => rfl

theorem ifW_lane (a : FVec Ideal S1024x6768 .f32) (k : Fin 1024) (l : Fin 128) : ifW a (sitofp (F := Ideal) .f32 (constantI S_ 32 0#32)) (ix2 k l) = left (fun j => a (ix2 k j)) 1792 16 l.val := by
  rw [ifW_at, zero_i]
  exact part_dite (P := fun j => a (ix2 k j)) fun _ => col_eq _ rfl

theorem ifB_lane (a : FVec Ideal S6768 .f32) (l : Fin 128) : ifB a (sitofp (F := Ideal) .f32 (constantI S_ 32 0#32)) (ix1 l) = left (fun j => a (ix1 j)) 1792 16 l.val := by
  rw [ifB_at, zero_i]
  exact part_dite (P := fun j => a (ix1 j)) fun _ => col_eq _ rfl

theorem cqW_lane (a : FVec Ideal S1024x6768 .f32) (k : Fin 1024) (l : Fin 256) : cqW a (sitofp (F := Ideal) .f32 (constantI S_ 32 0#32)) (ix2 k l) = left (fun j => a (ix2 k j)) 2320 192 l.val := by
  rw [cqW_at, zero_i]
  exact part_dite (P := fun j => a (ix2 k j)) fun _ => col_eq _ rfl

theorem cqB_lane (a : FVec Ideal S6768 .f32) (l : Fin 256) : cqB a (sitofp (F := Ideal) .f32 (constantI S_ 32 0#32)) (ix1 l) = left (fun j => a (ix1 j)) 2320 192 l.val := by
  rw [cqB_at, zero_i]
  exact part_dite (P := fun j => a (ix1 j)) fun _ => col_eq _ rfl

theorem ropeW_lane (a : FVec Ideal S1024x6768 .f32) (k : Fin 1024) (l : Fin 128) : ropeW a (sitofp (F := Ideal) .f32 (constantI S_ 32 0#32)) (ix2 k l) = rope (fun j => a (ix2 k j)) l.val := by
  rw [ropeW_at, zero_i]
  exact part_dite (P := fun j => a (ix2 k j)) fun _ => col_eq _ rfl

theorem ropeB_lane (a : FVec Ideal S6768 .f32) (l : Fin 128) : ropeB a (sitofp (F := Ideal) .f32 (constantI S_ 32 0#32)) (ix1 l) = rope (fun j => a (ix1 j)) l.val := by
  rw [ropeB_at, zero_i]
  exact part_dite (P := fun j => a (ix1 j)) fun _ => col_eq _ rfl

/-- Off the axis of the columns, an index keeps its row. -/
theorem off_axis {n wd w : Nat} (k : Fin n) (l : Fin wd) (j : Fin w) (b : Fin 2) (hb : b ≠ (1 : Fin 2)) : (ix2 k l b).val = (ix2 k j b).val := by
  match b with
  | ⟨0, _⟩ => rfl
  | ⟨1, _⟩ => exact absurd rfl hb

theorem off_axis1 {wd w : Nat} (l : Fin wd) (j : Fin w) (b : Fin 1) (hb : b ≠ (0 : Fin 1)) : (ix1 l b).val = (ix1 j b).val := by
  match b with
  | ⟨0, _⟩ => exact absurd rfl hb

theorem cl_eq {n : Nat} (h : n < 3712) : cl n = ⟨n, h⟩ := Fin.ext (by show n % 3712 = n; omega)

/-- The bias row at a column is the joined biases' entry. -/
theorem catB_row (j : Fin 3712) (z : EReal) (x : S3712.Idx → EReal) (hz : x (ix1 j) = z) :
    shapeCast S1x3712 x shapeCasts_S3712_S1x3712 (ix2 0 j) = z := by
  pointwise
  exact hz

/-- The weights at a lane of one part: the part's entry there. -/
theorem pieceW {wd : Nat} (xs : List ((s : Shape) × (s.Idx → EReal))) (h : Shape.Concatenates (xs.map (·.1)) S1024x3712 1) (i pre : Nat) (hi : i < xs.length)
    (x : (⟨2, ![1024, wd]⟩ : Shape).Idx → EReal) (hx : xs[i] = ⟨⟨2, ![1024, wd]⟩, x⟩)
    (hpre : (((xs.take i).map (·.1)).map fun s => if h : s.rank = S1024x3712.rank then s.size ((1 : Fin 2).cast h.symm) else 0).sum = pre)
    (k : Fin 1024) (l : Fin wd) (hl : pre + wd ≤ 3712) (z : EReal) (hz : x (ix2 k l) = z) :
    truncf (F := Ideal) (φ := .f32) .bf16 (concatenate S1024x3712 1 xs h) bitsLt_bf16_f32 (ix2 k (cl (pre + l.val))) = z := by
  rw [cl_eq (by omega), ← hz]
  exact concatenate_apply_piece 1 xs h _ i hi _ x hx rfl pre hpre (ix2 k l) (off_axis k l _) rfl

/-- The biases at a lane of one part: the part's entry there. -/
theorem pieceB {wd : Nat} (xs : List ((s : Shape) × (s.Idx → EReal))) (h : Shape.Concatenates (xs.map (·.1)) S3712 0) (i pre : Nat) (hi : i < xs.length)
    (x : (⟨1, ![wd]⟩ : Shape).Idx → EReal) (hx : xs[i] = ⟨⟨1, ![wd]⟩, x⟩)
    (hpre : (((xs.take i).map (·.1)).map fun s => if h : s.rank = S3712.rank then s.size ((0 : Fin 1).cast h.symm) else 0).sum = pre)
    (l : Fin wd) (hl : pre + wd ≤ 3712) (z : EReal) (hz : x (ix1 l) = z) :
    shapeCast S1x3712 (concatenate S3712 0 xs h) shapeCasts_S3712_S1x3712 (ix2 0 (cl (pre + l.val))) = z := by
  refine catB_row _ _ _ ?_
  rw [cl_eq (by omega), ← hz]
  exact concatenate_apply_piece 0 xs h _ i hi _ x hx rfl pre hpre (ix1 l) (off_axis1 l _) rfl

section
variable (x0 x1 x2 : FVec Ideal S1024x256 .f32) (x3 x4 x5 : FVec Ideal S1024x512 .f32) (x6 : FVec Ideal S1024x256 .f32) (x7 : FVec Ideal S1024x128 .f32) (x8 : FVec Ideal S1024x256 .f32) (x9 x10 : FVec Ideal S1024x128 .f32) (x11 : FVec Ideal S1024x256 .f32) (x12 x13 : FVec Ideal S1024x128 .f32)
theorem joinW0 (k : Fin 1024) (l : Fin 256) : joinW x0 x1 x2 x3 x4 x5 x6 x7 x8 x9 x10 x11 x12 x13 (ix2 k (cl (0 + l.val))) = x0 (ix2 k l) :=
  pieceW _ _ 0 0 (by show 0 < 14; decide) x0 rfl (by simp) k l (by omega) _ rfl
theorem joinW1 (k : Fin 1024) (l : Fin 256) : joinW x0 x1 x2 x3 x4 x5 x6 x7 x8 x9 x10 x11 x12 x13 (ix2 k (cl (256 + l.val))) = x1 (ix2 k l) :=
  pieceW _ _ 1 256 (by show 1 < 14; decide) x1 rfl (by simp) k l (by omega) _ rfl
theorem joinW2 (k : Fin 1024) (l : Fin 256) : joinW x0 x1 x2 x3 x4 x5 x6 x7 x8 x9 x10 x11 x12 x13 (ix2 k (cl (512 + l.val))) = x2 (ix2 k l) :=
  pieceW _ _ 2 512 (by show 2 < 14; decide) x2 rfl (by simp) k l (by omega) _ rfl
theorem joinW3 (k : Fin 1024) (l : Fin 512) : joinW x0 x1 x2 x3 x4 x5 x6 x7 x8 x9 x10 x11 x12 x13 (ix2 k (cl (768 + l.val))) = x3 (ix2 k l) :=
  pieceW _ _ 3 768 (by show 3 < 14; decide) x3 rfl (by simp) k l (by omega) _ rfl
theorem joinW4 (k : Fin 1024) (l : Fin 512) : joinW x0 x1 x2 x3 x4 x5 x6 x7 x8 x9 x10 x11 x12 x13 (ix2 k (cl (1280 + l.val))) = x4 (ix2 k l) :=
  pieceW _ _ 4 1280 (by show 4 < 14; decide) x4 rfl (by simp) k l (by omega) _ rfl
theorem joinW5 (k : Fin 1024) (l : Fin 512) : joinW x0 x1 x2 x3 x4 x5 x6 x7 x8 x9 x10 x11 x12 x13 (ix2 k (cl (1792 + l.val))) = x5 (ix2 k l) :=
  pieceW _ _ 5 1792 (by show 5 < 14; decide) x5 rfl (by simp) k l (by omega) _ rfl
theorem joinW6 (k : Fin 1024) (l : Fin 256) : joinW x0 x1 x2 x3 x4 x5 x6 x7 x8 x9 x10 x11 x12 x13 (ix2 k (cl (2304 + l.val))) = x6 (ix2 k l) :=
  pieceW _ _ 6 2304 (by show 6 < 14; decide) x6 rfl (by simp) k l (by omega) _ rfl
theorem joinW7 (k : Fin 1024) (l : Fin 128) : joinW x0 x1 x2 x3 x4 x5 x6 x7 x8 x9 x10 x11 x12 x13 (ix2 k (cl (2560 + l.val))) = x7 (ix2 k l) :=
  pieceW _ _ 7 2560 (by show 7 < 14; decide) x7 rfl (by simp) k l (by omega) _ rfl
theorem joinW8 (k : Fin 1024) (l : Fin 256) : joinW x0 x1 x2 x3 x4 x5 x6 x7 x8 x9 x10 x11 x12 x13 (ix2 k (cl (2688 + l.val))) = x8 (ix2 k l) :=
  pieceW _ _ 8 2688 (by show 8 < 14; decide) x8 rfl (by simp) k l (by omega) _ rfl
theorem joinW9 (k : Fin 1024) (l : Fin 128) : joinW x0 x1 x2 x3 x4 x5 x6 x7 x8 x9 x10 x11 x12 x13 (ix2 k (cl (2944 + l.val))) = x9 (ix2 k l) :=
  pieceW _ _ 9 2944 (by show 9 < 14; decide) x9 rfl (by simp) k l (by omega) _ rfl
theorem joinW10 (k : Fin 1024) (l : Fin 128) : joinW x0 x1 x2 x3 x4 x5 x6 x7 x8 x9 x10 x11 x12 x13 (ix2 k (cl (3072 + l.val))) = x10 (ix2 k l) :=
  pieceW _ _ 10 3072 (by show 10 < 14; decide) x10 rfl (by simp) k l (by omega) _ rfl
theorem joinW11 (k : Fin 1024) (l : Fin 256) : joinW x0 x1 x2 x3 x4 x5 x6 x7 x8 x9 x10 x11 x12 x13 (ix2 k (cl (3200 + l.val))) = x11 (ix2 k l) :=
  pieceW _ _ 11 3200 (by show 11 < 14; decide) x11 rfl (by simp) k l (by omega) _ rfl
theorem joinW12 (k : Fin 1024) (l : Fin 128) : joinW x0 x1 x2 x3 x4 x5 x6 x7 x8 x9 x10 x11 x12 x13 (ix2 k (cl (3456 + l.val))) = x12 (ix2 k l) :=
  pieceW _ _ 12 3456 (by show 12 < 14; decide) x12 rfl (by simp) k l (by omega) _ rfl
theorem joinW13 (k : Fin 1024) (l : Fin 128) : joinW x0 x1 x2 x3 x4 x5 x6 x7 x8 x9 x10 x11 x12 x13 (ix2 k (cl (3584 + l.val))) = x13 (ix2 k l) :=
  pieceW _ _ 13 3584 (by show 13 < 14; decide) x13 rfl (by simp) k l (by omega) _ rfl
end

section
variable (x0 x1 x2 : FVec Ideal S256 .f32) (x3 x4 x5 : FVec Ideal S512 .f32) (x6 : FVec Ideal S256 .f32) (x7 : FVec Ideal S128 .f32) (x8 : FVec Ideal S256 .f32) (x9 x10 : FVec Ideal S128 .f32) (x11 : FVec Ideal S256 .f32) (x12 x13 : FVec Ideal S128 .f32)
theorem joinB0 (l : Fin 256) : joinB x0 x1 x2 x3 x4 x5 x6 x7 x8 x9 x10 x11 x12 x13 (ix2 0 (cl (0 + l.val))) = x0 (ix1 l) :=
  pieceB _ _ 0 0 (by show 0 < 14; decide) x0 rfl (by simp) l (by omega) _ rfl
theorem joinB1 (l : Fin 256) : joinB x0 x1 x2 x3 x4 x5 x6 x7 x8 x9 x10 x11 x12 x13 (ix2 0 (cl (256 + l.val))) = x1 (ix1 l) :=
  pieceB _ _ 1 256 (by show 1 < 14; decide) x1 rfl (by simp) l (by omega) _ rfl
theorem joinB2 (l : Fin 256) : joinB x0 x1 x2 x3 x4 x5 x6 x7 x8 x9 x10 x11 x12 x13 (ix2 0 (cl (512 + l.val))) = x2 (ix1 l) :=
  pieceB _ _ 2 512 (by show 2 < 14; decide) x2 rfl (by simp) l (by omega) _ rfl
theorem joinB3 (l : Fin 512) : joinB x0 x1 x2 x3 x4 x5 x6 x7 x8 x9 x10 x11 x12 x13 (ix2 0 (cl (768 + l.val))) = x3 (ix1 l) :=
  pieceB _ _ 3 768 (by show 3 < 14; decide) x3 rfl (by simp) l (by omega) _ rfl
theorem joinB4 (l : Fin 512) : joinB x0 x1 x2 x3 x4 x5 x6 x7 x8 x9 x10 x11 x12 x13 (ix2 0 (cl (1280 + l.val))) = x4 (ix1 l) :=
  pieceB _ _ 4 1280 (by show 4 < 14; decide) x4 rfl (by simp) l (by omega) _ rfl
theorem joinB5 (l : Fin 512) : joinB x0 x1 x2 x3 x4 x5 x6 x7 x8 x9 x10 x11 x12 x13 (ix2 0 (cl (1792 + l.val))) = x5 (ix1 l) :=
  pieceB _ _ 5 1792 (by show 5 < 14; decide) x5 rfl (by simp) l (by omega) _ rfl
theorem joinB6 (l : Fin 256) : joinB x0 x1 x2 x3 x4 x5 x6 x7 x8 x9 x10 x11 x12 x13 (ix2 0 (cl (2304 + l.val))) = x6 (ix1 l) :=
  pieceB _ _ 6 2304 (by show 6 < 14; decide) x6 rfl (by simp) l (by omega) _ rfl
theorem joinB7 (l : Fin 128) : joinB x0 x1 x2 x3 x4 x5 x6 x7 x8 x9 x10 x11 x12 x13 (ix2 0 (cl (2560 + l.val))) = x7 (ix1 l) :=
  pieceB _ _ 7 2560 (by show 7 < 14; decide) x7 rfl (by simp) l (by omega) _ rfl
theorem joinB8 (l : Fin 256) : joinB x0 x1 x2 x3 x4 x5 x6 x7 x8 x9 x10 x11 x12 x13 (ix2 0 (cl (2688 + l.val))) = x8 (ix1 l) :=
  pieceB _ _ 8 2688 (by show 8 < 14; decide) x8 rfl (by simp) l (by omega) _ rfl
theorem joinB9 (l : Fin 128) : joinB x0 x1 x2 x3 x4 x5 x6 x7 x8 x9 x10 x11 x12 x13 (ix2 0 (cl (2944 + l.val))) = x9 (ix1 l) :=
  pieceB _ _ 9 2944 (by show 9 < 14; decide) x9 rfl (by simp) l (by omega) _ rfl
theorem joinB10 (l : Fin 128) : joinB x0 x1 x2 x3 x4 x5 x6 x7 x8 x9 x10 x11 x12 x13 (ix2 0 (cl (3072 + l.val))) = x10 (ix1 l) :=
  pieceB _ _ 10 3072 (by show 10 < 14; decide) x10 rfl (by simp) l (by omega) _ rfl
theorem joinB11 (l : Fin 256) : joinB x0 x1 x2 x3 x4 x5 x6 x7 x8 x9 x10 x11 x12 x13 (ix2 0 (cl (3200 + l.val))) = x11 (ix1 l) :=
  pieceB _ _ 11 3200 (by show 11 < 14; decide) x11 rfl (by simp) l (by omega) _ rfl
theorem joinB12 (l : Fin 128) : joinB x0 x1 x2 x3 x4 x5 x6 x7 x8 x9 x10 x11 x12 x13 (ix2 0 (cl (3456 + l.val))) = x12 (ix1 l) :=
  pieceB _ _ 12 3456 (by show 12 < 14; decide) x12 rfl (by simp) l (by omega) _ rfl
theorem joinB13 (l : Fin 128) : joinB x0 x1 x2 x3 x4 x5 x6 x7 x8 x9 x10 x11 x12 x13 (ix2 0 (cl (3584 + l.val))) = x13 (ix1 l) :=
  pieceB _ _ 13 3584 (by show 13 < 14; decide) x13 rfl (by simp) l (by omega) _ rfl
end

variable (a : FVec Ideal S1024x6768 .f32) (d : FVec Ideal S6768 .f32)

theorem w6_at (k : Fin 1024) (l : Fin 256) : catW a (ix2 k (cl (0 + l.val))) = (fun j => a (ix2 k j)) (col (0 + l.val)) :=
  (joinW0 _ _ _ _ _ _ _ _ _ _ _ _ _ _ k l).trans (slice2 a 0 (by omega) _ k l)

theorem b6_at (l : Fin 256) : catB d (ix2 0 (cl (0 + l.val))) = (fun j => d (ix1 j)) (col (0 + l.val)) :=
  (joinB0 _ _ _ _ _ _ _ _ _ _ _ _ _ _ l).trans (sliceB d 0 (by omega) _ l)

theorem w7_at (k : Fin 1024) (l : Fin 256) : catW a (ix2 k (cl (256 + l.val))) = (fun j => a (ix2 k j)) (col (256 + l.val)) :=
  (joinW1 _ _ _ _ _ _ _ _ _ _ _ _ _ _ k l).trans (slice2 a 256 (by omega) _ k l)

theorem b7_at (l : Fin 256) : catB d (ix2 0 (cl (256 + l.val))) = (fun j => d (ix1 j)) (col (256 + l.val)) :=
  (joinB1 _ _ _ _ _ _ _ _ _ _ _ _ _ _ l).trans (sliceB d 256 (by omega) _ l)

theorem w8_at (k : Fin 1024) (l : Fin 256) : catW a (ix2 k (cl (512 + l.val))) = (fun j => a (ix2 k j)) (col (512 + l.val)) :=
  (joinW2 _ _ _ _ _ _ _ _ _ _ _ _ _ _ k l).trans (slice2 a 512 (by omega) _ k l)

theorem b8_at (l : Fin 256) : catB d (ix2 0 (cl (512 + l.val))) = (fun j => d (ix1 j)) (col (512 + l.val)) :=
  (joinB2 _ _ _ _ _ _ _ _ _ _ _ _ _ _ l).trans (sliceB d 512 (by omega) _ l)

theorem w9_at (k : Fin 1024) (l : Fin 512) : catW a (ix2 k (cl (768 + l.val))) = heads (fun j => a (ix2 k j)) 768 0 l.val :=
  (joinW3 _ _ _ _ _ _ _ _ _ _ _ _ _ _ k l).trans (headsW_lane _ _ zero_f a 768 (by omega) (slice2 a 768 (by omega) _ k) l)

theorem b9_at (l : Fin 512) : catB d (ix2 0 (cl (768 + l.val))) = heads (fun j => d (ix1 j)) 768 0 l.val :=
  (joinB3 _ _ _ _ _ _ _ _ _ _ _ _ _ _ l).trans (headsB_lane _ _ zero_f d 768 (by omega) (sliceB d 768 (by omega) _) l)

theorem w10_at (k : Fin 1024) (l : Fin 512) : catW a (ix2 k (cl (1280 + l.val))) = heads (fun j => a (ix2 k j)) 1024 0 l.val :=
  (joinW4 _ _ _ _ _ _ _ _ _ _ _ _ _ _ k l).trans (headsW_lane _ _ zero_f a 1024 (by omega) (slice2 a 1024 (by omega) _ k) l)

theorem b10_at (l : Fin 512) : catB d (ix2 0 (cl (1280 + l.val))) = heads (fun j => d (ix1 j)) 1024 0 l.val :=
  (joinB4 _ _ _ _ _ _ _ _ _ _ _ _ _ _ l).trans (headsB_lane _ _ zero_f d 1024 (by omega) (sliceB d 1024 (by omega) _) l)

theorem w11_at (k : Fin 1024) (l : Fin 512) : catW a (ix2 k (cl (1792 + l.val))) = heads (fun j => a (ix2 k j)) 1280 0 l.val :=
  (joinW5 _ _ _ _ _ _ _ _ _ _ _ _ _ _ k l).trans (headsW_lane _ _ zero_f a 1280 (by omega) (slice2 a 1280 (by omega) _ k) l)

theorem b11_at (l : Fin 512) : catB d (ix2 0 (cl (1792 + l.val))) = heads (fun j => d (ix1 j)) 1280 1 l.val :=
  (joinB5 _ _ _ _ _ _ _ _ _ _ _ _ _ _ l).trans (headsB_lane _ _ one_f d 1280 (by omega) (sliceB d 1280 (by omega) _) l)

theorem w12_at (k : Fin 1024) (l : Fin 256) : catW a (ix2 k (cl (2304 + l.val))) = (fun j => a (ix2 k j)) (col (1536 + l.val)) :=
  (joinW6 _ _ _ _ _ _ _ _ _ _ _ _ _ _ k l).trans (slice2 a 1536 (by omega) _ k l)

theorem b12_at (l : Fin 256) : catB d (ix2 0 (cl (2304 + l.val))) = (fun j => d (ix1 j)) (col (1536 + l.val)) :=
  (joinB6 _ _ _ _ _ _ _ _ _ _ _ _ _ _ l).trans (sliceB d 1536 (by omega) _ l)

theorem w13_at (k : Fin 1024) (l : Fin 128) : catW a (ix2 k (cl (2560 + l.val))) = left (fun j => a (ix2 k j)) 1792 16 l.val :=
  (joinW7 _ _ _ _ _ _ _ _ _ _ _ _ _ _ k l).trans (ifW_lane a k l)

theorem b13_at (l : Fin 128) : catB d (ix2 0 (cl (2560 + l.val))) = left (fun j => d (ix1 j)) 1792 16 l.val :=
  (joinB7 _ _ _ _ _ _ _ _ _ _ _ _ _ _ l).trans (ifB_lane d l)

theorem w14_at (k : Fin 1024) (l : Fin 256) : catW a (ix2 k (cl (2688 + l.val))) = (fun j => a (ix2 k j)) (col (1808 + l.val)) :=
  (joinW8 _ _ _ _ _ _ _ _ _ _ _ _ _ _ k l).trans (slice2 a 1808 (by omega) _ k l)

theorem b14_at (l : Fin 256) : catB d (ix2 0 (cl (2688 + l.val))) = (fun j => d (ix1 j)) (col (1808 + l.val)) :=
  (joinB8 _ _ _ _ _ _ _ _ _ _ _ _ _ _ l).trans (sliceB d 1808 (by omega) _ l)

theorem w15_at (k : Fin 1024) (l : Fin 128) : catW a (ix2 k (cl (2944 + l.val))) = (fun j => a (ix2 k j)) (col (2064 + l.val)) :=
  (joinW9 _ _ _ _ _ _ _ _ _ _ _ _ _ _ k l).trans (slice2 a 2064 (by omega) _ k l)

theorem b15_at (l : Fin 128) : catB d (ix2 0 (cl (2944 + l.val))) = (fun j => d (ix1 j)) (col (2064 + l.val)) :=
  (joinB9 _ _ _ _ _ _ _ _ _ _ _ _ _ _ l).trans (sliceB d 2064 (by omega) _ l)

theorem w16_at (k : Fin 1024) (l : Fin 128) : catW a (ix2 k (cl (3072 + l.val))) = (fun j => a (ix2 k j)) (col (2192 + l.val)) :=
  (joinW10 _ _ _ _ _ _ _ _ _ _ _ _ _ _ k l).trans (slice2 a 2192 (by omega) _ k l)

theorem b16_at (l : Fin 128) : catB d (ix2 0 (cl (3072 + l.val))) = (fun j => d (ix1 j)) (col (2192 + l.val)) :=
  (joinB10 _ _ _ _ _ _ _ _ _ _ _ _ _ _ l).trans (sliceB d 2192 (by omega) _ l)

theorem w17_at (k : Fin 1024) (l : Fin 256) : catW a (ix2 k (cl (3200 + l.val))) = left (fun j => a (ix2 k j)) 2320 192 l.val :=
  (joinW11 _ _ _ _ _ _ _ _ _ _ _ _ _ _ k l).trans (cqW_lane a k l)

theorem b17_at (l : Fin 256) : catB d (ix2 0 (cl (3200 + l.val))) = left (fun j => d (ix1 j)) 2320 192 l.val :=
  (joinB11 _ _ _ _ _ _ _ _ _ _ _ _ _ _ l).trans (cqB_lane d l)

theorem w18_at (k : Fin 1024) (l : Fin 128) : catW a (ix2 k (cl (3456 + l.val))) = (fun j => a (ix2 k j)) (col (2512 + l.val)) :=
  (joinW12 _ _ _ _ _ _ _ _ _ _ _ _ _ _ k l).trans (slice2 a 2512 (by omega) _ k l)

theorem b18_at (l : Fin 128) : catB d (ix2 0 (cl (3456 + l.val))) = (fun j => d (ix1 j)) (col (2512 + l.val)) :=
  (joinB12 _ _ _ _ _ _ _ _ _ _ _ _ _ _ l).trans (sliceB d 2512 (by omega) _ l)

theorem w19_at (k : Fin 1024) (l : Fin 128) : catW a (ix2 k (cl (3584 + l.val))) = rope (fun j => a (ix2 k j)) l.val :=
  (joinW13 _ _ _ _ _ _ _ _ _ _ _ _ _ _ k l).trans (ropeW_lane a k l)

theorem b19_at (l : Fin 128) : catB d (ix2 0 (cl (3584 + l.val))) = rope (fun j => d (ix1 j)) l.val :=
  (joinB13 _ _ _ _ _ _ _ _ _ _ _ _ _ _ l).trans (ropeB_lane d l)

end Cert.AbVal
end
-- ==== Proof.AbTie.lean ====
module

public import proofs.«01_k».proof.Proof.AbK
public import proofs.«01_k».proof.Proof.AbLay

@[expose] public section

set_option maxRecDepth 16384

noncomputable section

namespace Cert.AbVal

open Idealize.ShloMosaic Idealize.ShloMosaic.TcCoe Idealize.SL.Sem
open Cert.AbIdeal Cert.AbIdeal.Gen Cert.Lin

variable (m : (ℓ : Loc nD τ sig) → Buf (Elt Ideal) ℓ) (c : Dev nD)

/-- A column of the call's product, when its weights and its bias are known. -/
theorem colA_eq (r : Fin 32768) (j : Fin 3712) {w : Fin 1024 → EReal} {b : EReal} (hw : ∀ k, catW (m ((c : Thread nD τ).loc main_arg4)) (ix2 k j) = w k)
    (hb : catB (m ((c : Thread nD τ).loc main_arg5)) (ix2 0 j) = b) : colA m c r j = colOf (X m c r) (G m c) (SC m c (bat r)) (SH m c (bat r)) w b := by
  unfold colA
  rw [V_w, V_b, hb]
  exact congrArg (fun w => colOf _ _ _ _ w b) (funext hw)

/-- The combined projection's row at a token. -/
abbrev P (r : Fin 32768) (j : Fin 6768) : EReal := proj (X m c) (G m c) (SC m c) (SH m c) (W m c) (B m c) r j

theorem res6 (r : Fin 32768) (l : Fin 256) : (dats m 0 c).arrAt 6 cfg0.N (ix2 r l) = (P m c r) (col (0 + l.val)) :=
  (arr6 m c r l).trans (colA_eq m c r _ (fun k => w6_at _ k l) (b6_at _ l))

theorem res7 (r : Fin 32768) (l : Fin 256) : (dats m 0 c).arrAt 7 cfg0.N (ix2 r l) = (P m c r) (col (256 + l.val)) :=
  (arr7 m c r l).trans (colA_eq m c r _ (fun k => w7_at _ k l) (b7_at _ l))

theorem res8 (r : Fin 32768) (l : Fin 256) : (dats m 0 c).arrAt 8 cfg0.N (ix2 r l) = (P m c r) (col (512 + l.val)) :=
  (arr8 m c r l).trans (colA_eq m c r _ (fun k => w8_at _ k l) (b8_at _ l))

theorem res9 (r : Fin 32768) (l : Fin 512) : (dats m 0 c).arrAt 9 cfg0.N (ix2 r l) = heads (P m c r) 768 0 l.val :=
  (arr9 m c r l).trans ((colA_eq m c r _ (fun k => w9_at _ k l) (b9_at _ l)).trans (col_part _ _ _ _ (W m c) (B m c) _ _ _))

theorem res10 (r : Fin 32768) (l : Fin 512) : (dats m 0 c).arrAt 10 cfg0.N (ix2 r l) = heads (P m c r) 1024 0 l.val :=
  (arr10 m c r l).trans ((colA_eq m c r _ (fun k => w10_at _ k l) (b10_at _ l)).trans (col_part _ _ _ _ (W m c) (B m c) _ _ _))

theorem res11 (r : Fin 32768) (l : Fin 512) : (dats m 0 c).arrAt 11 cfg0.N (ix2 r l) = heads (P m c r) 1280 1 l.val :=
  (arr11 m c r l).trans ((colA_eq m c r _ (fun k => w11_at _ k l) (b11_at _ l)).trans (col_part _ _ _ _ (W m c) (B m c) _ _ _))

theorem res12 (r : Fin 32768) (l : Fin 256) : (dats m 0 c).arrAt 12 cfg0.N (ix2 r l) = (P m c r) (col (1536 + l.val)) :=
  (arr12 m c r l).trans (colA_eq m c r _ (fun k => w12_at _ k l) (b12_at _ l))

theorem res13 (r : Fin 32768) (l : Fin 128) : (dats m 0 c).arrAt 13 cfg0.N (ix2 r l) = left (P m c r) 1792 16 l.val :=
  (arr13 m c r l).trans ((colA_eq m c r _ (fun k => w13_at _ k l) (b13_at _ l)).trans (col_part _ _ _ _ (W m c) (B m c) _ _ _))

theorem res14 (r : Fin 32768) (l : Fin 256) : (dats m 0 c).arrAt 14 cfg0.N (ix2 r l) = (P m c r) (col (1808 + l.val)) :=
  (arr14 m c r l).trans (colA_eq m c r _ (fun k => w14_at _ k l) (b14_at _ l))

theorem res15 (r : Fin 32768) (l : Fin 128) : (dats m 0 c).arrAt 15 cfg0.N (ix2 r l) = (P m c r) (col (2064 + l.val)) :=
  (arr15 m c r l).trans (colA_eq m c r _ (fun k => w15_at _ k l) (b15_at _ l))

theorem res16 (r : Fin 32768) (l : Fin 128) : (dats m 0 c).arrAt 16 cfg0.N (ix2 r l) = (P m c r) (col (2192 + l.val)) :=
  (arr16 m c r l).trans (colA_eq m c r _ (fun k => w16_at _ k l) (b16_at _ l))

theorem res17 (r : Fin 32768) (l : Fin 256) : (dats m 0 c).arrAt 17 cfg0.N (ix2 r l) = left (P m c r) 2320 192 l.val :=
  (arr17 m c r l).trans ((colA_eq m c r _ (fun k => w17_at _ k l) (b17_at _ l)).trans (col_part _ _ _ _ (W m c) (B m c) _ _ _))

theorem res18 (r : Fin 32768) (l : Fin 128) : (dats m 0 c).arrAt 18 cfg0.N (ix2 r l) = (P m c r) (col (2512 + l.val)) :=
  (arr18 m c r l).trans (colA_eq m c r _ (fun k => w18_at _ k l) (b18_at _ l))

theorem res19 (r : Fin 32768) (l : Fin 128) : (dats m 0 c).arrAt 19 cfg0.N (ix2 r l) = rope (P m c r) l.val :=
  (arr19 m c r l).trans ((colA_eq m c r _ (fun k => w19_at _ k l) (b19_at _ l)).trans (col_part _ _ _ _ (W m c) (B m c) _ _ _))

end Cert.AbVal
end
-- ==== Proof.AbR.lean ====
module

public import proofs.«01_k».proof.Proof.Gen.AbRefIdeal.Run
public import proofs.«01_k».proof.Proof.LinAb
public import Idealize.ShloMosaic.Lib.Pointwise

@[expose] public section

set_option maxRecDepth 16384

noncomputable section

namespace Cert.AbRefVal

open Idealize.ShloMosaic Idealize.ShloMosaic.TcCoe Idealize.SL.Sem Idealize.ShloMosaic.StableHlo
open Cert.AbRefIdeal Cert.AbRefIdeal.Gen Cert.Lin

variable (a0 : FVec Ideal S32768x1024 .f32) (a1 : FVec Ideal S1024 .f32) (a2 a3 : FVec Ideal S8x1x1024 .f32) (a4 : FVec Ideal S1024x6768 .f32) (a5 : FVec Ideal S6768 .f32)

/-- The normed and modulated tokens. -/
def hidV : FVec Ideal S8x4096x1024 .f32 := addf (mulf (mulf (mulf (shapeCast _ a0 shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ a0 shapeCasts_S32768x1024_S8x4096x1024) (shapeCast _ a0 shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a1))) (broadcastInDim S8x4096x1024 ![0, 1, 2] bcast_S8x1x1024_S8x4096x1024_0_1_2 (addf (broadcastInDim S8x1x1024 ![] bcast_S_S8x1x1024 (constant S_ .f32 0x3F800000#32)) a2))) (broadcastInDim S8x4096x1024 ![0, 1, 2] bcast_S8x1x1024_S8x4096x1024_0_1_2 a3)

/-- The combined projection of every token. -/
def refP : FVec Ideal S32768x6768 .f32 := shapeCast _ (addf (Host.dotGeneral dot_S8x4096x1024_S1024x6768_S8x4096x6768_2_0_01_1_n_n none (hidV a0 a1 a2 a3) a4) (broadcastInDim S8x4096x6768 ![0, 1, 2] bcast_S1x1x6768_S8x4096x6768_0_1_2 (broadcastInDim S1x1x6768 ![2] bcast_S6768_S1x1x6768_2 a5))) shapeCasts_S8x4096x6768_S32768x6768

/-- The token that a batch and a position name. -/
def tok (b : Fin 8) (q : Fin 4096) : Fin 32768 := ⟨b.val * 4096 + q.val, by omega⟩

/-- A normed and modulated entry, from the arguments. -/
theorem hid_at (b : Fin 8) (q : Fin 4096) (k : Fin 1024) (z : EReal)
    (hz : z = a0 (ix2 (tok b q) k) * Ideal.rsqrt (Ideal.div (∑ i : Fin 1024, a0 (ix2 (tok b q) i) * a0 (ix2 (tok b q) i)) (Ideal.ofBits FTy.f32 0x44800000#32) + Ideal.ofBits FTy.f32 0x358637BD#32)
      * a1 (ix1 k) * ((1 : EReal) + a2 (ix3 b 0 k)) + a3 (ix3 b 0 k)) :
    hidV a0 a1 a2 a3 (ix3 b q k) = z := by
  unfold tok at hz
  pointwise [hidV]
  rw [hz]

theorem refP_at (r : Fin 32768) (j : Fin 6768) (b : Fin 8) (hb : b = ⟨r.val / 4096, by omega⟩) (q : Fin 4096) (hq : q = ⟨r.val % 4096, by omega⟩)
    (z : EReal) (hz : z = (∑ k : Fin 1024, hidV a0 a1 a2 a3 (ix3 b q k) * a4 (ix2 k j)) + a5 (ix1 j)) :
    refP a0 a1 a2 a3 a4 a5 (ix2 r j) = z := by
  subst hb hq
  pointwise [refP]
  rw [hz]

/-- The combined projection, as numbers. -/
theorem refP_val (r : Fin 32768) (j : Fin 6768) :
    refP a0 a1 a2 a3 a4 a5 (ix2 r j)
      = proj (fun r k => a0 (ix2 r k)) (fun k => a1 (ix1 k)) (fun b k => a2 (ix3 b 0 k)) (fun b k => a3 (ix3 b 0 k)) (fun k j => a4 (ix2 k j)) (fun j => a5 (ix1 j)) r j := by
  refine refP_at a0 a1 a2 a3 a4 a5 r j (bat r) rfl ⟨r.val % 4096, by omega⟩ rfl _ ?_
  have ht : tok (bat r) ⟨r.val % 4096, by omega⟩ = r := Fin.ext (by show r.val / 4096 * 4096 + r.val % 4096 = r.val; omega)
  unfold proj colOf hidOf
  refine congrArg (fun u : EReal => u + a5 (ix1 j)) (@Finset.sum_congr _ EReal _ _ _ _ _ rfl fun k _ => congrArg (fun u : EReal => u * a4 (ix2 k j)) ?_)
  refine (hid_at a0 a1 a2 a3 (bat r) ⟨r.val % 4096, by omega⟩ k _ ?_).symm
  rw [ht, mean_eq]

theorem zero_i : sitofp (F := Ideal) .f32 (constantI S_ 32 0#32) (Shape.Idx.first h_S_) = (0 : EReal) := by
  show (((0#32).toInt : ℝ) : EReal) = 0
  simp

theorem zero_f : constant (F := Ideal) S_ .f32 0x00000000#32 (Shape.Idx.first h_S_) = (0 : EReal) := by
  pointwise

theorem one_f : constant (F := Ideal) S_ .f32 0x3F800000#32 (Shape.Idx.first h_S_) = (1 : EReal) := by
  pointwise

variable (p : FVec Ideal S32768x6768 .f32)

/-- Four heads of 64 columns, each widened to 128 lanes. -/
def headsR (x : FVec Ideal S32768x256 .f32) (o : FVec Ideal S_ .f32) : FVec Ideal S32768x512 .f32 :=
  shapeCast _ (pad S32768x4x128 ![0, 0, 0] ![0, 0, 64] ![0, 0, 0] (shapeCast _ x shapeCasts_S32768x256_S32768x4x64) o pads_S32768x4x64_S32768x4x128_000_000_0640 h_S_) shapeCasts_S32768x4x128_S32768x512

theorem headsR_at (x o) (k : Fin 32768) (l : Fin 512) :
    headsR x o (ix2 k l) = if h : l.val / 128 < 4 ∧ l.val % 128 < 64 then x (ix2 k ⟨l.val / 128 * 64 + l.val % 128, by omega⟩) else o (Shape.Idx.first h_S_) := by
  pointwise [headsR]

theorem headsR_lane (x : FVec Ideal S32768x256 .f32) (o : FVec Ideal S_ .f32) {z : EReal} (ho : o (Shape.Idx.first h_S_) = z)
    (b : Nat) {k : Fin 32768} (hx : ∀ l : Fin 256, x (ix2 k l) = p (ix2 k (col (b + l.val)))) (l : Fin 512) :
    headsR x o (ix2 k l) = heads (fun j => p (ix2 k j)) b z l.val := by
  rw [headsR_at, ho]
  simp only [hx]
  exact part_dite (f := fun _ => _) (P := fun j => p (ix2 k j)) fun _ => rfl

def o6 : FVec Ideal S32768x256 .f32 :=
  extractStridedSlice S32768x256 ![0, 0] p slices_S32768x6768_S32768x256_0_0

theorem o6_at (r : Fin 32768) (l : Fin 256) : o6 p (ix2 r l) = (fun j => p (ix2 r j)) (col (0 + l.val)) :=
  slice2 p 0 (by omega) _ r l

def o7 : FVec Ideal S32768x256 .f32 :=
  extractStridedSlice S32768x256 ![0, 256] p slices_S32768x6768_S32768x256_0_256

theorem o7_at (r : Fin 32768) (l : Fin 256) : o7 p (ix2 r l) = (fun j => p (ix2 r j)) (col (256 + l.val)) :=
  slice2 p 256 (by omega) _ r l

def o8 : FVec Ideal S32768x256 .f32 :=
  extractStridedSlice S32768x256 ![0, 512] p slices_S32768x6768_S32768x256_0_512

theorem o8_at (r : Fin 32768) (l : Fin 256) : o8 p (ix2 r l) = (fun j => p (ix2 r j)) (col (512 + l.val)) :=
  slice2 p 512 (by omega) _ r l

def o9 : FVec Ideal S32768x512 .f32 :=
  headsR (extractStridedSlice S32768x256 ![0, 768] p slices_S32768x6768_S32768x256_0_768) (id (constant (F := Ideal) S_ .f32 0x00000000#32))

theorem o9_at (r : Fin 32768) (l : Fin 512) : o9 p (ix2 r l) = heads (fun j => p (ix2 r j)) 768 0 l.val :=
  headsR_lane p _ _ zero_f 768 (slice2 p 768 (by omega) _ r) l

def o10 : FVec Ideal S32768x512 .f32 :=
  headsR (extractStridedSlice S32768x256 ![0, 1024] p slices_S32768x6768_S32768x256_0_1024) (id (constant (F := Ideal) S_ .f32 0x00000000#32))

theorem o10_at (r : Fin 32768) (l : Fin 512) : o10 p (ix2 r l) = heads (fun j => p (ix2 r j)) 1024 0 l.val :=
  headsR_lane p _ _ zero_f 1024 (slice2 p 1024 (by omega) _ r) l

def o11 : FVec Ideal S32768x512 .f32 :=
  headsR (extractStridedSlice S32768x256 ![0, 1280] p slices_S32768x6768_S32768x256_0_1280) (id (constant (F := Ideal) S_ .f32 0x3F800000#32))

theorem o11_at (r : Fin 32768) (l : Fin 512) : o11 p (ix2 r l) = heads (fun j => p (ix2 r j)) 1280 1 l.val :=
  headsR_lane p _ _ one_f 1280 (slice2 p 1280 (by omega) _ r) l

def o12 : FVec Ideal S32768x256 .f32 :=
  extractStridedSlice S32768x256 ![0, 1536] p slices_S32768x6768_S32768x256_0_1536

theorem o12_at (r : Fin 32768) (l : Fin 256) : o12 p (ix2 r l) = (fun j => p (ix2 r j)) (col (1536 + l.val)) :=
  slice2 p 1536 (by omega) _ r l

def o13 : FVec Ideal S32768x128 .f32 :=
  pad S32768x128 ![0, 0] ![0, 112] ![0, 0] (concatenate S32768x16 1 [⟨S32768x8, (extractStridedSlice S32768x8 ![0, 1792] p slices_S32768x6768_S32768x8_0_1792)⟩, ⟨S32768x8, (extractStridedSlice S32768x8 ![0, 1800] p slices_S32768x6768_S32768x8_0_1800)⟩] concatenates_S32768x8_S32768x8_S32768x16_d1) (sitofp (F := Ideal) .f32 (constantI S_ 32 0#32)) pads_S32768x16_S32768x128_000_01120 h_S_

theorem o13_at (r : Fin 32768) (l : Fin 128) : o13 p (ix2 r l) = left (fun j => p (ix2 r j)) 1792 16 l.val := by
  have e : o13 p (ix2 r l) = if h : l.val < 16 then p (ix2 r ⟨1792 + l.val, by omega⟩) else sitofp (F := Ideal) .f32 (constantI S_ 32 0#32) (Shape.Idx.first h_S_) := by
    pointwise [o13]
    split
    · split
      · rfl
      · exact congrArg (fun j => p (ix2 r j)) (Fin.ext (by show 1800 + (l.val - 8) = 1792 + l.val; omega))
    · rfl
  rw [e, zero_i]
  exact part_dite (P := fun j => p (ix2 r j)) fun _ => col_eq _ rfl

def o14 : FVec Ideal S32768x256 .f32 :=
  extractStridedSlice S32768x256 ![0, 1808] p slices_S32768x6768_S32768x256_0_1808

theorem o14_at (r : Fin 32768) (l : Fin 256) : o14 p (ix2 r l) = (fun j => p (ix2 r j)) (col (1808 + l.val)) :=
  slice2 p 1808 (by omega) _ r l

def o15 : FVec Ideal S32768x128 .f32 :=
  extractStridedSlice S32768x128 ![0, 2064] p slices_S32768x6768_S32768x128_0_2064

theorem o15_at (r : Fin 32768) (l : Fin 128) : o15 p (ix2 r l) = (fun j => p (ix2 r j)) (col (2064 + l.val)) :=
  slice2 p 2064 (by omega) _ r l

def o16 : FVec Ideal S32768x128 .f32 :=
  extractStridedSlice S32768x128 ![0, 2192] p slices_S32768x6768_S32768x128_0_2192

theorem o16_at (r : Fin 32768) (l : Fin 128) : o16 p (ix2 r l) = (fun j => p (ix2 r j)) (col (2192 + l.val)) :=
  slice2 p 2192 (by omega) _ r l

def o17 : FVec Ideal S32768x256 .f32 :=
  pad S32768x256 ![0, 0] ![0, 64] ![0, 0] (extractStridedSlice S32768x192 ![0, 2320] p slices_S32768x6768_S32768x192_0_2320) (sitofp (F := Ideal) .f32 (constantI S_ 32 0#32)) pads_S32768x192_S32768x256_000_0640 h_S_

theorem o17_at (r : Fin 32768) (l : Fin 256) : o17 p (ix2 r l) = left (fun j => p (ix2 r j)) 2320 192 l.val := by
  have e : o17 p (ix2 r l) = if h : l.val < 192 then p (ix2 r ⟨2320 + l.val, by omega⟩) else sitofp (F := Ideal) .f32 (constantI S_ 32 0#32) (Shape.Idx.first h_S_) := by
    pointwise [o17]
  rw [e, zero_i]
  exact part_dite (P := fun j => p (ix2 r j)) fun _ => col_eq _ rfl

def o18 : FVec Ideal S32768x128 .f32 :=
  extractStridedSlice S32768x128 ![0, 2512] p slices_S32768x6768_S32768x128_0_2512

theorem o18_at (r : Fin 32768) (l : Fin 128) : o18 p (ix2 r l) = (fun j => p (ix2 r j)) (col (2512 + l.val)) :=
  slice2 p 2512 (by omega) _ r l

def o19 : FVec Ideal S32768x128 .f32 :=
  pad S32768x128 ![0, 64] ![0, 32] ![0, 0] (extractStridedSlice S32768x32 ![0, 2640] p slices_S32768x6768_S32768x32_0_2640) (sitofp (F := Ideal) .f32 (constantI S_ 32 0#32)) pads_S32768x32_S32768x128_000_64320 h_S_

theorem o19_at (r : Fin 32768) (l : Fin 128) : o19 p (ix2 r l) = rope (fun j => p (ix2 r j)) l.val := by
  have e : o19 p (ix2 r l) = if h : 64 ≤ l.val ∧ l.val - 64 < 32 then p (ix2 r ⟨2640 + (l.val - 64), by omega⟩) else sitofp (F := Ideal) .f32 (constantI S_ 32 0#32) (Shape.Idx.first h_S_) := by
    pointwise [o19]
  rw [e, zero_i]
  exact part_dite (P := fun j => p (ix2 r j)) fun _ => col_eq _ rfl

variable (m : (ℓ : Loc nD τ sig) → Buf (Elt Ideal) ℓ) (ρ : Dev nD → PrngReg)

/-- The combined projection of a memory's arguments. -/
def memP (c : Dev nD) : FVec Ideal S32768x6768 .f32 := refP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's run: its 14 results are the parts of the combined projection. -/
theorem runR : θ_run defs (onTc (τ := τ) (main (F := Ideal))) ⟨m, fun _ => 0, ρ⟩ fun r => ∀ c : Dev nD,
      r.2.mem ((c : Thread nD τ).loc main_v25) = o6 (memP m c)
      ∧ r.2.mem ((c : Thread nD τ).loc main_v26) = o7 (memP m c)
      ∧ r.2.mem ((c : Thread nD τ).loc main_v27) = o8 (memP m c)
      ∧ r.2.mem ((c : Thread nD τ).loc main_v47) = o9 (memP m c)
      ∧ r.2.mem ((c : Thread nD τ).loc main_v50) = o10 (memP m c)
      ∧ r.2.mem ((c : Thread nD τ).loc main_v53) = o11 (memP m c)
      ∧ r.2.mem ((c : Thread nD τ).loc main_v31) = o12 (memP m c)
      ∧ r.2.mem ((c : Thread nD τ).loc main_v42) = o13 (memP m c)
      ∧ r.2.mem ((c : Thread nD τ).loc main_v34) = o14 (memP m c)
      ∧ r.2.mem ((c : Thread nD τ).loc main_v35) = o15 (memP m c)
      ∧ r.2.mem ((c : Thread nD τ).loc main_v36) = o16 (memP m c)
      ∧ r.2.mem ((c : Thread nD τ).loc main_v43) = o17 (memP m c)
      ∧ r.2.mem ((c : Thread nD τ).loc main_v38) = o18 (memP m c)
      ∧ r.2.mem ((c : Thread nD τ).loc main_v44) = o19 (memP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  Cert.AbRefIdeal.Value.run (F := Ideal) m ρ

end Cert.AbRefVal
end
-- ==== Proof.lean ====
module

public import proofs.«01_k».proof.Defs
public import proofs.«01_k».proof.Proof.Gen.Mla.Frame
public import proofs.«01_k».proof.Proof.Gen.MlaIdeal.Frame
public import proofs.«01_k».proof.Proof.Gen.MlaRefIdeal.Run
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.Ab.Frame
public import proofs.«01_k».proof.Proof.Gen.AbIdeal.Frame
public import proofs.«01_k».proof.Proof.Gen.AbIdeal.Value
public import proofs.«01_k».proof.Proof.Gen.AbRefIdeal.Run
public import proofs.«01_k».proof.Proof.MlaTie
public import proofs.«01_k».proof.Proof.PreOpen
public import proofs.«01_k».proof.Proof.GateK
public import proofs.«01_k».proof.Proof.GateR
public import proofs.«01_k».proof.Proof.AbTie
public import proofs.«01_k».proof.Proof.AbR
public import Idealize.ShloMosaic.Adequacy
public import Idealize.ShloMosaic.Init
public import Idealize.ShloMosaic.Lib.Quiescent

@[expose] public section

noncomputable section

namespace Cert.Proof

open Idealize.ShloMosaic Idealize.SL.Sem

/-- The reference of the attention terminates from every memory, leaves its arguments and leaves its counters at zero. -/
theorem mlaRef_frame : quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- On finite queries and keys the attention kernel and its reference end with the same array, in exact arithmetic. -/
theorem mla_value : algebraic_MlaIdeal_MlaRefIdeal_pre_finite_scores := by
  intro m ρ m' ρ' hpre hagree
  refine ⟨_, Cert.MlaVal.runK m ρ, ?_⟩
  refine (θ_run Cert.MlaRefIdeal.defs _ _).mono (fun _ h c => ⟨(h c).1.trans ?_, (h c).2⟩) (Cert.MlaRefVal.runR m' ρ')
  obtain ⟨g0, g1, g2, g3, g4, g5, g6⟩ := hagree c
  obtain ⟨r0, r1, r2, r4, r5⟩ := Cert.PreOpen.reals _ _ _ _ _ _ _ (hpre c)
  exact Cert.MlaTie.tie m c _ (funext fun b => funext fun t => funext fun h => funext fun x => congrFun g0 _)
    (funext fun b => funext fun t => funext fun h => funext fun x => congrFun g1 _)
    (funext fun b => funext fun t => funext fun x => congrFun g2 _)
    (funext fun b => funext fun t => funext fun h => funext fun x => congrFun g3 _)
    (funext fun b => funext fun t => funext fun h => funext fun x => congrFun g4 _)
    (funext fun b => funext fun t => funext fun x => congrFun g5 _)
    (funext fun b => funext fun t => funext fun h => funext fun x => congrFun g6 _)
    (fun b t h x => r0 _) (fun b t h x => r1 _) (fun b t x => r2 _) (fun b t h x => r4 _) (fun b t x => r5 _)

/-- The reference of the gate projection terminates from every memory, leaves its arguments and leaves its counters at zero. -/
theorem gateRef_frame : quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The gate projection's kernel and its reference end with the same array, in exact arithmetic. -/
theorem gate_value : algebraic_GateIdeal_GateRefIdeal := by
  intro m ρ m' ρ' _ hagree
  refine ⟨_, Cert.GateVal.runG m ρ, ?_⟩
  refine (θ_run Cert.GateRefIdeal.defs _ _).mono (fun _ h c => ⟨(h c).1.trans ?_, (h c).2⟩) (Cert.GateRefVal.runR m' ρ')
  obtain ⟨g0, g1, g2, g3, g4, g5⟩ := hagree c
  rw [g0, g1, g2, g3, g4, g5]
  funext i
  refine (congrArg _ (show i = ix2 (i 0 : Fin 32768) (i 1 : Fin 4096) from funext fun a => match a with | ⟨0, _⟩ => rfl | ⟨1, _⟩ => rfl)).trans ?_
  exact Cert.GateRefVal.ref_val _ _ _ _ _ _ (i 0 : Fin 32768) (i 1 : Fin 4096)

/-- The reference of the projection into the four mixers terminates from every memory, leaves its arguments and leaves its counters at zero. -/
theorem abRef_frame : quiescent_AbRefIdeal := fun m ρ _ =>
  (θ_run Cert.AbRefIdeal.defs _ _).mono (fun r h => ⟨fun c => (h c).2.2.2.2.2.2.2.2.2.2.2.2.2.2, sem_eq_zero_of_no_sems (by decide) r.2⟩)
    (Cert.AbRefIdeal.Value.run (F := Ideal) m ρ)

/-- Two arrays with two axes are the same when they are at each row and column. -/
theorem ext2 {n wd : Nat} {A B : (⟨2, ![n, wd]⟩ : Shape).Idx → EReal} (h : ∀ r l, A (ix2 r l) = B (ix2 r l)) : A = B := by
  funext i
  rw [show i = ix2 (i 0 : Fin n) (i 1 : Fin wd) from funext fun a => match a with | ⟨0, _⟩ => rfl | ⟨1, _⟩ => rfl]
  exact h _ _

set_option maxHeartbeats 4000000 in
/-- The 14 arrays of the projection's kernel are the padded parts of the reference's product, when both start from the same arguments. -/
theorem ab_same (m : (ℓ : Loc Cert.AbIdeal.nD Cert.AbIdeal.τ Cert.AbIdeal.sig) → Buf (Elt Ideal) ℓ) (c : Dev Cert.AbIdeal.nD)
    (p : (⟨2, ![32768, 6768]⟩ : Shape).Idx → EReal) (hP : ∀ r, (fun j => p (ix2 r j)) = Cert.AbVal.P m c r) :
    Cert.AbRefVal.o6 p = (Cert.AbIdeal.Gen.dats m 0 c).arrAt 6 Cert.AbIdeal.cfg0.N
    ∧ Cert.AbRefVal.o7 p = (Cert.AbIdeal.Gen.dats m 0 c).arrAt 7 Cert.AbIdeal.cfg0.N
    ∧ Cert.AbRefVal.o8 p = (Cert.AbIdeal.Gen.dats m 0 c).arrAt 8 Cert.AbIdeal.cfg0.N
    ∧ Cert.AbRefVal.o9 p = (Cert.AbIdeal.Gen.dats m 0 c).arrAt 9 Cert.AbIdeal.cfg0.N
    ∧ Cert.AbRefVal.o10 p = (Cert.AbIdeal.Gen.dats m 0 c).arrAt 10 Cert.AbIdeal.cfg0.N
    ∧ Cert.AbRefVal.o11 p = (Cert.AbIdeal.Gen.dats m 0 c).arrAt 11 Cert.AbIdeal.cfg0.N
    ∧ Cert.AbRefVal.o12 p = (Cert.AbIdeal.Gen.dats m 0 c).arrAt 12 Cert.AbIdeal.cfg0.N
    ∧ Cert.AbRefVal.o13 p = (Cert.AbIdeal.Gen.dats m 0 c).arrAt 13 Cert.AbIdeal.cfg0.N
    ∧ Cert.AbRefVal.o14 p = (Cert.AbIdeal.Gen.dats m 0 c).arrAt 14 Cert.AbIdeal.cfg0.N
    ∧ Cert.AbRefVal.o15 p = (Cert.AbIdeal.Gen.dats m 0 c).arrAt 15 Cert.AbIdeal.cfg0.N
    ∧ Cert.AbRefVal.o16 p = (Cert.AbIdeal.Gen.dats m 0 c).arrAt 16 Cert.AbIdeal.cfg0.N
    ∧ Cert.AbRefVal.o17 p = (Cert.AbIdeal.Gen.dats m 0 c).arrAt 17 Cert.AbIdeal.cfg0.N
    ∧ Cert.AbRefVal.o18 p = (Cert.AbIdeal.Gen.dats m 0 c).arrAt 18 Cert.AbIdeal.cfg0.N
    ∧ Cert.AbRefVal.o19 p = (Cert.AbIdeal.Gen.dats m 0 c).arrAt 19 Cert.AbIdeal.cfg0.N :=
  ⟨ext2 fun r l => (Cert.AbRefVal.o6_at _ r l).trans ((congrArg (fun f => f (Cert.Lin.col (0 + l.val))) (hP r)).trans (Cert.AbVal.res6 m c r l).symm),
    ext2 fun r l => (Cert.AbRefVal.o7_at _ r l).trans ((congrArg (fun f => f (Cert.Lin.col (256 + l.val))) (hP r)).trans (Cert.AbVal.res7 m c r l).symm),
    ext2 fun r l => (Cert.AbRefVal.o8_at _ r l).trans ((congrArg (fun f => f (Cert.Lin.col (512 + l.val))) (hP r)).trans (Cert.AbVal.res8 m c r l).symm),
    ext2 fun r l => (Cert.AbRefVal.o9_at _ r l).trans ((congrArg (fun f => Cert.Lin.heads (f) 768 0 l.val) (hP r)).trans (Cert.AbVal.res9 m c r l).symm),
    ext2 fun r l => (Cert.AbRefVal.o10_at _ r l).trans ((congrArg (fun f => Cert.Lin.heads (f) 1024 0 l.val) (hP r)).trans (Cert.AbVal.res10 m c r l).symm),
    ext2 fun r l => (Cert.AbRefVal.o11_at _ r l).trans ((congrArg (fun f => Cert.Lin.heads (f) 1280 1 l.val) (hP r)).trans (Cert.AbVal.res11 m c r l).symm),
    ext2 fun r l => (Cert.AbRefVal.o12_at _ r l).trans ((congrArg (fun f => f (Cert.Lin.col (1536 + l.val))) (hP r)).trans (Cert.AbVal.res12 m c r l).symm),
    ext2 fun r l => (Cert.AbRefVal.o13_at _ r l).trans ((congrArg (fun f => Cert.Lin.left (f) 1792 16 l.val) (hP r)).trans (Cert.AbVal.res13 m c r l).symm),
    ext2 fun r l => (Cert.AbRefVal.o14_at _ r l).trans ((congrArg (fun f => f (Cert.Lin.col (1808 + l.val))) (hP r)).trans (Cert.AbVal.res14 m c r l).symm),
    ext2 fun r l => (Cert.AbRefVal.o15_at _ r l).trans ((congrArg (fun f => f (Cert.Lin.col (2064 + l.val))) (hP r)).trans (Cert.AbVal.res15 m c r l).symm),
    ext2 fun r l => (Cert.AbRefVal.o16_at _ r l).trans ((congrArg (fun f => f (Cert.Lin.col (2192 + l.val))) (hP r)).trans (Cert.AbVal.res16 m c r l).symm),
    ext2 fun r l => (Cert.AbRefVal.o17_at _ r l).trans ((congrArg (fun f => Cert.Lin.left (f) 2320 192 l.val) (hP r)).trans (Cert.AbVal.res17 m c r l).symm),
    ext2 fun r l => (Cert.AbRefVal.o18_at _ r l).trans ((congrArg (fun f => f (Cert.Lin.col (2512 + l.val))) (hP r)).trans (Cert.AbVal.res18 m c r l).symm),
    ext2 fun r l => (Cert.AbRefVal.o19_at _ r l).trans ((congrArg (fun f => Cert.Lin.rope (f) l.val) (hP r)).trans (Cert.AbVal.res19 m c r l).symm)⟩

set_option maxHeartbeats 4000000 in
/-- The projection's kernel and its reference end with the same 14 arrays, in exact arithmetic. -/
theorem ab_value : algebraic_AbIdeal_AbRefIdeal := by
  intro m ρ m' ρ' _ hagree
  have hP : ∀ c r, (fun j => Cert.AbRefVal.memP m' c (ix2 r j)) = Cert.AbVal.P m c r := by
    intro c r
    obtain ⟨g0, g1, g2, g3, g4, g5⟩ := hagree c
    funext j
    unfold Cert.AbRefVal.memP
    rw [Cert.AbRefVal.refP_val, g0, g1, g2, g3, g4, g5]
    rfl
  refine ⟨_, _, _, _, _, _, _, _, _, _, _, _, _, _, Cert.AbIdeal.Value.run_blocks m ρ, ?_⟩
  refine (θ_run Cert.AbRefIdeal.defs _ _).mono (fun _ h c => ?_) (Cert.AbRefVal.runR m' ρ')
  obtain ⟨h6, h7, h8, h9, h10, h11, h12, h13, h14, h15, h16, h17, h18, h19, h⟩ := h c
  obtain ⟨s6, s7, s8, s9, s10, s11, s12, s13, s14, s15, s16, s17, s18, s19⟩ := ab_same m c _ (hP c)
  exact ⟨h6.trans s6, h7.trans s7, h8.trans s8, h9.trans s9, h10.trans s10, h11.trans s11, h12.trans s12, h13.trans s13, h14.trans s14, h15.trans s15, h16.trans s16, h17.trans s17, h18.trans s18, h19.trans s19, h⟩

theorem claim : Cert.Claim := ⟨Cert.Mla.Gen.facts, Cert.MlaIdeal.Gen.facts, Cert.MlaRefIdeal.Gen.facts, Cert.Gate.Gen.facts, Cert.GateIdeal.Gen.facts,
  Cert.GateRefIdeal.Gen.facts, Cert.Ab.Gen.facts, Cert.AbIdeal.Gen.facts, Cert.AbRefIdeal.Gen.facts, Cert.PreOpen.facts,
  fun m ρ _ => Cert.Mla.Gen.frame m ρ, fun m ρ _ => Cert.MlaIdeal.Gen.frame m ρ, fun m ρ _ => Cert.MlaIdeal.Gen.frame m ρ,
  mlaRef_frame, fun m ρ _ => mlaRef_frame m ρ trivial,
  fun m ρ _ => Cert.Gate.Gen.frame m ρ, fun m ρ _ => Cert.GateIdeal.Gen.frame m ρ, gateRef_frame,
  fun m ρ _ => Cert.Ab.Gen.frame m ρ, fun m ρ _ => Cert.AbIdeal.Gen.frame m ρ, abRef_frame,
  (trivial : preserves_Mla_MlaIdeal), mla_value, (trivial : preserves_Gate_GateIdeal), gate_value,
  (trivial : preserves_Ab_AbIdeal), ab_value⟩

end Cert.Proof

end
